-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v23_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_ReferenceIdeal (hReferenceIdeal := hReferenceIdeal) (hPre_tokens_in_range := hPre_tokens_in_range)
    ∧ preserves_Kernel_KernelIdeal
    ∧ algebraic_KernelIdeal_ReferenceIdeal (hKernelIdeal := hKernelIdeal) (hReferenceIdeal := hReferenceIdeal) (hPre_tokens_in_range := hPre_tokens_in_range)
-- ==== Pre_tokens_in_range.lean ====
abbrev S16x128 : Shape := ⟨2, ![16, 128]⟩
abbrev S32000x256 : Shape := ⟨2, ![32000, 256]⟩
abbrev S1536x256 : Shape := ⟨2, ![1536, 256]⟩
abbrev S1536 : Shape := ⟨1, ![1536]⟩
abbrev S1536x512 : Shape := ⟨2, ![1536, 512]⟩
abbrev S128x512 : Shape := ⟨2, ![128, 512]⟩
abbrev S128 : Shape := ⟨1, ![128]⟩
abbrev S512x128 : Shape := ⟨2, ![512, 128]⟩
abbrev S512 : Shape := ⟨1, ![512]⟩
abbrev S32000x512 : Shape := ⟨2, ![32000, 512]⟩
abbrev S32000 : Shape := ⟨1, ![32000]⟩
abbrev S_ : Shape := ⟨0, ![]⟩

class Facts : Prop where
  bcast_S_S16x128 : S_.BroadcastsInDim S16x128 (![] : Fin 0 → Fin S16x128.rank)

variable [Facts]

def fn {F : FTy → Type} [FloatOps F] (main_arg0 : IVec S16x128 32) (main_arg1 : FVec F S32000x256 .f32) (main_arg2 : FVec F S1536x256 .f32) (main_arg3 : FVec F S1536 .f32) (main_arg4 : FVec F S1536x512 .f32) (main_arg5 : FVec F S1536 .f32) (main_arg6 : FVec F S128x512 .f32) (main_arg7 : FVec F S128 .f32) (main_arg8 : FVec F S512x128 .f32) (main_arg9 : FVec F S512 .f32) (main_arg10 : FVec F S32000x256 .f32) (main_arg11 : FVec F S1536x256 .f32) (main_arg12 : FVec F S1536 .f32) (main_arg13 : FVec F S1536x512 .f32) (main_arg14 : FVec F S1536 .f32) (main_arg15 : FVec F S32000x512 .f32) (main_arg16 : FVec F S32000 .f32) : IVec S16x128 1 :=
  let main_c : IVec S_ 32 := constantI S_ 32 0#32
  let main_v0 : IVec S16x128 32 := broadcastInDim S16x128 ![] bcast_S_S16x128 main_c
  let main_v1 : IVec S16x128 1 := cmpi .sge main_arg0 main_v0
  let main_c_0 : IVec S_ 32 := constantI S_ 32 32000#32
  let main_v2 : IVec S16x128 32 := broadcastInDim S16x128 ![] bcast_S_S16x128 main_c_0
  let main_v3 : IVec S16x128 1 := cmpi .slt main_arg0 main_v2
  let main_v4 : IVec S16x128 1 := andi main_v1 main_v3
  main_v4
-- ==== Kernel.lean ====
abbrev S16x128 : Shape := ⟨2, ![16, 128]⟩
abbrev S32000x256 : Shape := ⟨2, ![32000, 256]⟩
abbrev S1536x256 : Shape := ⟨2, ![1536, 256]⟩
abbrev S1536 : Shape := ⟨1, ![1536]⟩
abbrev S1536x512 : Shape := ⟨2, ![1536, 512]⟩
abbrev S128x512 : Shape := ⟨2, ![128, 512]⟩
abbrev S128 : Shape := ⟨1, ![128]⟩
abbrev S512x128 : Shape := ⟨2, ![512, 128]⟩
abbrev S512 : Shape := ⟨1, ![512]⟩
abbrev S32000x512 : Shape := ⟨2, ![32000, 512]⟩
abbrev S32000 : Shape := ⟨1, ![32000]⟩
abbrev S128x16 : Shape := ⟨2, ![128, 16]⟩
abbrev S2048 : Shape := ⟨1, ![2048]⟩
abbrev S2048x256 : Shape := ⟨2, ![2048, 256]⟩
abbrev S_ : Shape := ⟨0, ![]⟩
abbrev S1 : Shape := ⟨1, ![1]⟩
abbrev S1x256 : Shape := ⟨2, ![1, 256]⟩
abbrev S256x1536 : Shape := ⟨2, ![256, 1536]⟩
abbrev S1x1536 : Shape := ⟨2, ![1, 1536]⟩
abbrev S512x1536 : Shape := ⟨2, ![512, 1536]⟩
abbrev S1x128 : Shape := ⟨2, ![1, 128]⟩
abbrev S1x512 : Shape := ⟨2, ![1, 512]⟩
abbrev S128x16x512 : Shape := ⟨3, ![128, 16, 512]⟩
abbrev S2048x1536 : Shape := ⟨2, ![2048, 1536]⟩
abbrev S128x256 : Shape := ⟨2, ![128, 256]⟩
abbrev S128x1536 : Shape := ⟨2, ![128, 1536]⟩
abbrev S16x512 : Shape := ⟨2, ![16, 512]⟩
abbrev S16x1536 : Shape := ⟨2, ![16, 1536]⟩
abbrev S1x16x512 : Shape := ⟨3, ![1, 16, 512]⟩
abbrev S16x128x512 : Shape := ⟨3, ![16, 128, 512]⟩
abbrev S2048x512 : Shape := ⟨2, ![2048, 512]⟩
abbrev S1x32000 : Shape := ⟨2, ![1, 32000]⟩
abbrev S2048x32000 : Shape := ⟨2, ![2048, 32000]⟩
abbrev S1024x512 : Shape := ⟨2, ![1024, 512]⟩
abbrev S3200x512 : Shape := ⟨2, ![3200, 512]⟩
abbrev S1x3200 : Shape := ⟨2, ![1, 3200]⟩
abbrev S1024x3200 : Shape := ⟨2, ![1024, 3200]⟩
abbrev S1024x1 : Shape := ⟨2, ![1024, 1]⟩
abbrev S16x128x32000 : Shape := ⟨3, ![16, 128, 32000]⟩

abbrev nBuf : Space → Nat
  | .hbm => 48
  | .vmem => 27
  | .smem => 1
  | _ => 0

abbrev bufTy : (tb : Table) → Fin (tcTables nBuf tb) → BufTy
  | .hbm, ⟨0, _⟩ => ⟨S16x128, .i32⟩
  | .hbm, ⟨1, _⟩ => ⟨S32000x256, .f32⟩
  | .hbm, ⟨2, _⟩ => ⟨S1536x256, .f32⟩
  | .hbm, ⟨3, _⟩ => ⟨S1536, .f32⟩
  | .hbm, ⟨4, _⟩ => ⟨S1536x512, .f32⟩
  | .hbm, ⟨5, _⟩ => ⟨S1536, .f32⟩
  | .hbm, ⟨6, _⟩ => ⟨S128x512, .f32⟩
  | .hbm, ⟨7, _⟩ => ⟨S128, .f32⟩
  | .hbm, ⟨8, _⟩ => ⟨S512x128, .f32⟩
  | .hbm, ⟨9, _⟩ => ⟨S512, .f32⟩
  | .hbm, ⟨10, _⟩ => ⟨S32000x256, .f32⟩
  | .hbm, ⟨11, _⟩ => ⟨S1536x256, .f32⟩
  | .hbm, ⟨12, _⟩ => ⟨S1536, .f32⟩
  | .hbm, ⟨13, _⟩ => ⟨S1536x512, .f32⟩
  | .hbm, ⟨14, _⟩ => ⟨S1536, .f32⟩
  | .hbm, ⟨15, _⟩ => ⟨S32000x512, .f32⟩
  | .hbm, ⟨16, _⟩ => ⟨S32000, .f32⟩
  | .hbm, ⟨17, _⟩ => ⟨S128x16, .i32⟩
  | .hbm, ⟨18, _⟩ => ⟨S2048, .i32⟩
  | .hbm, ⟨19, _⟩ => ⟨S2048x256, .f32⟩
  | .hbm, ⟨20, _⟩ => ⟨S2048x256, .f32⟩
  | .hbm, ⟨21, _⟩ => ⟨S2048x256, .bf16⟩
  | .hbm, ⟨22, _⟩ => ⟨S2048x256, .bf16⟩
  | .hbm, ⟨23, _⟩ => ⟨S256x1536, .f32⟩
  | .hbm, ⟨24, _⟩ => ⟨S256x1536, .bf16⟩
  | .hbm, ⟨25, _⟩ => ⟨S1x1536, .f32⟩
  | .hbm, ⟨26, _⟩ => ⟨S512x1536, .f32⟩
  | .hbm, ⟨27, _⟩ => ⟨S512x1536, .bf16⟩
  | .hbm, ⟨28, _⟩ => ⟨S1x1536, .f32⟩
  | .hbm, ⟨29, _⟩ => ⟨S512x128, .f32⟩
  | .hbm, ⟨30, _⟩ => ⟨S512x128, .bf16⟩
  | .hbm, ⟨31, _⟩ => ⟨S1x128, .f32⟩
  | .hbm, ⟨32, _⟩ => ⟨S128x512, .f32⟩
  | .hbm, ⟨33, _⟩ => ⟨S128x512, .bf16⟩
  | .hbm, ⟨34, _⟩ => ⟨S1x512, .f32⟩
  | .hbm, ⟨35, _⟩ => ⟨S256x1536, .f32⟩
  | .hbm, ⟨36, _⟩ => ⟨S256x1536, .bf16⟩
  | .hbm, ⟨37, _⟩ => ⟨S1x1536, .f32⟩
  | .hbm, ⟨38, _⟩ => ⟨S512x1536, .f32⟩
  | .hbm, ⟨39, _⟩ => ⟨S512x1536, .bf16⟩
  | .hbm, ⟨40, _⟩ => ⟨S1x1536, .f32⟩
  | .hbm, ⟨41, _⟩ => ⟨S16x128, .f32⟩
  | .hbm, ⟨42, _⟩ => ⟨S128x16x512, .bf16⟩
  | .hbm, ⟨43, _⟩ => ⟨S16x128x512, .bf16⟩
  | .hbm, ⟨44, _⟩ => ⟨S2048x512, .bf16⟩
  | .hbm, ⟨45, _⟩ => ⟨S1x32000, .f32⟩
  | .hbm, ⟨46, _⟩ => ⟨S2048x32000, .f32⟩
  | .hbm, ⟨47, _⟩ => ⟨S16x128x32000, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S256x1536, .bf16⟩
  | .local _ .vmem, ⟨5, _⟩ => ⟨S1x1536, .f32⟩
  | .local _ .vmem, ⟨6, _⟩ => ⟨S512x1536, .bf16⟩
  | .local _ .vmem, ⟨7, _⟩ => ⟨S1x1536, .f32⟩
  | .local _ .vmem, ⟨8, _⟩ => ⟨S512x128, .bf16⟩
  | .local _ .vmem, ⟨9, _⟩ => ⟨S1x128, .f32⟩
  | .local _ .vmem, ⟨10, _⟩ => ⟨S128x512, .bf16⟩
  | .local _ .vmem, ⟨11, _⟩ => ⟨S1x512, .f32⟩
  | .local _ .vmem, ⟨12, _⟩ => ⟨S256x1536, .bf16⟩
  | .local _ .vmem, ⟨13, _⟩ => ⟨S1x1536, .f32⟩
  | .local _ .vmem, ⟨14, _⟩ => ⟨S512x1536, .bf16⟩
  | .local _ .vmem, ⟨15, _⟩ => ⟨S1x1536, .f32⟩
  | .local _ .vmem, ⟨16, _⟩ => ⟨S16x128, .f32⟩
  | .local _ .vmem, ⟨17, _⟩ => ⟨S128x16x512, .bf16⟩
  | .local _ .vmem, ⟨18, _⟩ => ⟨S2048x1536, .f32⟩
  | .local _ .vmem, ⟨19, _⟩ => ⟨S1024x512, .bf16⟩
  | .local _ .vmem, ⟨20, _⟩ => ⟨S1024x512, .bf16⟩
  | .local _ .vmem, ⟨21, _⟩ => ⟨S3200x512, .f32⟩
  | .local _ .vmem, ⟨22, _⟩ => ⟨S3200x512, .f32⟩
  | .local _ .vmem, ⟨23, _⟩ => ⟨S1x3200, .f32⟩
  | .local _ .vmem, ⟨24, _⟩ => ⟨S1x3200, .f32⟩
  | .local _ .vmem, ⟨25, _⟩ => ⟨S1024x3200, .f32⟩
  | .local _ .vmem, ⟨26, _⟩ => ⟨S1024x3200, .f32⟩
  | .local _ .smem, ⟨0, _⟩ => ⟨S2048, .i32⟩
  | _, _ => ⟨S16x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2_0 : Ref sig .tc := ⟨.hbm, 19, rfl⟩
abbrev main_v2_1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg1_0 : Ref sig .tc := ⟨.vmem, 0, rfl⟩
abbrev cc0_stg2_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg14_0 : Ref sig .tc := ⟨.vmem, 16, rfl⟩
abbrev cc1_stg15_0 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19
abbrev cc1_sem15_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let c0_i32_4 : BitVec 32 := 0#32
  let v3 : BitVec 32 := Scalar.addi v2 c0_i32_4
  let v4 : Index := Scalar.indexCast v3
  ![v4.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let c0_i32_4 : BitVec 32 := 0#32
  let v3 : BitVec 32 := Scalar.addi v2 c0_i32_4
  let c0_i32_5 : BitVec 32 := 0#32
  ![v3.toNat, 0]
def k0_off3 (v5 : BitVec 32) : Fin 2 → Nat :=
  let c0_i32_6 : BitVec 32 := 0#32
  ![v5.toNat, 0]

def k0_chk1 (v5 : BitVec 32) : Prop :=
  (∀ a, (k0_off3 v5) a + S1x256.size a ≤ S32000x256.size a)
theorem k0_off3_inb : ∀ (v5 : BitVec 32) (k0_hw1 : k0_chk1 v5), ∀ a, (k0_off3 v5) a + S1x256.size a ≤ S32000x256.size a := fun v5 k0_hw1 => k0_hw1

def k0_off4 (k0_t1 : Fin k0_t1_loop.trips) (c0_i32_4 : BitVec 32) : Fin 2 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let v3 : BitVec 32 := Scalar.addi v2 c0_i32_4
  let c0_i32_7 : BitVec 32 := 0#32
  ![v3.toNat, 0]
def k0_off5 (k0_t1 : Fin k0_t1_loop.trips) : Fin 1 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let c1_i32_9 : BitVec 32 := 1#32
  let v10 : BitVec 32 := Scalar.addi v2 c1_i32_9
  let v11 : Index := Scalar.indexCast v10
  ![v11.toNat]
def k0_off6 (v12 : BitVec 32) : Fin 2 → Nat :=
  let c0_i32_11 : BitVec 32 := 0#32
  ![v12.toNat, 0]

def k0_chk2 (v12 : BitVec 32) : Prop :=
  (∀ a, (k0_off6 v12) a + S1x256.size a ≤ S32000x256.size a)
theorem k0_off6_inb : ∀ (v12 : BitVec 32) (k0_hw2 : k0_chk2 v12), ∀ a, (k0_off6 v12) a + S1x256.size a ≤ S32000x256.size a := fun v12 k0_hw2 => k0_hw2

def k0_off7 (k0_t1 : Fin k0_t1_loop.trips) (c1_i32_9 : BitVec 32) : Fin 2 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let v10 : BitVec 32 := Scalar.addi v2 c1_i32_9
  let c0_i32_12 : BitVec 32 := 0#32
  ![v10.toNat, 0]
def k0_off8 (k0_t1 : Fin k0_t1_loop.trips) : Fin 1 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let c2_i32 : BitVec 32 := 2#32
  let v17 : BitVec 32 := Scalar.addi v2 c2_i32
  let v18 : Index := Scalar.indexCast v17
  ![v18.toNat]
def k0_off9 (v19 : BitVec 32) : Fin 2 → Nat :=
  let c0_i32_15 : BitVec 32 := 0#32
  ![v19.toNat, 0]

def k0_chk3 (v19 : BitVec 32) : Prop :=
  (∀ a, (k0_off9 v19) a + S1x256.size a ≤ S32000x256.size a)
theorem k0_off9_inb : ∀ (v19 : BitVec 32) (k0_hw3 : k0_chk3 v19), ∀ a, (k0_off9 v19) a + S1x256.size a ≤ S32000x256.size a := fun v19 k0_hw3 => k0_hw3

def k0_off10 (k0_t1 : Fin k0_t1_loop.trips) (c2_i32 : BitVec 32) : Fin 2 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let v17 : BitVec 32 := Scalar.addi v2 c2_i32
  let c0_i32_16 : BitVec 32 := 0#32
  ![v17.toNat, 0]
def k0_off11 (k0_t1 : Fin k0_t1_loop.trips) : Fin 1 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let c3_i32 : BitVec 32 := 3#32
  let v24 : BitVec 32 := Scalar.addi v2 c3_i32
  let v25 : Index := Scalar.indexCast v24
  ![v25.toNat]
def k0_off12 (v26 : BitVec 32) : Fin 2 → Nat :=
  let c0_i32_19 : BitVec 32 := 0#32
  ![v26.toNat, 0]

def k0_chk4 (v26 : BitVec 32) : Prop :=
  (∀ a, (k0_off12 v26) a + S1x256.size a ≤ S32000x256.size a)
theorem k0_off12_inb : ∀ (v26 : BitVec 32) (k0_hw4 : k0_chk4 v26), ∀ a, (k0_off12 v26) a + S1x256.size a ≤ S32000x256.size a := fun v26 k0_hw4 => k0_hw4

def k0_off13 (k0_t1 : Fin k0_t1_loop.trips) (c3_i32 : BitVec 32) : Fin 2 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let v24 : BitVec 32 := Scalar.addi v2 c3_i32
  let c0_i32_20 : BitVec 32 := 0#32
  ![v24.toNat, 0]
def k0_off14 (k0_t1 : Fin k0_t1_loop.trips) : Fin 1 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let c4_i32 : BitVec 32 := 4#32
  let v31 : BitVec 32 := Scalar.addi v2 c4_i32
  let v32 : Index := Scalar.indexCast v31
  ![v32.toNat]
def k0_off15 (v33 : BitVec 32) : Fin 2 → Nat :=
  let c0_i32_23 : BitVec 32 := 0#32
  ![v33.toNat, 0]

def k0_chk5 (v33 : BitVec 32) : Prop :=
  (∀ a, (k0_off15 v33) a + S1x256.size a ≤ S32000x256.size a)
theorem k0_off15_inb : ∀ (v33 : BitVec 32) (k0_hw5 : k0_chk5 v33), ∀ a, (k0_off15 v33) a + S1x256.size a ≤ S32000x256.size a := fun v33 k0_hw5 => k0_hw5

def k0_off16 (k0_t1 : Fin k0_t1_loop.trips) (c4_i32 : BitVec 32) : Fin 2 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let v31 : BitVec 32 := Scalar.addi v2 c4_i32
  let c0_i32_24 : BitVec 32 := 0#32
  ![v31.toNat, 0]
def k0_off17 (k0_t1 : Fin k0_t1_loop.trips) : Fin 1 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let c5_i32 : BitVec 32 := 5#32
  let v38 : BitVec 32 := Scalar.addi v2 c5_i32
  let v39 : Index := Scalar.indexCast v38
  ![v39.toNat]
def k0_off18 (v40 : BitVec 32) : Fin 2 → Nat :=
  let c0_i32_27 : BitVec 32 := 0#32
  ![v40.toNat, 0]

def k0_chk6 (v40 : BitVec 32) : Prop :=
  (∀ a, (k0_off18 v40) a + S1x256.size a ≤ S32000x256.size a)
theorem k0_off18_inb : ∀ (v40 : BitVec 32) (k0_hw6 : k0_chk6 v40), ∀ a, (k0_off18 v40) a + S1x256.size a ≤ S32000x256.size a := fun v40 k0_hw6 => k0_hw6

def k0_off19 (k0_t1 : Fin k0_t1_loop.trips) (c5_i32 : BitVec 32) : Fin 2 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let v38 : BitVec 32 := Scalar.addi v2 c5_i32
  let c0_i32_28 : BitVec 32 := 0#32
  ![v38.toNat, 0]
def k0_off20 (k0_t1 : Fin k0_t1_loop.trips) : Fin 1 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let c6_i32 : BitVec 32 := 6#32
  let v45 : BitVec 32 := Scalar.addi v2 c6_i32
  let v46 : Index := Scalar.indexCast v45
  ![v46.toNat]
def k0_off21 (v47 : BitVec 32) : Fin 2 → Nat :=
  let c0_i32_31 : BitVec 32 := 0#32
  ![v47.toNat, 0]

def k0_chk7 (v47 : BitVec 32) : Prop :=
  (∀ a, (k0_off21 v47) a + S1x256.size a ≤ S32000x256.size a)
theorem k0_off21_inb : ∀ (v47 : BitVec 32) (k0_hw7 : k0_chk7 v47), ∀ a, (k0_off21 v47) a + S1x256.size a ≤ S32000x256.size a := fun v47 k0_hw7 => k0_hw7

def k0_off22 (k0_t1 : Fin k0_t1_loop.trips) (c6_i32 : BitVec 32) : Fin 2 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let v45 : BitVec 32 := Scalar.addi v2 c6_i32
  let c0_i32_32 : BitVec 32 := 0#32
  ![v45.toNat, 0]
def k0_off23 (k0_t1 : Fin k0_t1_loop.trips) : Fin 1 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let c7_i32 : BitVec 32 := 7#32
  let v52 : BitVec 32 := Scalar.addi v2 c7_i32
  let v53 : Index := Scalar.indexCast v52
  ![v53.toNat]
def k0_off24 (v54 : BitVec 32) : Fin 2 → Nat :=
  let c0_i32_35 : BitVec 32 := 0#32
  ![v54.toNat, 0]

def k0_chk8 (v54 : BitVec 32) : Prop :=
  (∀ a, (k0_off24 v54) a + S1x256.size a ≤ S32000x256.size a)
theorem k0_off24_inb : ∀ (v54 : BitVec 32) (k0_hw8 : k0_chk8 v54), ∀ a, (k0_off24 v54) a + S1x256.size a ≤ S32000x256.size a := fun v54 k0_hw8 => k0_hw8

def k0_off25 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32 : BitVec 32 := 8#32
  let v2 : BitVec 32 := Scalar.muli arg7 c8_i32
  let c7_i32 : BitVec 32 := 7#32
  let v52 : BitVec 32 := Scalar.addi v2 c7_i32
  let c0_i32_36 : BitVec 32 := 0#32
  ![v52.toNat, 0]
@[reducible] def k0_t2_loop : Scf.Loop 32 :=
  let c0_i32_1 : BitVec 32 := 0#32
  let c2048_i32 : BitVec 32 := 2048#32
  let v1 : BitVec 32 := Scalar.addi c0_i32_1 c2048_i32
  let c1_i32_2 : BitVec 32 := 1#32
  ⟨c0_i32_1, v1, c1_i32_2⟩
def k0_off26 (k0_t2 : Fin k0_t2_loop.trips) : Fin 2 → Nat :=
  let c0_i32_1 : BitVec 32 := 0#32
  let c1_i32_2 : BitVec 32 := 1#32
  let arg7 : BitVec 32 := Scf.iv c0_i32_1 c1_i32_2 k0_t2
  let c0_i32_4 : BitVec 32 := 0#32
  ![arg7.toNat, 0]
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c64_i32 : BitVec 32 := 64#32
  let v193 : BitVec 32 := Scalar.addi c0_i32 c64_i32
  let c1_i32 : BitVec 32 := 1#32
  ⟨c0_i32, v193, c1_i32⟩
def k1_mult1 (k1_t1 : Fin k1_t1_loop.trips) : BitVec 32 :=
  let c2_i32 : BitVec 32 := 2#32
  let c0_i32 : BitVec 32 := 0#32
  let c1_i32 : BitVec 32 := 1#32
  let arg17 : BitVec 32 := Scf.iv c0_i32 c1_i32 k1_t1
  let v444 : BitVec 32 := Scalar.muli c2_i32 arg17
  let c16_i32 : BitVec 32 := 16#32
  let v445 : BitVec 32 := Scalar.muli v444 c16_i32
  v445
def k1_off1 (k1_t1 : Fin k1_t1_loop.trips) : Fin 2 → Nat :=
  let c2_i32 : BitVec 32 := 2#32
  let c0_i32 : BitVec 32 := 0#32
  let c1_i32 : BitVec 32 := 1#32
  let arg17 : BitVec 32 := Scf.iv c0_i32 c1_i32 k1_t1
  let v444 : BitVec 32 := Scalar.muli c2_i32 arg17
  let c16_i32 : BitVec 32 := 16#32
  let v445 : BitVec 32 := Scalar.muli v444 c16_i32
  let v446 : BitVec 32 := v445
  let v447 : Index := Scalar.indexCast v446
  let c0_301 : Index := 0#32
  ![v447.toNat, 0]
def k1_mult2 (k1_t1 : Fin k1_t1_loop.trips) : BitVec 32 :=
  let c2_i32_308 : BitVec 32 := 2#32
  let c0_i32 : BitVec 32 := 0#32
  let c1_i32 : BitVec 32 := 1#32
  let arg17 : BitVec 32 := Scf.iv c0_i32 c1_i32 k1_t1
  let v475 : BitVec 32 := Scalar.muli c2_i32_308 arg17
  let c1_i32_309 : BitVec 32 := 1#32
  let v476 : BitVec 32 := Scalar.addi v475 c1_i32_309
  let c16_i32_310 : BitVec 32 := 16#32
  let v477 : BitVec 32 := Scalar.muli v476 c16_i32_310
  v477
def k1_off2 (k1_t1 : Fin k1_t1_loop.trips) : Fin 2 → Nat :=
  let c2_i32_308 : BitVec 32 := 2#32
  let c0_i32 : BitVec 32 := 0#32
  let c1_i32 : BitVec 32 := 1#32
  let arg17 : BitVec 32 := Scf.iv c0_i32 c1_i32 k1_t1
  let v475 : BitVec 32 := Scalar.muli c2_i32_308 arg17
  let c1_i32_309 : BitVec 32 := 1#32
  let v476 : BitVec 32 := Scalar.addi v475 c1_i32_309
  let c16_i32_310 : BitVec 32 := 16#32
  let v477 : BitVec 32 := Scalar.muli v476 c16_i32_310
  let v478 : BitVec 32 := v477
  let v479 : Index := Scalar.indexCast v478
  let c0_311 : Index := 0#32
  ![v479.toNat, 0]
@[reducible] def k1_t2_loop : Scf.Loop 32 :=
  let c0_i32_289 : BitVec 32 := 0#32
  let c63_i32 : BitVec 32 := 63#32
  let v409 : BitVec 32 := Scalar.addi c0_i32_289 c63_i32
  let c1_i32_290 : BitVec 32 := 1#32
  ⟨c0_i32_289, v409, c1_i32_290⟩
def k1_mult3 (k1_t2 : Fin k1_t2_loop.trips) : BitVec 32 :=
  let c2_i32 : BitVec 32 := 2#32
  let c0_i32_289 : BitVec 32 := 0#32
  let c1_i32_290 : BitVec 32 := 1#32
  let arg17 : BitVec 32 := Scf.iv c0_i32_289 c1_i32_290 k1_t2
  let v444 : BitVec 32 := Scalar.muli c2_i32 arg17
  let c16_i32 : BitVec 32 := 16#32
  let v445 : BitVec 32 := Scalar.muli v444 c16_i32
  v445
def k1_off3 (k1_t2 : Fin k1_t2_loop.trips) : Fin 2 → Nat :=
  let c2_i32 : BitVec 32 := 2#32
  let c0_i32_289 : BitVec 32 := 0#32
  let c1_i32_290 : BitVec 32 := 1#32
  let arg17 : BitVec 32 := Scf.iv c0_i32_289 c1_i32_290 k1_t2
  let v444 : BitVec 32 := Scalar.muli c2_i32 arg17
  let c16_i32 : BitVec 32 := 16#32
  let v445 : BitVec 32 := Scalar.muli v444 c16_i32
  let v446 : BitVec 32 := v445
  let v447 : Index := Scalar.indexCast v446
  let c0_301 : Index := 0#32
  ![v447.toNat, 0]
def k1_off4 (k1_t2 : Fin k1_t2_loop.trips) : Fin 3 → Nat :=
  let c2_i32 : BitVec 32 := 2#32
  let c0_i32_289 : BitVec 32 := 0#32
  let c1_i32_290 : BitVec 32 := 1#32
  let arg17 : BitVec 32 := Scf.iv c0_i32_289 c1_i32_290 k1_t2
  let v444 : BitVec 32 := Scalar.muli c2_i32 arg17
  let c1_i32_308 : BitVec 32 := 1#32
  let v476 : BitVec 32 := Scalar.addi v444 c1_i32_308
  let v477 : Index := Scalar.indexCast v476
  let c0_309 : Index := 0#32
  let c0_310 : Index := 0#32
  ![v477.toNat, 0, 0]
def k1_mult4 (k1_t2 : Fin k1_t2_loop.trips) : BitVec 32 :=
  let c2_i32_311 : BitVec 32 := 2#32
  let c0_i32_289 : BitVec 32 := 0#32
  let c1_i32_290 : BitVec 32 := 1#32
  let arg17 : BitVec 32 := Scf.iv c0_i32_289 c1_i32_290 k1_t2
  let v481 : BitVec 32 := Scalar.muli c2_i32_311 arg17
  let c1_i32_312 : BitVec 32 := 1#32
  let v482 : BitVec 32 := Scalar.addi v481 c1_i32_312
  let c16_i32_313 : BitVec 32 := 16#32
  let v483 : BitVec 32 := Scalar.muli v482 c16_i32_313
  v483
def k1_off5 (k1_t2 : Fin k1_t2_loop.trips) : Fin 2 → Nat :=
  let c2_i32_311 : BitVec 32 := 2#32
  let c0_i32_289 : BitVec 32 := 0#32
  let c1_i32_290 : BitVec 32 := 1#32
  let arg17 : BitVec 32 := Scf.iv c0_i32_289 c1_i32_290 k1_t2
  let v481 : BitVec 32 := Scalar.muli c2_i32_311 arg17
  let c1_i32_312 : BitVec 32 := 1#32
  let v482 : BitVec 32 := Scalar.addi v481 c1_i32_312
  let c16_i32_313 : BitVec 32 := 16#32
  let v483 : BitVec 32 := Scalar.muli v482 c16_i32_313
  let v484 : BitVec 32 := v483
  let v485 : Index := Scalar.indexCast v484
  let c0_314 : Index := 0#32
  ![v485.toNat, 0]
def k1_off6 (k1_t2 : Fin k1_t2_loop.trips) : Fin 3 → Nat :=
  let c2_i32_311 : BitVec 32 := 2#32
  let c0_i32_289 : BitVec 32 := 0#32
  let c1_i32_290 : BitVec 32 := 1#32
  let arg17 : BitVec 32 := Scf.iv c0_i32_289 c1_i32_290 k1_t2
  let v481 : BitVec 32 := Scalar.muli c2_i32_311 arg17
  let c1_i32_312 : BitVec 32 := 1#32
  let v482 : BitVec 32 := Scalar.addi v481 c1_i32_312
  let c1_i32_321 : BitVec 32 := 1#32
  let v514 : BitVec 32 := Scalar.addi v482 c1_i32_321
  let v515 : Index := Scalar.indexCast v514
  let c0_322 : Index := 0#32
  let c0_323 : Index := 0#32
  ![v515.toNat, 0, 0]
def k1_mult5 : BitVec 32 :=
  let c2016_i32 : BitVec 32 := 2016#32
  c2016_i32
abbrev stage1_0 : Fin 1 → Memref sig .tc .vmem S2048x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1536 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x1536 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S256x1536 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x1536 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S512x1536 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S1x1536 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S16x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S128x16x512 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev grid2 : Pipeline.Grid := ⟨2, ![10, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S3200x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S16x128 : Shape := ⟨2, ![16, 128]⟩
abbrev S32000x256 : Shape := ⟨2, ![32000, 256]⟩
abbrev S1536x256 : Shape := ⟨2, ![1536, 256]⟩
abbrev S1536 : Shape := ⟨1, ![1536]⟩
abbrev S1536x512 : Shape := ⟨2, ![1536, 512]⟩
abbrev S128x512 : Shape := ⟨2, ![128, 512]⟩
abbrev S128 : Shape := ⟨1, ![128]⟩
abbrev S512x128 : Shape := ⟨2, ![512, 128]⟩
abbrev S512 : Shape := ⟨1, ![512]⟩
abbrev S32000x512 : Shape := ⟨2, ![32000, 512]⟩
abbrev S32000 : Shape := ⟨1, ![32000]⟩
abbrev S_ : Shape := ⟨0, ![]⟩
abbrev S16x128x1 : Shape := ⟨3, ![16, 128, 1]⟩
abbrev S16x128x256 : Shape := ⟨3, ![16, 128, 256]⟩
abbrev S128x16x256 : Shape := ⟨3, ![128, 16, 256]⟩
abbrev S16x512 : Shape := ⟨2, ![16, 512]⟩
abbrev S128x16x1536 : Shape := ⟨3, ![128, 16, 1536]⟩
abbrev S1x1x1536 : Shape := ⟨3, ![1, 1, 1536]⟩
abbrev S128x16x512 : Shape := ⟨3, ![128, 16, 512]⟩
abbrev S1x16x1536 : Shape := ⟨3, ![1, 16, 1536]⟩
abbrev S16x1536 : Shape := ⟨2, ![16, 1536]⟩
abbrev S512x1536 : Shape := ⟨2, ![512, 1536]⟩
abbrev S1x1536 : Shape := ⟨2, ![1, 1536]⟩
abbrev S1x16x512 : Shape := ⟨3, ![1, 16, 512]⟩
abbrev S1x128 : Shape := ⟨2, ![1, 128]⟩
abbrev S1x512 : Shape := ⟨2, ![1, 512]⟩
abbrev S16x127 : Shape := ⟨2, ![16, 127]⟩
abbrev S16x127x1 : Shape := ⟨3, ![16, 127, 1]⟩
abbrev S16x127x256 : Shape := ⟨3, ![16, 127, 256]⟩
abbrev S127x16x256 : Shape := ⟨3, ![127, 16, 256]⟩
abbrev S127x16x1536 : Shape := ⟨3, ![127, 16, 1536]⟩
abbrev S127x16x512 : Shape := ⟨3, ![127, 16, 512]⟩
abbrev S32000x127x16 : Shape := ⟨3, ![32000, 127, 16]⟩
abbrev S16x127x32000 : Shape := ⟨3, ![16, 127, 32000]⟩
abbrev S1x1x32000 : Shape := ⟨3, ![1, 1, 32000]⟩
abbrev S16x128x32000 : Shape := ⟨3, ![16, 128, 32000]⟩
abbrev S1 : Shape := ⟨1, ![1]⟩

abbrev nBuf : Space → Nat
  | .hbm => 187
  | .vmem => 0
  | .smem => 0
  | _ => 0

abbrev hbmTy0_0 (i : Nat) : BufTy := match i % 128 with
  | 0 => ⟨S16x128, .i32⟩
  | 1 => ⟨S32000x256, .f32⟩
  | 2 => ⟨S1536x256, .f32⟩
  | 3 => ⟨S1536, .f32⟩
  | 4 => ⟨S1536x512, .f32⟩
  | 5 => ⟨S1536, .f32⟩
  | 6 => ⟨S128x512, .f32⟩
  | 7 => ⟨S128, .f32⟩
  | 8 => ⟨S512x128, .f32⟩
  | 9 => ⟨S512, .f32⟩
  | 10 => ⟨S32000x256, .f32⟩
  | 11 => ⟨S1536x256, .f32⟩
  | 12 => ⟨S1536, .f32⟩
  | 13 => ⟨S1536x512, .f32⟩
  | 14 => ⟨S1536, .f32⟩
  | 15 => ⟨S32000x512, .f32⟩
  | 16 => ⟨S32000, .f32⟩
  | 17 => ⟨S_, .i32⟩
  | 18 => ⟨S16x128, .i32⟩
  | 19 => ⟨S16x128, .i1⟩
  | 20 => ⟨S_, .i32⟩
  | 21 => ⟨S16x128, .i32⟩
  | 22 => ⟨S16x128, .i32⟩
  | 23 => ⟨S16x128, .i32⟩
  | 24 => ⟨S16x128x1, .i32⟩
  | 25 => ⟨S16x128x256, .f32⟩
  | 26 => ⟨S128x16x256, .f32⟩
  | 27 => ⟨S_, .f32⟩
  | 28 => ⟨S16x512, .f32⟩
  | 29 => ⟨S128x16x1536, .f32⟩
  | 30 => ⟨S1x1x1536, .f32⟩
  | 31 => ⟨S128x16x1536, .f32⟩
  | 32 => ⟨S128x16x1536, .f32⟩
  | 33 => ⟨S_, .f32⟩
  | 34 => ⟨S128x16x512, .f32⟩
  | 35 => ⟨S_, .i32⟩
  | 36 => ⟨S128x16x1536, .f32⟩
  | 37 => ⟨S1536x512, .f32⟩
  | 38 => ⟨S1536, .f32⟩
  | 39 => ⟨S_, .i32⟩
  | 40 => ⟨S16x512, .f32⟩
  | 41 => ⟨S128x16x512, .f32⟩
  | 42 => ⟨S_, .i32⟩
  | 43 => ⟨S_, .i1⟩
  | 44 => ⟨S_, .i32⟩
  | 45 => ⟨S_, .i32⟩
  | 46 => ⟨S1x16x1536, .f32⟩
  | 47 => ⟨S16x1536, .f32⟩
  | 48 => ⟨S512x1536, .f32⟩
  | 49 => ⟨S16x1536, .f32⟩
  | 50 => ⟨S1x1536, .f32⟩
  | 51 => ⟨S16x1536, .f32⟩
  | 52 => ⟨S16x1536, .f32⟩
  | 53 => ⟨S16x512, .f32⟩
  | 54 => ⟨S16x512, .f32⟩
  | 55 => ⟨S16x512, .f32⟩
  | 56 => ⟨S16x512, .f32⟩
  | 57 => ⟨S16x512, .f32⟩
  | 58 => ⟨S16x512, .f32⟩
  | 59 => ⟨S16x512, .f32⟩
  | 60 => ⟨S16x512, .f32⟩
  | 61 => ⟨S16x512, .f32⟩
  | 62 => ⟨S_, .f32⟩
  | 63 => ⟨S16x512, .f32⟩
  | 64 => ⟨S16x512, .f32⟩
  | 65 => ⟨S_, .f32⟩
  | 66 => ⟨S16x512, .f32⟩
  | 67 => ⟨S16x512, .f32⟩
  | 68 => ⟨S16x512, .f32⟩
  | 69 => ⟨S16x512, .f32⟩
  | 70 => ⟨S16x512, .f32⟩
  | 71 => ⟨S_, .f32⟩
  | 72 => ⟨S16x512, .f32⟩
  | 73 => ⟨S16x512, .f32⟩
  | 74 => ⟨S_, .f32⟩
  | 75 => ⟨S16x512, .f32⟩
  | 76 => ⟨S16x512, .f32⟩
  | 77 => ⟨S16x512, .f32⟩
  | 78 => ⟨S16x512, .f32⟩
  | 79 => ⟨S16x512, .f32⟩
  | 80 => ⟨S_, .f32⟩
  | 81 => ⟨S16x512, .f32⟩
  | 82 => ⟨S16x512, .f32⟩
  | 83 => ⟨S16x512, .f32⟩
  | 84 => ⟨S16x512, .f32⟩
  | 85 => ⟨S16x512, .f32⟩
  | 86 => ⟨S1x16x512, .f32⟩
  | 87 => ⟨S_, .i32⟩
  | 88 => ⟨S_, .i32⟩
  | 89 => ⟨S128x16x512, .f32⟩
  | 90 => ⟨S_, .i32⟩
  | 91 => ⟨S_, .i32⟩
  | 92 => ⟨S512x128, .f32⟩
  | 93 => ⟨S16x128, .f32⟩
  | 94 => ⟨S1x128, .f32⟩
  | 95 => ⟨S16x128, .f32⟩
  | 96 => ⟨S16x128, .f32⟩
  | 97 => ⟨S128x512, .f32⟩
  | 98 => ⟨S16x512, .f32⟩
  | 99 => ⟨S1x512, .f32⟩
  | 100 => ⟨S16x512, .f32⟩
  | 101 => ⟨S16x512, .f32⟩
  | 102 => ⟨S16x512, .f32⟩
  | 103 => ⟨S16x127, .i32⟩
  | 104 => ⟨S_, .i32⟩
  | 105 => ⟨S16x127, .i32⟩
  | 106 => ⟨S16x127, .i1⟩
  | 107 => ⟨S_, .i32⟩
  | 108 => ⟨S16x127, .i32⟩
  | 109 => ⟨S16x127, .i32⟩
  | 110 => ⟨S16x127, .i32⟩
  | 111 => ⟨S16x127x1, .i32⟩
  | 112 => ⟨S16x127x256, .f32⟩
  | 113 => ⟨S127x16x256, .f32⟩
  | 114 => ⟨S127x16x1536, .f32⟩
  | 115 => ⟨S1x1x1536, .f32⟩
  | 116 => ⟨S127x16x1536, .f32⟩
  | 117 => ⟨S127x16x1536, .f32⟩
  | 118 => ⟨S_, .f32⟩
  | 119 => ⟨S127x16x512, .f32⟩
  | 120 => ⟨S_, .i32⟩
  | 121 => ⟨S127x16x1536, .f32⟩
  | 122 => ⟨S1536x512, .f32⟩
  | 123 => ⟨S1536, .f32⟩
  | 124 => ⟨S_, .i32⟩
  | 125 => ⟨S16x512, .f32⟩
  | 126 => ⟨S127x16x512, .f32⟩
  | 127 => ⟨S_, .i32⟩
  | _ => ⟨S16x128, .i32⟩

abbrev hbmTy0_1 (i : Nat) : BufTy := match i % 128 with
  | 0 => ⟨S_, .i1⟩
  | 1 => ⟨S_, .i32⟩
  | 2 => ⟨S_, .i32⟩
  | 3 => ⟨S1x16x1536, .f32⟩
  | 4 => ⟨S16x1536, .f32⟩
  | 5 => ⟨S512x1536, .f32⟩
  | 6 => ⟨S16x1536, .f32⟩
  | 7 => ⟨S1x1536, .f32⟩
  | 8 => ⟨S16x1536, .f32⟩
  | 9 => ⟨S16x1536, .f32⟩
  | 10 => ⟨S16x512, .f32⟩
  | 11 => ⟨S16x512, .f32⟩
  | 12 => ⟨S16x512, .f32⟩
  | 13 => ⟨S16x512, .f32⟩
  | 14 => ⟨S16x512, .f32⟩
  | 15 => ⟨S16x512, .f32⟩
  | 16 => ⟨S16x512, .f32⟩
  | 17 => ⟨S16x512, .f32⟩
  | 18 => ⟨S16x512, .f32⟩
  | 19 => ⟨S_, .f32⟩
  | 20 => ⟨S16x512, .f32⟩
  | 21 => ⟨S16x512, .f32⟩
  | 22 => ⟨S_, .f32⟩
  | 23 => ⟨S16x512, .f32⟩
  | 24 => ⟨S16x512, .f32⟩
  | 25 => ⟨S16x512, .f32⟩
  | 26 => ⟨S16x512, .f32⟩
  | 27 => ⟨S16x512, .f32⟩
  | 28 => ⟨S_, .f32⟩
  | 29 => ⟨S16x512, .f32⟩
  | 30 => ⟨S16x512, .f32⟩
  | 31 => ⟨S_, .f32⟩
  | 32 => ⟨S16x512, .f32⟩
  | 33 => ⟨S16x512, .f32⟩
  | 34 => ⟨S16x512, .f32⟩
  | 35 => ⟨S16x512, .f32⟩
  | 36 => ⟨S16x512, .f32⟩
  | 37 => ⟨S_, .f32⟩
  | 38 => ⟨S16x512, .f32⟩
  | 39 => ⟨S16x512, .f32⟩
  | 40 => ⟨S16x512, .f32⟩
  | 41 => ⟨S16x512, .f32⟩
  | 42 => ⟨S16x512, .f32⟩
  | 43 => ⟨S1x16x512, .f32⟩
  | 44 => ⟨S_, .i32⟩
  | 45 => ⟨S_, .i32⟩
  | 46 => ⟨S127x16x512, .f32⟩
  | 47 => ⟨S_, .i32⟩
  | 48 => ⟨S_, .i32⟩
  | 49 => ⟨S32000x127x16, .f32⟩
  | 50 => ⟨S16x127x32000, .f32⟩
  | 51 => ⟨S1x1x32000, .f32⟩
  | 52 => ⟨S16x127x32000, .f32⟩
  | 53 => ⟨S16x127x32000, .f32⟩
  | 54 => ⟨S_, .f32⟩
  | 55 => ⟨S16x128x32000, .f32⟩
  | 56 => ⟨S_, .i32⟩
  | 57 => ⟨S1, .i32⟩
  | 58 => ⟨S16x128x32000, .f32⟩
  | _ => ⟨S16x128, .i32⟩

abbrev hbmTy (i : Nat) : BufTy := match i / 128 with
  | 0 => hbmTy0_0 i
  | 1 => hbmTy0_1 i
  | _ => ⟨S16x128, .i32⟩

abbrev bufTy : (tb : Table) → Fin (tcTables nBuf tb) → BufTy
  | .hbm, ⟨i, _⟩ => hbmTy i
  | _, _ => ⟨S16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_c_2 : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v14_3 : Ref sig .tc := ⟨.hbm, 39, rfl⟩
abbrev main_v14_4 : Ref sig .tc := ⟨.hbm, 40, rfl⟩
abbrev main_v14_5 : Ref sig .tc := ⟨.hbm, 41, rfl⟩
abbrev main_while0c_c_14 : Ref sig .tc := ⟨.hbm, 42, rfl⟩
abbrev main_while0c_v49 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_v0 : Ref sig .tc := ⟨.hbm, 46, rfl⟩
abbrev main_while0b_v49 : Ref sig .tc := ⟨.hbm, 47, rfl⟩
abbrev main_while0b_v50 : Ref sig .tc := ⟨.hbm, 48, rfl⟩
abbrev main_while0b_v51 : Ref sig .tc := ⟨.hbm, 49, rfl⟩
abbrev main_while0b_v52 : Ref sig .tc := ⟨.hbm, 50, rfl⟩
abbrev main_while0b_v53 : Ref sig .tc := ⟨.hbm, 51, rfl⟩
abbrev main_while0b_v54 : Ref sig .tc := ⟨.hbm, 52, rfl⟩
abbrev main_while0b_v55 : Ref sig .tc := ⟨.hbm, 53, rfl⟩
abbrev main_while0b_v56 : Ref sig .tc := ⟨.hbm, 54, rfl⟩
abbrev main_while0b_v57 : Ref sig .tc := ⟨.hbm, 55, rfl⟩
abbrev main_while0b_v58 : Ref sig .tc := ⟨.hbm, 56, rfl⟩
abbrev main_while0b_v59 : Ref sig .tc := ⟨.hbm, 57, rfl⟩
abbrev main_while0b_v60 : Ref sig .tc := ⟨.hbm, 58, rfl⟩
abbrev main_while0b_v61 : Ref sig .tc := ⟨.hbm, 59, rfl⟩
abbrev main_while0b_v62 : Ref sig .tc := ⟨.hbm, 60, rfl⟩
abbrev main_while0b_v63 : Ref sig .tc := ⟨.hbm, 61, rfl⟩
abbrev main_while0b_cst_14 : Ref sig .tc := ⟨.hbm, 62, rfl⟩
abbrev main_while0b_v64 : Ref sig .tc := ⟨.hbm, 63, rfl⟩
abbrev main_while0b_v65 : Ref sig .tc := ⟨.hbm, 64, rfl⟩
abbrev main_while0b_cst_15 : Ref sig .tc := ⟨.hbm, 65, rfl⟩
abbrev main_while0b_v66 : Ref sig .tc := ⟨.hbm, 66, rfl⟩
abbrev main_while0b_v67 : Ref sig .tc := ⟨.hbm, 67, rfl⟩
abbrev main_while0b_v68 : Ref sig .tc := ⟨.hbm, 68, rfl⟩
abbrev main_while0b_v69 : Ref sig .tc := ⟨.hbm, 69, rfl⟩
abbrev main_while0b_v70 : Ref sig .tc := ⟨.hbm, 70, rfl⟩
abbrev main_while0b_cst_16 : Ref sig .tc := ⟨.hbm, 71, rfl⟩
abbrev main_while0b_v71 : Ref sig .tc := ⟨.hbm, 72, rfl⟩
abbrev main_while0b_v72 : Ref sig .tc := ⟨.hbm, 73, rfl⟩
abbrev main_while0b_cst_17 : Ref sig .tc := ⟨.hbm, 74, rfl⟩
abbrev main_while0b_v73 : Ref sig .tc := ⟨.hbm, 75, rfl⟩
abbrev main_while0b_v74 : Ref sig .tc := ⟨.hbm, 76, rfl⟩
abbrev main_while0b_v75 : Ref sig .tc := ⟨.hbm, 77, rfl⟩
abbrev main_while0b_v76 : Ref sig .tc := ⟨.hbm, 78, rfl⟩
abbrev main_while0b_v77 : Ref sig .tc := ⟨.hbm, 79, rfl⟩
abbrev main_while0b_cst_18 : Ref sig .tc := ⟨.hbm, 80, rfl⟩
abbrev main_while0b_v78 : Ref sig .tc := ⟨.hbm, 81, rfl⟩
abbrev main_while0b_v79 : Ref sig .tc := ⟨.hbm, 82, rfl⟩
abbrev main_while0b_v80 : Ref sig .tc := ⟨.hbm, 83, rfl⟩
abbrev main_while0b_v81 : Ref sig .tc := ⟨.hbm, 84, rfl⟩
abbrev main_while0b_v82 : Ref sig .tc := ⟨.hbm, 85, rfl⟩
abbrev main_while0b_call1_v0 : Ref sig .tc := ⟨.hbm, 86, rfl⟩
abbrev main_while0b_call1_c : Ref sig .tc := ⟨.hbm, 87, rfl⟩
abbrev main_while0b_call1_c_0 : Ref sig .tc := ⟨.hbm, 88, rfl⟩
abbrev main_while0b_v83 : Ref sig .tc := ⟨.hbm, 89, rfl⟩
abbrev main_while0b_c_19 : Ref sig .tc := ⟨.hbm, 90, rfl⟩
abbrev main_while0b_v84 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_c_3 : Ref sig .tc := ⟨.hbm, 104, rfl⟩
abbrev main_v27 : Ref sig .tc := ⟨.hbm, 105, rfl⟩
abbrev main_v28 : Ref sig .tc := ⟨.hbm, 106, rfl⟩
abbrev main_c_4 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_cst_5 : Ref sig .tc := ⟨.hbm, 118, rfl⟩
abbrev main_v39 : Ref sig .tc := ⟨.hbm, 119, rfl⟩
abbrev main_c_6 : Ref sig .tc := ⟨.hbm, 120, rfl⟩
abbrev main_v40_0 : Ref sig .tc := ⟨.hbm, 121, rfl⟩
abbrev main_v40_1 : Ref sig .tc := ⟨.hbm, 122, rfl⟩
abbrev main_v40_2 : Ref sig .tc := ⟨.hbm, 123, rfl⟩
abbrev main_v40_3 : Ref sig .tc := ⟨.hbm, 124, rfl⟩
abbrev main_v40_4 : Ref sig .tc := ⟨.hbm, 125, rfl⟩
abbrev main_v40_5 : Ref sig .tc := ⟨.hbm, 126, rfl⟩
abbrev main_while1c_c_14 : Ref sig .tc := ⟨.hbm, 127, rfl⟩
abbrev main_while1c_v49 : Ref sig .tc := ⟨.hbm, 128, rfl⟩
abbrev main_while1b_call2_c : Ref sig .tc := ⟨.hbm, 129, rfl⟩
abbrev main_while1b_call2_c_0 : Ref sig .tc := ⟨.hbm, 130, rfl⟩
abbrev main_while1b_call2_v0 : Ref sig .tc := ⟨.hbm, 131, rfl⟩
abbrev main_while1b_v49 : Ref sig .tc := ⟨.hbm, 132, rfl⟩
abbrev main_while1b_v50 : Ref sig .tc := ⟨.hbm, 133, rfl⟩
abbrev main_while1b_v51 : Ref sig .tc := ⟨.hbm, 134, rfl⟩
abbrev main_while1b_v52 : Ref sig .tc := ⟨.hbm, 135, rfl⟩
abbrev main_while1b_v53 : Ref sig .tc := ⟨.hbm, 136, rfl⟩
abbrev main_while1b_v54 : Ref sig .tc := ⟨.hbm, 137, rfl⟩
abbrev main_while1b_v55 : Ref sig .tc := ⟨.hbm, 138, rfl⟩
abbrev main_while1b_v56 : Ref sig .tc := ⟨.hbm, 139, rfl⟩
abbrev main_while1b_v57 : Ref sig .tc := ⟨.hbm, 140, rfl⟩
abbrev main_while1b_v58 : Ref sig .tc := ⟨.hbm, 141, rfl⟩
abbrev main_while1b_v59 : Ref sig .tc := ⟨.hbm, 142, rfl⟩
abbrev main_while1b_v60 : Ref sig .tc := ⟨.hbm, 143, rfl⟩
abbrev main_while1b_v61 : Ref sig .tc := ⟨.hbm, 144, rfl⟩
abbrev main_while1b_v62 : Ref sig .tc := ⟨.hbm, 145, rfl⟩
abbrev main_while1b_v63 : Ref sig .tc := ⟨.hbm, 146, rfl⟩
abbrev main_while1b_cst_14 : Ref sig .tc := ⟨.hbm, 147, rfl⟩
abbrev main_while1b_v64 : Ref sig .tc := ⟨.hbm, 148, rfl⟩
abbrev main_while1b_v65 : Ref sig .tc := ⟨.hbm, 149, rfl⟩
abbrev main_while1b_cst_15 : Ref sig .tc := ⟨.hbm, 150, rfl⟩
abbrev main_while1b_v66 : Ref sig .tc := ⟨.hbm, 151, rfl⟩
abbrev main_while1b_v67 : Ref sig .tc := ⟨.hbm, 152, rfl⟩
abbrev main_while1b_v68 : Ref sig .tc := ⟨.hbm, 153, rfl⟩
abbrev main_while1b_v69 : Ref sig .tc := ⟨.hbm, 154, rfl⟩
abbrev main_while1b_v70 : Ref sig .tc := ⟨.hbm, 155, rfl⟩
abbrev main_while1b_cst_16 : Ref sig .tc := ⟨.hbm, 156, rfl⟩
abbrev main_while1b_v71 : Ref sig .tc := ⟨.hbm, 157, rfl⟩
abbrev main_while1b_v72 : Ref sig .tc := ⟨.hbm, 158, rfl⟩
abbrev main_while1b_cst_17 : Ref sig .tc := ⟨.hbm, 159, rfl⟩
abbrev main_while1b_v73 : Ref sig .tc := ⟨.hbm, 160, rfl⟩
abbrev main_while1b_v74 : Ref sig .tc := ⟨.hbm, 161, rfl⟩
abbrev main_while1b_v75 : Ref sig .tc := ⟨.hbm, 162, rfl⟩
abbrev main_while1b_v76 : Ref sig .tc := ⟨.hbm, 163, rfl⟩
abbrev main_while1b_v77 : Ref sig .tc := ⟨.hbm, 164, rfl⟩
abbrev main_while1b_cst_18 : Ref sig .tc := ⟨.hbm, 165, rfl⟩
abbrev main_while1b_v78 : Ref sig .tc := ⟨.hbm, 166, rfl⟩
abbrev main_while1b_v79 : Ref sig .tc := ⟨.hbm, 167, rfl⟩
abbrev main_while1b_v80 : Ref sig .tc := ⟨.hbm, 168, rfl⟩
abbrev main_while1b_v81 : Ref sig .tc := ⟨.hbm, 169, rfl⟩
abbrev main_while1b_v82 : Ref sig .tc := ⟨.hbm, 170, rfl⟩
abbrev main_while1b_call3_v0 : Ref sig .tc := ⟨.hbm, 171, rfl⟩
abbrev main_while1b_call3_c : Ref sig .tc := ⟨.hbm, 172, rfl⟩
abbrev main_while1b_call3_c_0 : Ref sig .tc := ⟨.hbm, 173, rfl⟩
abbrev main_while1b_v83 : Ref sig .tc := ⟨.hbm, 174, rfl⟩
abbrev main_while1b_c_19 : Ref sig .tc := ⟨.hbm, 175, rfl⟩
abbrev main_while1b_v84 : Ref sig .tc := ⟨.hbm, 176, rfl⟩
abbrev main_v41 : Ref sig .tc := ⟨.hbm, 177, rfl⟩
abbrev main_v42 : Ref sig .tc := ⟨.hbm, 178, rfl⟩
abbrev main_v43 : Ref sig .tc := ⟨.hbm, 179, rfl⟩
abbrev main_v44 : Ref sig .tc := ⟨.hbm, 180, rfl⟩
abbrev main_v45 : Ref sig .tc := ⟨.hbm, 181, rfl⟩
abbrev main_cst_7 : Ref sig .tc := ⟨.hbm, 182, rfl⟩
abbrev main_v46 : Ref sig .tc := ⟨.hbm, 183, rfl⟩
abbrev main_c_8 : Ref sig .tc := ⟨.hbm, 184, rfl⟩
abbrev main_v47 : Ref sig .tc := ⟨.hbm, 185, rfl⟩
abbrev main_v48 : Ref sig .tc := ⟨.hbm, 186, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 127#32, 1#32⟩
-- ==== Proof.Tokens.lean ====
/-
  What the precondition says of one token: it names a row of the two embedding tables.
-/
module

public import proofs.«01_k».proof.Defs
public import proofs.«01_k».proof.Proof.Gen.Pre_tokens_in_range

@[expose] public section

noncomputable section

namespace Cert.Proof

open Idealize.ShloMosaic Idealize.ShloMosaic.TcCoe

theorem ofBool_one (b : Bool) : BitVec.ofBool b = 1#1 ↔ b = true := by cases b <;> decide

/-- A number that is not negative and less than 32000 as a signed word is so as an unsigned one. -/
theorem toNat_lt (x : BitVec 32) (h₀ : IntOp.cmpi .sge x 0#32 = 1#1) (h₁ : IntOp.cmpi .slt x 32000#32 = 1#1) : x.toNat < 32000 := by
  simp only [IntOp.cmpi, ofBool_one, BitVec.sle, BitVec.slt, decide_eq_true_eq, BitVec.toInt, BitVec.toNat_ofNat] at h₀ h₁
  omega

theorem and_one (a b : BitVec 1) (h : a &&& b = 1#1) : a = 1#1 ∧ b = 1#1 := by
  revert a b; decide

/-- Every token of an array of which the precondition holds is below 32000. -/
theorem tokens_lt {F : FTy → Type} [FloatOps F] (x : IVec Cert.Pre_tokens_in_range.S16x128 32) (a1 a2 a3 a4 a5 a6 a7 a8 a9 a10 a11 a12 a13 a14 a15 a16)
    (h : Cert.Pre_tokens_in_range.fn (F := F) x a1 a2 a3 a4 a5 a6 a7 a8 a9 a10 a11 a12 a13 a14 a15 a16 = fun _ => 1#1) (i) : BitVec.toNat (w := 32) (x i) < 32000 := by
  have e := congrFun h i
  obtain ⟨h₀, h₁⟩ := and_one _ _ e
  exact toNat_lt _ h₀ h₁

end Cert.Proof

end
-- ==== Proof.GatherIdeal.lean ====
/-
  The idealized program, as Gather.lean has the kernel.
  The first kernel region, the embedding gather, at any float interpretation.

  Two tables are read row by row by 2048 transfers each, all of one table's transfers on one semaphore; then 2048
  waits of one row drain each semaphore. What is shown: from the index words held, all below the tables' height, both
  results end with row `t` equal to the table row named by index word `t`, the tables and the index words come back
  unchanged, and both semaphores read zero.
-/
module

public import proofs.«01_k».proof.Proof.Gen.KernelIdeal
public import Idealize.ShloMosaic.Lib.Batch
public import Idealize.ShloMosaic.Lib.Tactic
public import Idealize.ShloMosaic.Lib.Pipeline.Kit

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipelines' rounds, and the counters the transfers' invariants use. -/
abbrev UU (nD : Nat) (τ : Topo) : Type := UR sig nD τ × Counters

local notation "𝕄" => MT nD τ sig Unit (Elt F) ℕ (UU nD τ) ℕ

/-- Memref `M`'s elements on core `c`, held at share `q` with contents `f`. -/
abbrev holds (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f

/-! ## Rows -/

theorem dst_inb (t : Fin 2048) : ∀ a, (![t.val, 0] : Fin 2 → Nat) a + S1x256.size a ≤ S2048x256.size a := by
  intro a; have := t.isLt; fin_cases a <;> simp <;> omega
theorem src_inb (n : Nat) (h : n < 32000) : ∀ a, (![n, 0] : Fin 2 → Nat) a + S1x256.size a ≤ S32000x256.size a := by
  intro a; fin_cases a <;> simp <;> omega

/-- Row `t` of a result. -/
abbrev dstRow (N : Memref sig .tc .vmem S2048x256 .f32) (t : Fin 2048) : Memref sig .tc .vmem S1x256 .f32 :=
  N.slice (Rect.unit (s := S2048x256) ![t.val, 0] S1x256.size (dst_inb t)) (fun _ => rfl)
/-- Row `n` of a table. -/
abbrev srcRow (M : Memref sig .tc .hbm S32000x256 .f32) (n : Nat) (h : n < 32000) : Memref sig .tc .hbm S1x256 .f32 :=
  M.slice (Rect.unit (s := S32000x256) ![n, 0] S1x256.size (src_inb n h)) (fun _ => rfl)

section Rows
variable {sp : Space} (N : Memref sig .tc .vmem S2048x256 .f32)

theorem mem_dstRow (t : Fin 2048) (y : S2048x256.Idx) :
    N.view.emb y ∈ (dstRow N t).view.set ↔ (y 0).val = t.val := by
  rw [show (dstRow N t).view.set = (N.view.slice (Rect.unit (s := S2048x256) ![t.val, 0] S1x256.size (dst_inb t))).set from rfl,
    View.set_slice, Finset.mem_map' N.view.emb, Rect.mem_set_unit]
  constructor
  · intro h; have := h 0; simp at this; omega
  · intro h a; fin_cases a
    · simp; omega
    · have := (y 1).isLt; simp at this ⊢; exact this

theorem dstRow_subset (t : Fin 2048) : (dstRow N t).view.set ⊆ N.view.set := View.set_slice_subset _ _

theorem dstRows_disjoint (t t' : Fin 2048) (h : t ≠ t') : Disjoint (dstRow N t).view.set (dstRow N t').view.set := by
  refine Finset.disjoint_left.mpr fun i hi hi' => h ?_
  obtain ⟨y, -, rfl⟩ := Finset.mem_map.mp (dstRow_subset N t hi)
  exact Fin.ext (((mem_dstRow N t y).mp hi).symm.trans ((mem_dstRow N t' y).mp hi'))

theorem dstRows_cover : N.view.set = Finset.univ.biUnion fun t : Fin 2048 => (dstRow N t).view.set := by
  ext i
  simp only [Finset.mem_biUnion, Finset.mem_univ, true_and]
  constructor
  · intro hi
    obtain ⟨y, -, rfl⟩ := Finset.mem_map.mp hi
    exact ⟨⟨(y 0).val, (y 0).isLt⟩, (mem_dstRow N _ y).mpr rfl⟩
  · rintro ⟨t, ht⟩; exact dstRow_subset N t ht

end Rows

/-! ## One table's transfers -/

section OneTable
variable (c : Dev nD) (M : Memref sig .tc .hbm S32000x256 .f32) (N : Memref sig .tc .vmem S2048x256 .f32) (s : DmaSem sig)
  (fs : Buf (Elt F) (M.view.loc (c : Thread nD τ))) (fd : Buf (Elt F) (N.view.loc (c : Thread nD τ)))
  (ix : Fin 2048 → Nat) (hix : ∀ t, ix t < 32000)

/-- What is gathered: row `t` is the table's row `ix t`. -/
def gathered : S2048x256.Idx → Elt F .f32 := fun y =>
  M.view.read (Elt F) fs (fun | ⟨0, _⟩ => ⟨ix ⟨(y 0).val, (y 0).isLt⟩, hix _⟩ | ⟨1, _⟩ => ⟨(y 1).val, (y 1).isLt⟩)

/-- The units one row's transfer credits. -/
abbrev rowUnits : ℕ := (dstRow N 0).view.amount (SemLoc.dma (sig := sig) s)

/-- What transfer `t` is issued from: its table row, and its result row. -/
def lent (t : Fin 2048) : sProp 𝕄 :=
  iprop(((srcRow M (ix t) (hix t)).view.loc (c : Thread nD τ) ↦[(srcRow M (ix t) (hix t)).view.set]{Transfers.shareTok fullShare 2048 t} fs)
    ∗ ((dstRow N t).view.loc (c : Thread nD τ) ↦[(dstRow N t).view.set]{fullShare} fd))

/-- What transfer `t` delivers: its result row holding the table row, and the table row back. -/
def deliv (t : Fin 2048) : sProp 𝕄 :=
  iprop(((dstRow N t).view.loc (c : Thread nD τ) ↦[(dstRow N t).view.set]{fullShare}
      ((dstRow N t).view.write (Elt F) fd (ReadAs.same.apply ((srcRow M (ix t) (hix t)).view.read (Elt F) fs)) Finset.univ))
    ∗ ((srcRow M (ix t) (hix t)).view.loc (c : Thread nD τ) ↦[(srcRow M (ix t) (hix t)).view.set]{Transfers.shareTok fullShare 2048 t} fs))

instance deliv_storable (t : Fin 2048) : Storable (upEmb : UEmb _ 𝕄) (deliv c M N fs fd ix hix t) := by
  unfold deliv; infer_instance

/-- The transfers on one semaphore with `j` issued and `u` units consumed by waits. -/
abbrev batch (j u : ℕ) : sProp 𝕄 :=
  Transfers.Batch (countersEmb (U := UU nD τ)) (c : Thread nD τ) (.dma s) () (rowUnits N s) (deliv c M N fs fd ix hix) j u

/-- Issuing: `j` transfers issued, the rest still to be. -/
def issuing (j : ℕ) : sProp 𝕄 :=
  iprop(batch c M N s fs fd ix hix j 0 ∗ bigSep (Transfers.pending j) (lent c M N fs fd ix hix))

/-- Issue the next row's transfer. -/
theorem wp_issue (j : ℕ) (hj : j < 2048) {o1 o2 : Fin 2 → Nat} (h1) (h2)
    (e1 : o1 = ![ix ⟨j, hj⟩, 0]) (e2 : o2 = ![j, 0]) {hw hw' ht}
    {α : Type} (k : PUnit → Prog (TpuEff nD τ sig (Elt F) Λ₀ .tc) α) (Q : α → sProp 𝕄) :
    issuing c M N s fs fd ix hix j
      ⊢ iprop((issuing c M N s fs fd ix hix (j + 1) -∗ wp frame (wpE (defs₀ (F := F)) Variants.none c none) Set.univ (k ⟨⟩) Q)
        -∗ wp frame (wpE (defs₀ (F := F)) Variants.none c none) Set.univ
          (.op (.enqueueDma (M.slice (Rect.unit (s := S32000x256) o1 S1x256.size h1) (fun _ => rfl))
            (.here (N.slice (Rect.unit (s := S2048x256) o2 S1x256.size h2) (fun _ => rfl))) (.dma s) hw hw' ht) k) Q) := by
  subst e1 e2
  unfold issuing
  rw [Transfers.bigSep_pending_step _ j hj]
  iintro ⟨HB, Hl, Hp⟩ Hk
  ihave Hl' := (show lent c M N fs fd ix hix ⟨j, hj⟩ ⊢ _ from by unfold lent; exact .rfl) $$ Hl
  icases Hl' with ⟨Hs, Hd⟩
  iapply (Transfers.wp_dmaBatch (countersEmb (U := UU nD τ)) Variants.none (c : Thread nD τ) none (src := srcRow M (ix ⟨j, hj⟩) (hix ⟨j, hj⟩))
    (dst := dstRow N ⟨j, hj⟩) () (rowUnits N s) rfl subset_rfl (D := deliv c M N fs fd ix hix) (j := j) (u := 0) hj (Nat.zero_le _)
    (by unfold deliv; exact .rfl)) $$ [HB Hs Hd]
  · isplitl [Hs]; · iexact Hs
    isplitl [Hd]; · iexact Hd
    iexact HB
  iintro HB
  iapply Hk
  isplitl [HB]; · iexact HB
  iexact Hp

/-- Wait for one row. -/
theorem wp_drain (j : ℕ) (hj : j < 2048) (W : Waits sig Unit) {o1 o2 : Fin 2 → Nat} (h1) (h2) {hw hw'}
    {α : Type} (k : PUnit → Prog (TpuEff nD τ sig (Elt F) Λ₀ .tc) α) (Q : α → sProp 𝕄) :
    iprop(batch c M N s fs fd ix hix 2048 (rowUnits N s * j) ∗ owes (c : Thread nD τ) 0 W)
      ⊢ iprop((iprop(batch c M N s fs fd ix hix 2048 (rowUnits N s * (j + 1)) ∗ owes (c : Thread nD τ) 0 (insert (SemLoc.dma s, ()) W))
            -∗ wp frame (wpE (defs₀ (F := F)) Variants.none c none) Set.univ (k ⟨⟩) Q)
        -∗ wp frame (wpE (defs₀ (F := F)) Variants.none c none) Set.univ
          (.op (.waitDma2 s (M.slice (Rect.unit (s := S32000x256) o1 S1x256.size h1) (fun _ => rfl))
            (N.slice (Rect.unit (s := S2048x256) o2 S1x256.size h2) (fun _ => rfl)) hw hw') k) Q) := by
  have h := Transfers.wp_waitBatchMul (countersEmb (U := UU nD τ)) (defs := defs₀ (F := F)) Variants.none (c : Thread nD τ) none
    (srcw := M.slice (Rect.unit (s := S32000x256) o1 S1x256.size h1) (fun _ => rfl))
    (dstw := N.slice (Rect.unit (s := S2048x256) o2 S1x256.size h2) (fun _ => rfl)) (hsrc := hw) (hdst := hw') (sem := s) (k := k) (Q := Q)
    () (N := rowUnits N s) 1 (by rw [Nat.one_mul]; rfl) (D := deliv c M N fs fd ix hix) (j := 2048) (u := rowUnits N s * j)
    (by rw [Nat.one_mul, ← Nat.mul_succ]; exact Nat.mul_le_mul_left _ hj) (W := W)
  rw [Nat.one_mul, ← Nat.mul_succ] at h
  exact h

theorem rowUnits_pos : 0 < rowUnits N s := View.dmaCredit_pos _ (by decide)

/-- Start: from the table and the result held whole and the semaphore at zero, every transfer still to be issued;
    what is not lent of the table stays aside. -/
def aside : sProp 𝕄 :=
  iprop((M.view.loc (c : Thread nD τ) ↦[M.view.set]{Transfers.shareDrop fullShare 2048} fs)
    ∗ bigSep Finset.univ fun t : Fin 2048 => M.view.loc (c : Thread nD τ)
        ↦[M.view.set \ (srcRow M (ix t) (hix t)).view.set]{Transfers.shareTok fullShare 2048 t} fs)

theorem start :
    iprop(holds c M fullShare fs ∗ holds c N fullShare fd ∗ semVal ((c : Thread nD τ), .dma s) 0)
      ⊢ |={Set.univ}=> iprop(issuing c M N s fs fd ix hix 0 ∗ aside c M fs ix hix) := by
  iintro ⟨HM, HN, Hs⟩
  imod (Transfers.batch_alloc' (countersEmb (U := UU nD τ)) (c : Thread nD τ) () (rowUnits N s) (deliv c M N fs fd ix hix)) $$ Hs with HB
  imodintro
  ihave HM' := (Transfers.pointsTo_toks_split (Ix := Unit) (Name := ℕ) (U := UU nD τ) (Lvl := ℕ) fullShare 2048) $$ HM
  icases HM' with ⟨Hdrop, Htoks⟩
  have hsplit : bigSep Finset.univ (fun t : Fin 2048 => (M.view.loc (c : Thread nD τ) ↦[M.view.set]{Transfers.shareTok fullShare 2048 t} fs : sProp 𝕄))
      ⊢ iprop(bigSep Finset.univ (fun t : Fin 2048 => (srcRow M (ix t) (hix t)).view.loc (c : Thread nD τ)
            ↦[(srcRow M (ix t) (hix t)).view.set]{Transfers.shareTok fullShare 2048 t} fs)
          ∗ bigSep Finset.univ (fun t : Fin 2048 => M.view.loc (c : Thread nD τ)
            ↦[M.view.set \ (srcRow M (ix t) (hix t)).view.set]{Transfers.shareTok fullShare 2048 t} fs)) :=
    (bigSep_mono fun t _ => (pointsTo_split_subset (View.set_slice_subset _ _)).1).trans (Entails.of_eq (BI.bigSep_sep Finset.univ _ _))
  ihave Ht := hsplit $$ Htoks
  icases Ht with ⟨Hrows, Hrest⟩
  have hN : (holds c N fullShare fd : sProp 𝕄) ⊢ bigSep Finset.univ (fun t : Fin 2048 => (dstRow N t).view.loc (c : Thread nD τ)
      ↦[(dstRow N t).view.set]{fullShare} fd) := by
    unfold holds; rw [dstRows_cover N]
    exact Entails.of_eq (pointsTo_biUnion Finset.univ _ fun t _ t' _ h => dstRows_disjoint N t t' h)
  ihave HN' := hN $$ HN
  have hjoin : iprop(bigSep Finset.univ (fun t : Fin 2048 => (srcRow M (ix t) (hix t)).view.loc (c : Thread nD τ)
            ↦[(srcRow M (ix t) (hix t)).view.set]{Transfers.shareTok fullShare 2048 t} fs)
      ∗ bigSep Finset.univ (fun t : Fin 2048 => (dstRow N t).view.loc (c : Thread nD τ) ↦[(dstRow N t).view.set]{fullShare} fd))
      ⊢ (bigSep (Transfers.pending 0) (lent c M N fs fd ix hix) : sProp 𝕄) := by
    rw [Transfers.pending_zero]; unfold lent
    exact Entails.of_eq (BI.bigSep_sep Finset.univ _ _).symm
  ihave Hl := hjoin $$ [Hrows HN']
  · isplitl [Hrows] <;> iassumption
  unfold issuing aside
  isplitl [HB Hl]
  · isplitl [HB] <;> iassumption
  isplitl [Hdrop] <;> iassumption

/-- Finish: every unit consumed, the result holds the gathered rows, the table is whole again, the semaphore at zero. -/
theorem finish :
    iprop(batch c M N s fs fd ix hix 2048 (rowUnits N s * 2048) ∗ aside c M fs ix hix)
      ⊢ |={Set.univ}=> iprop(holds c M fullShare fs ∗ owns (c : Thread nD τ) N fullShare (gathered c M fs ix hix) ∗ semVal ((c : Thread nD τ), .dma s) 0) := by
  iintro ⟨HB, Ha⟩
  imod (Transfers.batch_collect' (countersEmb (U := UU nD τ)) (c : Thread nD τ) (rowUnits_pos N s)) $$ HB with ⟨HD, Hs⟩
  imodintro
  have hD : (bigSep Finset.univ (deliv c M N fs fd ix hix) : sProp 𝕄)
      ⊢ iprop(bigSep Finset.univ (fun t : Fin 2048 => (dstRow N t).view.loc (c : Thread nD τ) ↦[(dstRow N t).view.set]{fullShare}
          (N.view.write (Elt F) fd (gathered c M fs ix hix) Finset.univ))
        ∗ bigSep Finset.univ (fun t : Fin 2048 => (srcRow M (ix t) (hix t)).view.loc (c : Thread nD τ)
            ↦[(srcRow M (ix t) (hix t)).view.set]{Transfers.shareTok fullShare 2048 t} fs)) := by
    suffices hd : ∀ t, deliv c M N fs fd ix hix t ⊢ iprop(((dstRow N t).view.loc (c : Thread nD τ) ↦[(dstRow N t).view.set]{fullShare}
          (N.view.write (Elt F) fd (gathered c M fs ix hix) Finset.univ))
        ∗ ((srcRow M (ix t) (hix t)).view.loc (c : Thread nD τ)
            ↦[(srcRow M (ix t) (hix t)).view.set]{Transfers.shareTok fullShare 2048 t} fs)) from
      (bigSep_mono fun t _ => hd t).trans (Entails.of_eq (BI.bigSep_sep Finset.univ _ _))
    intro t
    unfold deliv
    refine Entails.of_eq ?_
    congr 1
    refine pointsTo_congr fun i hi => ?_
    obtain ⟨x, -, rfl⟩ := Finset.mem_map.mp hi
    rw [View.write_emb_of_mem _ _ (Finset.mem_univ x)]
    rw [show (dstRow N t).view.emb x = N.view.emb ((Rect.unit (s := S2048x256) ![t.val, 0] S1x256.size (dst_inb t)).emb x) from rfl,
      View.write_emb_of_mem _ _ (Finset.mem_univ _)]
    refine congrArg (_root_.cast _) ?_
    unfold gathered
    change M.view.read (Elt F) fs ((Rect.unit (s := S32000x256) ![ix t, 0] S1x256.size (src_inb (ix t) (hix t))).emb x) = _
    refine congrArg (M.view.read (Elt F) fs) (funext fun a => Fin.ext ?_)
    have h0 : (x 0).val = 0 := Nat.lt_one_iff.mp (x 0).isLt
    have ht : (⟨(((Rect.unit (s := S2048x256) ![t.val, 0] S1x256.size (dst_inb t)).emb x) 0).val, by exact Fin.isLt _⟩ : Fin 2048) = t :=
      Fin.ext (by change t.val + 1 * (x 0).val = t.val; omega)
    fin_cases a
    · change ix t + 1 * (x 0).val = ix _
      rw [ht]; omega
    · rfl
  ihave HD' := hD $$ HD
  icases HD' with ⟨Hrows, Hback⟩
  unfold aside
  icases Ha with ⟨Hdrop, Hrest⟩
  isplitl [Hdrop Hrest Hback]
  · have hj : iprop(bigSep Finset.univ (fun t : Fin 2048 => (srcRow M (ix t) (hix t)).view.loc (c : Thread nD τ)
            ↦[(srcRow M (ix t) (hix t)).view.set]{Transfers.shareTok fullShare 2048 t} fs)
          ∗ bigSep Finset.univ (fun t : Fin 2048 => M.view.loc (c : Thread nD τ)
            ↦[M.view.set \ (srcRow M (ix t) (hix t)).view.set]{Transfers.shareTok fullShare 2048 t} fs))
        ⊢ (bigSep Finset.univ (fun t : Fin 2048 => (M.view.loc (c : Thread nD τ) ↦[M.view.set]{Transfers.shareTok fullShare 2048 t} fs : sProp 𝕄))) :=
      (Entails.of_eq (BI.bigSep_sep Finset.univ _ _).symm).trans (bigSep_mono fun t _ => (pointsTo_split_subset (View.set_slice_subset _ _)).2)
    ihave Ht := hj $$ [Hback Hrest]
    · isplitl [Hback] <;> iassumption
    iapply (Transfers.pointsTo_toks_join (Ix := Unit) (Name := ℕ) (U := UU nD τ) (Lvl := ℕ) fullShare 2048)
    isplitl [Hdrop] <;> iassumption
  isplitl [Hrows]
  · unfold owns
    iexists (N.view.write (Elt F) fd (gathered c M fs ix hix) Finset.univ)
    isplitr
    · ipureintro
      funext y
      rw [View.read_apply, View.write_emb_of_mem _ _ (Finset.mem_univ y), cast_cast, cast_eq]
    · rw [dstRows_cover N]
      iapply (Entails.of_eq (pointsTo_biUnion (Ix := Unit) (Name := ℕ) (U := UU nD τ) (Lvl := ℕ) Finset.univ _ fun t _ t' _ h => dstRows_disjoint N t t' h).symm)
      iexact Hrows
  iexact Hs

end OneTable

end Cert.Proof.KI
-- ==== Proof.GatherLoopIdeal.lean ====
/-
  The idealized program, as GatherLoop.lean has the kernel.
  The embedding gather's body: the loop that issues eight tokens' transfers a trip, the loop that waits for one row
  of each result a trip, and the two in sequence.
-/
module

public import proofs.«01_k».proof.Proof.GatherIdeal
public import proofs.«01_k».proof.Proof.Gen.KernelIdeal.Loops

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The table row the index words `x` name for token `t`. -/
def ixOf (x : Vec F S2048 .i32) (t : Fin 2048) : Nat := BitVec.toNat (w := 32) (x (fun | ⟨0, _⟩ => ⟨t.val, t.isLt⟩))

section Body
variable (c : Dev nD)
  (arg0 : Memref sig .tc .smem S2048 .i32) (harg0 : arg0.IsWhole)
  (arg1 : Memref sig .tc .hbm S32000x256 .f32) (harg1 : arg1.IsWhole)
  (arg2 : Memref sig .tc .hbm S32000x256 .f32) (harg2 : arg2.IsWhole)
  (arg3 : Memref sig .tc .vmem S2048x256 .f32) (harg3 : arg3.IsWhole)
  (arg4 : Memref sig .tc .vmem S2048x256 .f32) (harg4 : arg4.IsWhole)
  (arg5 : DmaSems sig S_) (arg6 : DmaSems sig S_)
  (f0 : Buf (Elt F) (arg0.view.loc (c : Thread nD τ)))
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))
  (hix : ∀ t, ixOf (arg0.view.read (Elt F) f0) t < 32000)

/-- Load one index word. -/
theorem wp_word (n : ℕ) (hn : n < 2048) {o : Fin 1 → Nat} (h) (e : o = ![n]) {h1 hp}
    {α : Type} (K : Elt F .i32 → Prog (TpuEff nD τ sig (Elt F) Λ₀ .tc) α) (Q : α → sProp 𝕄) :
    (holds c arg0 fullShare f0)
      ⊢ iprop((holds c arg0 fullShare f0 -∗ ∀ v : Elt F .i32, ⌜BitVec.toNat (w := 32) v = ixOf (arg0.view.read (Elt F) f0) ⟨n, hn⟩⌝
            -∗ wp frame (wpE (defs₀ (F := F)) Variants.none c none) Set.univ (K v) Q)
        -∗ wp frame (wpE (defs₀ (F := F)) Variants.none c none) Set.univ
          (smemLoad arg0 (Rect.unit (s := S2048) o S1.size h) h1 hp >>= K) Q) := by
  subst e
  have h0 := wp_smemLoadElt_named (defs := defs₀ (F := F)) Variants.none (c : Thread nD τ) none (E := Set.univ) (m := arg0)
    (r := Rect.unit (s := S2048) ![n] S1.size h) (hw := View.loads_smem_one hp h1) (x := Shape.Idx.first (h1.symm ▸ Nat.one_pos)) (k := K) (Q := Q) (S := arg0.view.set) (q := fullShare) (f := f0)
    (View.set_slice_subset _ _)
  refine BIBase.Entails.trans h0 ?_
  iintro H Hk
  iapply H
  iintro Hp %v %hv
  iapply Hk $$ Hp
  ipureintro
  rw [hv]
  unfold ixOf
  congr 1
  change arg0.view.read (Elt F) f0 ((Rect.unit (s := S2048) ![n] S1.size h).emb _) = _
  congr 1
  funext a
  refine Fin.ext ?_
  fin_cases a
  change n + 1 * _ = n
  have : ((Shape.Idx.first (s := (Rect.unit (s := S2048) ![n] S1.size h).shape) (h1.symm ▸ Nat.one_pos)) 0).val = 0 := Nat.lt_one_iff.mp (Fin.isLt _)
  exact (congrArg (fun k => n + 1 * k) this).trans (by omega)

/-- Pass a side condition that holds. -/
theorem wp_given {p : Prop} (d : Decidable p) (hp : p)
    {α : Type} (K : PLift p → Prog (TpuEff nD τ sig (Elt F) Λ₀ .tc) α) (Q : α → sProp 𝕄) :
    wp frame (wpE (defs₀ (F := F)) Variants.none (c : Thread nD τ) none) Set.univ (K ⟨hp⟩) Q
      ⊢ wp frame (wpE (defs₀ (F := F)) Variants.none (c : Thread nD τ) none) Set.univ (Prog.lift (TpuEff.assume p d) >>= K) Q :=
  wp_assume Variants.none (c : Thread nD τ) none Set.univ hp

/-- A program that has ended. -/
theorem wp_done {α : Type} (a : α) (Q : α → sProp 𝕄) :
    Q a ⊢ wp frame (wpE (defs₀ (F := F)) Variants.none (c : Thread nD τ) none) Set.univ (pure a) Q := by
  change Q a ⊢ wp _ _ _ (Prog.ret a) Q
  rw [wp_ret]
  iintro H
  imodintro
  iexact H

/-- What the issue loop holds with `j` tokens issued. -/
def issued (j : ℕ) : sProp 𝕄 :=
  iprop(holds c arg0 fullShare f0
    ∗ issuing c arg1 arg3 arg5.sem f1 f3 (ixOf (arg0.view.read (Elt F) f0)) hix j
    ∗ issuing c arg2 arg4 arg6.sem f2 f4 (ixOf (arg0.view.read (Elt F) f0)) hix j)

/-- Load the next token's word, in range, and pass its side condition. -/
theorem wp_next (j : ℕ) (hj : j < 2048) {o : Fin 1 → Nat} (h : ∀ a, o a + S1.size a ≤ S2048.size a) (e : o = ![j]) {h1 hp}
    (chk : BitVec 32 → Prop) (d : ∀ v, Decidable (chk v))
    (hchk : ∀ v, (∀ a, (![v.toNat, 0] : Fin 2 → Nat) a + S1x256.size a ≤ S32000x256.size a) → chk v)
    {α : Type} (K : (v : Elt F .i32) → PLift (chk v) → Prog (TpuEff nD τ sig (Elt F) Λ₀ .tc) α) (Q : α → sProp 𝕄) :
    issued c arg0 arg1 arg2 arg3 arg4 arg5 arg6 f0 f1 f2 f3 f4 hix j
      ⊢ iprop((∀ v, ∀ hv, issued c arg0 arg1 arg2 arg3 arg4 arg5 arg6 f0 f1 f2 f3 f4 hix j
            -∗ ⌜BitVec.toNat (w := 32) v = ixOf (arg0.view.read (Elt F) f0) ⟨j, hj⟩⌝
            -∗ wp frame (wpE (defs₀ (F := F)) Variants.none c none) Set.univ (K v ⟨hv⟩) Q)
        -∗ wp frame (wpE (defs₀ (F := F)) Variants.none c none) Set.univ
          (smemLoad arg0 (Rect.unit (s := S2048) o S1.size h) h1 hp >>= fun v =>
            Prog.lift (TpuEff.assume (chk v) (d v)) >>= fun w => K v w) Q) := by
  unfold issued
  iintro ⟨H0, H1, H2⟩ Hk
  iapply (wp_word c arg0 f0 j hj h e) $$ H0
  iintro H0 %v %hv
  have hc : chk v := hchk v (by
    have := hix ⟨j, hj⟩
    rw [← hv] at this
    exact src_inb _ this)
  iapply (wp_given c (d v) hc)
  iapply Hk $$ [H0 H1 H2]
  · isplitl [H0]; · iexact H0
    isplitl [H1] <;> iassumption
  ipureintro; exact hv

/-- With the first result's row of token `j` issued and the second's not. -/
def halfIssued (j : ℕ) : sProp 𝕄 :=
  iprop(holds c arg0 fullShare f0
    ∗ issuing c arg1 arg3 arg5.sem f1 f3 (ixOf (arg0.view.read (Elt F) f0)) hix (j + 1)
    ∗ issuing c arg2 arg4 arg6.sem f2 f4 (ixOf (arg0.view.read (Elt F) f0)) hix j)

/-- Issue token `j`'s first row. -/
theorem wp_first (j : ℕ) (hj : j < 2048) (v : BitVec 32) (hv : v.toNat = ixOf (arg0.view.read (Elt F) f0) ⟨j, hj⟩)
    {o1 o2 : Fin 2 → Nat} {h1} {h2} (e1 : o1 = ![v.toNat, 0]) (e2 : o2 = ![j, 0]) {hw hw' ht}
    {α : Type} (K : PUnit → Prog (TpuEff nD τ sig (Elt F) Λ₀ .tc) α) (Q : α → sProp 𝕄) :
    issued c arg0 arg1 arg2 arg3 arg4 arg5 arg6 f0 f1 f2 f3 f4 hix j
      ⊢ iprop((halfIssued c arg0 arg1 arg2 arg3 arg4 arg5 arg6 f0 f1 f2 f3 f4 hix j
            -∗ wp frame (wpE (defs₀ (F := F)) Variants.none c none) Set.univ (K ⟨⟩) Q)
        -∗ wp frame (wpE (defs₀ (F := F)) Variants.none c none) Set.univ
          (Prog.lift (.enqueueDma (arg1.slice (Rect.unit (s := S32000x256) o1 S1x256.size h1) (fun _ => rfl))
              (.here (arg3.slice (Rect.unit (s := S2048x256) o2 S1x256.size h2) (fun _ => rfl))) (.dma arg5.sem) hw hw' ht) >>= K) Q) := by
  unfold issued halfIssued
  iintro ⟨H0, H1, H2⟩ Hk
  iapply (wp_issue c arg1 arg3 arg5.sem f1 f3 (ixOf (arg0.view.read (Elt F) f0)) hix j hj h1 h2 (e1.trans (by rw [hv])) e2 K) $$ H1
  iintro H1
  iapply Hk
  isplitl [H0]; · iexact H0
  isplitl [H1] <;> iassumption

/-- Issue token `j`'s second row. -/
theorem wp_second (j : ℕ) (hj : j < 2048) (v : BitVec 32) (hv : v.toNat = ixOf (arg0.view.read (Elt F) f0) ⟨j, hj⟩)
    {o1 o2 : Fin 2 → Nat} {h1} {h2} (e1 : o1 = ![v.toNat, 0]) (e2 : o2 = ![j, 0]) {hw hw' ht}
    {α : Type} (K : PUnit → Prog (TpuEff nD τ sig (Elt F) Λ₀ .tc) α) (Q : α → sProp 𝕄) :
    halfIssued c arg0 arg1 arg2 arg3 arg4 arg5 arg6 f0 f1 f2 f3 f4 hix j
      ⊢ iprop((issued c arg0 arg1 arg2 arg3 arg4 arg5 arg6 f0 f1 f2 f3 f4 hix (j + 1)
            -∗ wp frame (wpE (defs₀ (F := F)) Variants.none c none) Set.univ (K ⟨⟩) Q)
        -∗ wp frame (wpE (defs₀ (F := F)) Variants.none c none) Set.univ
          (Prog.lift (.enqueueDma (arg2.slice (Rect.unit (s := S32000x256) o1 S1x256.size h1) (fun _ => rfl))
              (.here (arg4.slice (Rect.unit (s := S2048x256) o2 S1x256.size h2) (fun _ => rfl))) (.dma arg6.sem) hw hw' ht) >>= K) Q) := by
  unfold issued halfIssued
  iintro ⟨H0, H1, H2⟩ Hk
  iapply (wp_issue c arg2 arg4 arg6.sem f2 f4 (ixOf (arg0.view.read (Elt F) f0)) hix j hj h1 h2 (e1.trans (by rw [hv])) e2 K) $$ H2
  iintro H2
  iapply Hk
  isplitl [H0]; · iexact H0
  isplitl [H1] <;> iassumption

theorem trips1_lt (t : Fin k0_t1_loop.trips) : t.val < 256 := lt_of_lt_of_le t.isLt k0_t1_abs.2.1
theorem trips2_lt (t : Fin k0_t2_loop.trips) : t.val < 2048 := lt_of_lt_of_le t.isLt k0_t2_abs.2.1

/-- A trip's first window: tokens 0 to 2 and the first row of token 3. -/
theorem issue_part1 (t : Fin k0_t1_loop.trips) :
    issued c arg0 arg1 arg2 arg3 arg4 arg5 arg6 f0 f1 f2 f3 f4 hix (8 * t.val)
      ⊢ wp frame (wpE (defs₀ (F := F)) Variants.none c none) Set.univ
          (k0_part1 arg0 harg0 arg1 harg1 arg2 harg2 arg3 harg3 arg4 harg4 arg5 arg6 0#32 1#32 t)
          (fun r => iprop(⌜BitVec.toNat (w := 32) r.2.1 = ixOf (arg0.view.read (Elt F) f0) ⟨8 * t.val + 3, by have := trips1_lt t; omega⟩⌝
            ∗ halfIssued c arg0 arg1 arg2 arg3 arg4 arg5 arg6 f0 f1 f2 f3 f4 hix (8 * t.val + 3))) := by
  have ht := trips1_lt t
  rw [k0_part1_eq_skeleton]; unfold k0_part1_skel
  iintro H
  iapply (wp_next c arg0 arg1 arg2 arg3 arg4 arg5 arg6 f0 f1 f2 f3 f4 hix (8 * t.val) (by omega) (k0_off1_inb t) (k0_off1_eq t) k0_chk1 k0_chk1.dec (fun _ h => h)) $$ H
  iintro %v1 %hc1 H %hv1
  iapply (wp_first c arg0 arg1 arg2 arg3 arg4 arg5 arg6 f0 f1 f2 f3 f4 hix (8 * t.val) (by omega) v1 hv1 rfl (k0_off2_eq t)) $$ H
  iintro H
  iapply (wp_second c arg0 arg1 arg2 arg3 arg4 arg5 arg6 f0 f1 f2 f3 f4 hix (8 * t.val) (by omega) v1 hv1 rfl (k0_off4_eq t 0)) $$ H
  iintro H
  iapply (wp_next c arg0 arg1 arg2 arg3 arg4 arg5 arg6 f0 f1 f2 f3 f4 hix (8 * t.val + 1) (by omega) (k0_off5_inb t) (k0_off5_eq t) k0_chk2 k0_chk2.dec (fun _ h => h)) $$ H
  iintro %v2 %hc2 H %hv2
  iapply (wp_first c arg0 arg1 arg2 arg3 arg4 arg5 arg6 f0 f1 f2 f3 f4 hix (8 * t.val + 1) (by omega) v2 hv2 rfl ((k0_off4_eq t 1).trans (by congr 1))) $$ H
  iintro H
  iapply (wp_second c arg0 arg1 arg2 arg3 arg4 arg5 arg6 f0 f1 f2 f3 f4 hix (8 * t.val + 1) (by omega) v2 hv2 rfl ((k0_off7_eq t 0).trans (by congr 1))) $$ H
  iintro H
  iapply (wp_next c arg0 arg1 arg2 arg3 arg4 arg5 arg6 f0 f1 f2 f3 f4 hix (8 * t.val + 2) (by omega) (k0_off8_inb t) (k0_off8_eq t) k0_chk3 k0_chk3.dec (fun _ h => h)) $$ H
  iintro %v3 %hc3 H %hv3
  iapply (wp_first c arg0 arg1 arg2 arg3 arg4 arg5 arg6 f0 f1 f2 f3 f4 hix (8 * t.val + 2) (by omega) v3 hv3 rfl ((k0_off7_eq t 1).trans (by congr 1))) $$ H
  iintro H
  iapply (wp_second c arg0 arg1 arg2 arg3 arg4 arg5 arg6 f0 f1 f2 f3 f4 hix (8 * t.val + 2) (by omega) v3 hv3 rfl ((k0_off10_eq t 0).trans (by congr 1))) $$ H
  iintro H
  iapply (wp_next c arg0 arg1 arg2 arg3 arg4 arg5 arg6 f0 f1 f2 f3 f4 hix (8 * t.val + 3) (by omega) (k0_off11_inb t) (k0_off11_eq t) k0_chk4 k0_chk4.dec (fun _ h => h)) $$ H
  iintro %v4 %hc4 H %hv4
  iapply (wp_first c arg0 arg1 arg2 arg3 arg4 arg5 arg6 f0 f1 f2 f3 f4 hix (8 * t.val + 3) (by omega) v4 hv4 rfl ((k0_off10_eq t 1).trans (by congr 1))) $$ H
  iintro H
  iapply (wp_done c)
  isplitr [H]; · ipureintro; exact hv4
  iexact H

/-- A trip's second window: the second row of token 3, tokens 4 to 6, and the first row of token 7. -/
theorem issue_part2 (t : Fin k0_t1_loop.trips) (v2 v26 : BitVec 32) (w : k0_chk4 v26)
    (hv : v26.toNat = ixOf (arg0.view.read (Elt F) f0) ⟨8 * t.val + 3, by have := trips1_lt t; omega⟩) :
    halfIssued c arg0 arg1 arg2 arg3 arg4 arg5 arg6 f0 f1 f2 f3 f4 hix (8 * t.val + 3)
      ⊢ wp frame (wpE (defs₀ (F := F)) Variants.none c none) Set.univ
          (k0_part2 arg0 harg0 arg1 harg1 arg2 harg2 arg3 harg3 arg4 harg4 arg5 arg6 t v2 v26 w)
          (fun r => iprop(⌜BitVec.toNat (w := 32) r.1 = ixOf (arg0.view.read (Elt F) f0) ⟨8 * t.val + 7, by have := trips1_lt t; omega⟩⌝
            ∗ halfIssued c arg0 arg1 arg2 arg3 arg4 arg5 arg6 f0 f1 f2 f3 f4 hix (8 * t.val + 7))) := by
  have ht := trips1_lt t
  rw [k0_part2_eq_skeleton]; unfold k0_part2_skel
  iintro H
  iapply (wp_second c arg0 arg1 arg2 arg3 arg4 arg5 arg6 f0 f1 f2 f3 f4 hix (8 * t.val + 3) (by omega) v26 hv rfl ((k0_off13_eq t 0).trans (by congr 1))) $$ H
  iintro H
  iapply (wp_next c arg0 arg1 arg2 arg3 arg4 arg5 arg6 f0 f1 f2 f3 f4 hix (8 * t.val + 4) (by omega) (k0_off14_inb t) (k0_off14_eq t) k0_chk5 k0_chk5.dec (fun _ h => h)) $$ H
  iintro %v5 %hc5 H %hv5
  iapply (wp_first c arg0 arg1 arg2 arg3 arg4 arg5 arg6 f0 f1 f2 f3 f4 hix (8 * t.val + 4) (by omega) v5 hv5 rfl ((k0_off13_eq t 1).trans (by congr 1))) $$ H
  iintro H
  iapply (wp_second c arg0 arg1 arg2 arg3 arg4 arg5 arg6 f0 f1 f2 f3 f4 hix (8 * t.val + 4) (by omega) v5 hv5 rfl ((k0_off16_eq t 0).trans (by congr 1))) $$ H
  iintro H
  iapply (wp_next c arg0 arg1 arg2 arg3 arg4 arg5 arg6 f0 f1 f2 f3 f4 hix (8 * t.val + 5) (by omega) (k0_off17_inb t) (k0_off17_eq t) k0_chk6 k0_chk6.dec (fun _ h => h)) $$ H
  iintro %v6 %hc6 H %hv6
  iapply (wp_first c arg0 arg1 arg2 arg3 arg4 arg5 arg6 f0 f1 f2 f3 f4 hix (8 * t.val + 5) (by omega) v6 hv6 rfl ((k0_off16_eq t 1).trans (by congr 1))) $$ H
  iintro H
  iapply (wp_second c arg0 arg1 arg2 arg3 arg4 arg5 arg6 f0 f1 f2 f3 f4 hix (8 * t.val + 5) (by omega) v6 hv6 rfl ((k0_off19_eq t 0).trans (by congr 1))) $$ H
  iintro H
  iapply (wp_next c arg0 arg1 arg2 arg3 arg4 arg5 arg6 f0 f1 f2 f3 f4 hix (8 * t.val + 6) (by omega) (k0_off20_inb t) (k0_off20_eq t) k0_chk7 k0_chk7.dec (fun _ h => h)) $$ H
  iintro %v7 %hc7 H %hv7
  iapply (wp_first c arg0 arg1 arg2 arg3 arg4 arg5 arg6 f0 f1 f2 f3 f4 hix (8 * t.val + 6) (by omega) v7 hv7 rfl ((k0_off19_eq t 1).trans (by congr 1))) $$ H
  iintro H
  iapply (wp_second c arg0 arg1 arg2 arg3 arg4 arg5 arg6 f0 f1 f2 f3 f4 hix (8 * t.val + 6) (by omega) v7 hv7 rfl ((k0_off22_eq t 0).trans (by congr 1))) $$ H
  iintro H
  iapply (wp_next c arg0 arg1 arg2 arg3 arg4 arg5 arg6 f0 f1 f2 f3 f4 hix (8 * t.val + 7) (by omega) (k0_off23_inb t) (k0_off23_eq t) k0_chk8 k0_chk8.dec (fun _ h => h)) $$ H
  iintro %v8 %hc8 H %hv8
  iapply (wp_first c arg0 arg1 arg2 arg3 arg4 arg5 arg6 f0 f1 f2 f3 f4 hix (8 * t.val + 7) (by omega) v8 hv8 rfl ((k0_off22_eq t 1).trans (by congr 1))) $$ H
  iintro H
  iapply (wp_done c)
  isplitr [H]; · ipureintro; exact hv8
  iexact H

/-- A whole trip issues the rows of its eight tokens. -/
theorem issue_trip (t : Fin k0_t1_loop.trips) (a : PUnit) :
    issued c arg0 arg1 arg2 arg3 arg4 arg5 arg6 f0 f1 f2 f3 f4 hix (8 * t.val)
      ⊢ wp frame (wpE (defs₀ (F := F)) Variants.none c none) Set.univ
          (k0_t1_body arg0 harg0 arg1 harg1 arg2 harg2 arg3 harg3 arg4 harg4 arg5 arg6 t a)
          (fun _ => issued c arg0 arg1 arg2 arg3 arg4 arg5 arg6 f0 f1 f2 f3 f4 hix (8 * (t.val + 1))) := by
  have ht := trips1_lt t
  unfold k0_t1_body
  iintro H
  rw [wp_bind]
  iapply (wp_wand frame (wpE (defs₀ (F := F)) Variants.none c none) Set.univ) $$ [H]
  · iapply (issue_part1 (harg0 := harg0) (harg1 := harg1) (harg2 := harg2) (harg3 := harg3) (harg4 := harg4) c arg0 arg1 arg2 arg3 arg4 arg5 arg6 f0 f1 f2 f3 f4 hix t) $$ H
  iintro %r ⟨%hr, H⟩
  rw [wp_bind]
  iapply (wp_wand frame (wpE (defs₀ (F := F)) Variants.none c none) Set.univ) $$ [H]
  · iapply (issue_part2 (harg0 := harg0) (harg1 := harg1) (harg2 := harg2) (harg3 := harg3) (harg4 := harg4) c arg0 arg1 arg2 arg3 arg4 arg5 arg6 f0 f1 f2 f3 f4 hix t _ _ _ hr) $$ H
  iintro %r' ⟨%hr', H⟩
  iapply (wp_second c arg0 arg1 arg2 arg3 arg4 arg5 arg6 f0 f1 f2 f3 f4 hix (8 * t.val + 7) (by omega) r'.1 hr' rfl (k0_off25_eq t)) $$ H
  iintro H
  iapply (wp_done c)
  iexact H

/-- With every row issued, what the waiting loop holds with `j` rows of each result waited for. -/
def drained (j : ℕ) : sProp 𝕄 :=
  iprop(batch c arg1 arg3 arg5.sem f1 f3 (ixOf (arg0.view.read (Elt F) f0)) hix 2048 (rowUnits arg3 arg5.sem * j)
    ∗ batch c arg2 arg4 arg6.sem f2 f4 (ixOf (arg0.view.read (Elt F) f0)) hix 2048 (rowUnits arg4 arg6.sem * j)
    ∗ ∃ W, owes (c : Thread nD τ) 0 W)

/-- A trip of the waiting loop. -/
theorem drain_trip (t : Fin k0_t2_loop.trips) (a : PUnit) :
    drained c arg0 arg1 arg2 arg3 arg4 arg5 arg6 f0 f1 f2 f3 f4 hix t.val
      ⊢ wp frame (wpE (defs₀ (F := F)) Variants.none c none) Set.univ
          (k0_t2_body arg0 harg0 arg1 harg1 arg2 harg2 arg3 harg3 arg4 harg4 arg5 arg6 t a)
          (fun _ => drained c arg0 arg1 arg2 arg3 arg4 arg5 arg6 f0 f1 f2 f3 f4 hix (t.val + 1)) := by
  have ht := trips2_lt t
  unfold k0_t2_body drained
  iintro ⟨H1, H2, %W, HW⟩
  iapply (wp_drain c arg1 arg3 arg5.sem f1 f3 (ixOf (arg0.view.read (Elt F) f0)) hix t.val ht W inb_S32000x256_S1x256_0_0 (k0_off26_inb t)) $$ [H1 HW]
  · isplitl [H1] <;> iassumption
  iintro ⟨H1, HW⟩
  iapply (wp_drain c arg2 arg4 arg6.sem f2 f4 (ixOf (arg0.view.read (Elt F) f0)) hix t.val ht _ inb_S32000x256_S1x256_0_0 (k0_off26_inb t)) $$ [H2 HW]
  · isplitl [H2] <;> iassumption
  iintro ⟨H2, HW⟩
  iapply (wp_done c)
  isplitl [H1]; · iexact H1
  isplitl [H2]; · iexact H2
  iexists _; iexact HW

theorem trips1 : k0_t1_loop.trips = 256 := by decide +kernel
theorem trips2 : k0_t2_loop.trips = 2048 := by decide +kernel

/-- The whole body: both results gathered, everything else as it was. -/
theorem gather_body (W : Waits sig Unit) (Q : PUnit → sProp 𝕄) :
    iprop(holds c arg0 fullShare f0 ∗ holds c arg1 fullShare f1 ∗ holds c arg2 fullShare f2
        ∗ holds c arg3 fullShare f3 ∗ holds c arg4 fullShare f4
        ∗ semVal ((c : Thread nD τ), .dma arg5.sem) 0 ∗ semVal ((c : Thread nD τ), .dma arg6.sem) 0
        ∗ owes (c : Thread nD τ) 0 W)
      ⊢ iprop((iprop(holds c arg0 fullShare f0 ∗ holds c arg1 fullShare f1 ∗ holds c arg2 fullShare f2
            ∗ owns (c : Thread nD τ) arg3 fullShare (gathered c arg1 f1 (ixOf (arg0.view.read (Elt F) f0)) hix)
            ∗ owns (c : Thread nD τ) arg4 fullShare (gathered c arg2 f2 (ixOf (arg0.view.read (Elt F) f0)) hix)
            ∗ semVal ((c : Thread nD τ), .dma arg5.sem) 0 ∗ semVal ((c : Thread nD τ), .dma arg6.sem) 0
            ∗ ∃ W, owes (c : Thread nD τ) 0 W) -∗ Q ⟨⟩)
        -∗ wp frame (wpE (defs₀ (F := F)) Variants.none c none) Set.univ (cc0_embed_gather arg0 harg0 arg1 harg1 arg2 harg2 arg3 harg3 arg4 harg4 arg5 arg6) Q) := by
  rw [cc0_embed_gather_eq_skeleton]; unfold cc0_embed_gather_skel
  iintro ⟨H0, H1, H2, H3, H4, S1, S2, HW⟩ Hk
  imod (start c arg1 arg3 arg5.sem f1 f3 (ixOf (arg0.view.read (Elt F) f0)) hix) $$ [H1 H3 S1] with ⟨I1, A1⟩
  · isplitl [H1]; · iexact H1
    isplitl [H3] <;> iassumption
  imod (start c arg2 arg4 arg6.sem f2 f4 (ixOf (arg0.view.read (Elt F) f0)) hix) $$ [H2 H4 S2] with ⟨I2, A2⟩
  · isplitl [H2]; · iexact H2
    isplitl [H4] <;> iassumption
  iapply (Scf.wp_for_bind (I := fun k _ => issued c arg0 arg1 arg2 arg3 arg4 arg5 arg6 f0 f1 f2 f3 f4 hix (8 * k)) (hbody := fun t a => issue_trip c arg0 arg1 arg2 arg3 arg4 arg5 arg6 f0 f1 f2 f3 f4 hix (harg0 := harg0) (harg1 := harg1) (harg2 := harg2) (harg3 := harg3) (harg4 := harg4) t a)) $$ [H0 I1 I2]
  · unfold issued
    isplitl [H0]; · iexact H0
    isplitl [I1] <;> iassumption
  iintro %_ HI
  rw [show Scf.trips k0_t1_loop.lb k0_t1_loop.ub k0_t1_loop.st = 256 from trips1]
  unfold issued issuing
  icases HI with ⟨H0, ⟨B1, -⟩, ⟨B2, -⟩⟩
  iapply (Scf.wp_for_bind (I := fun k _ => drained c arg0 arg1 arg2 arg3 arg4 arg5 arg6 f0 f1 f2 f3 f4 hix k) (hbody := fun t a => drain_trip c arg0 arg1 arg2 arg3 arg4 arg5 arg6 f0 f1 f2 f3 f4 hix (harg0 := harg0) (harg1 := harg1) (harg2 := harg2) (harg3 := harg3) (harg4 := harg4) t a)) $$ [B1 B2 HW]
  · unfold drained
    isplitl [B1]; · iexact B1
    isplitl [B2]; · iexact B2
    iexists W; iexact HW
  iintro %_ HI
  rw [show Scf.trips k0_t2_loop.lb k0_t2_loop.ub k0_t2_loop.st = 2048 from trips2]
  unfold drained
  icases HI with ⟨B1, B2, HW⟩
  imod (finish c arg1 arg3 arg5.sem f1 f3 (ixOf (arg0.view.read (Elt F) f0)) hix) $$ [B1 A1] with ⟨H1, H3, S1⟩
  · isplitl [B1] <;> iassumption
  imod (finish c arg2 arg4 arg6.sem f2 f4 (ixOf (arg0.view.read (Elt F) f0)) hix) $$ [B2 A2] with ⟨H2, H4, S2⟩
  · isplitl [B2] <;> iassumption
  iapply (wp_done c)
  iapply Hk
  isplitl [H0]; · iexact H0
  isplitl [H1]; · iexact H1
  isplitl [H2]; · iexact H2
  isplitl [H3]; · iexact H3
  isplitl [H4]; · iexact H4
  isplitl [S1]; · iexact S1
  isplitl [S2]; · iexact S2
  iexact HW

end Body

end Cert.Proof.KI
-- ==== Proof.ScanStepsIdeal.lean ====
/-
  The idealized program, as ScanSteps.lean has the kernel.
  The recurrent pass's values and the single steps of its body: what the staging buffers hold, named by plain
  functions of the operands, and one lemma per kind of load and store over that state.
-/
module

public import proofs.«01_k».proof.Proof.GatherLoopIdeal
public import Idealize.ShloMosaic.Lib.VecWindow

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The pass's operands, by value. -/
structure Operands (F : FTy → Type) [FloatOps F] where
  x0 : Vec F S2048x256 .bf16
  x1 : Vec F S2048x256 .bf16
  x2 : Vec F S256x1536 .bf16
  x3 : Vec F S1x1536 .f32
  x4 : Vec F S512x1536 .bf16
  x5 : Vec F S1x1536 .f32
  x6 : Vec F S512x128 .bf16
  x7 : Vec F S1x128 .f32
  x8 : Vec F S128x512 .bf16
  x9 : Vec F S1x512 .f32
  x10 : Vec F S256x1536 .bf16
  x11 : Vec F S1x1536 .f32
  x12 : Vec F S512x1536 .bf16
  x13 : Vec F S1x1536 .f32

/-- The pass's memrefs, all whole. -/
structure Operrefs where
  a0 : Memref sig .tc .vmem S2048x256 .bf16
  h0 : a0.IsWhole
  a1 : Memref sig .tc .vmem S2048x256 .bf16
  h1 : a1.IsWhole
  a2 : Memref sig .tc .vmem S256x1536 .bf16
  h2 : a2.IsWhole
  a3 : Memref sig .tc .vmem S1x1536 .f32
  h3 : a3.IsWhole
  a4 : Memref sig .tc .vmem S512x1536 .bf16
  h4 : a4.IsWhole
  a5 : Memref sig .tc .vmem S1x1536 .f32
  h5 : a5.IsWhole
  a6 : Memref sig .tc .vmem S512x128 .bf16
  h6 : a6.IsWhole
  a7 : Memref sig .tc .vmem S1x128 .f32
  h7 : a7.IsWhole
  a8 : Memref sig .tc .vmem S128x512 .bf16
  h8 : a8.IsWhole
  a9 : Memref sig .tc .vmem S1x512 .f32
  h9 : a9.IsWhole
  a10 : Memref sig .tc .vmem S256x1536 .bf16
  h10 : a10.IsWhole
  a11 : Memref sig .tc .vmem S1x1536 .f32
  h11 : a11.IsWhole
  a12 : Memref sig .tc .vmem S512x1536 .bf16
  h12 : a12.IsWhole
  a13 : Memref sig .tc .vmem S1x1536 .f32
  h13 : a13.IsWhole
  a14 : Memref sig .tc .vmem S16x128 .f32
  h14 : a14.IsWhole
  a15 : Memref sig .tc .vmem S128x16x512 .bf16
  h15 : a15.IsWhole
  a16 : Memref sig .tc .vmem S2048x1536 .f32
  h16 : a16.IsWhole

/-! ## The values -/

/-- Rows `128 i` to `128 i + 127` of the input projection `x w + b`. -/
def chunk (x : Vec F S2048x256 .bf16) (w : Vec F S256x1536 .bf16) (b : Vec F S1x1536 .f32) (i : ℕ) (hi : i < 16) : FVec F S128x1536 .f32 :=
  k1_pay6 (VecWindow.window x ![128 * i, 0] S128x256.size (by
    intro a; fin_cases a
    · change 128 * i + 128 ≤ 2048; omega
    · change 0 + 256 ≤ 256; omega)) w b

/-- The input projection of all tokens, chunk by chunk. -/
def proj (x : Vec F S2048x256 .bf16) (w : Vec F S256x1536 .bf16) (b : Vec F S1x1536 .f32) : Vec F S2048x1536 .f32 :=
  fun y => chunk x w b ((y 0).val / 128) (by have : (y 0).val < 2048 := (y 0).isLt; omega)
    (fun | ⟨0, _⟩ => ⟨(y 0).val % 128, Nat.mod_lt _ (by decide)⟩ | ⟨1, _⟩ => ⟨(y 1).val, (y 1).isLt⟩)

/-- The sixteen rows of step `n` of a projection. -/
def rowsOf (P : Vec F S2048x1536 .f32) (n : ℕ) : Vec F S16x1536 .f32 :=
  fun y => P (fun | ⟨0, _⟩ => ⟨(16 * n + (y 0).val) % 2048, Nat.mod_lt _ (by decide)⟩ | ⟨1, _⟩ => ⟨(y 1).val, (y 1).isLt⟩)

/-- The hidden state after `n` steps from `h0`. -/
def hidden (P : Vec F S2048x1536 .f32) (w : Vec F S512x1536 .bf16) (b : Vec F S1x1536 .f32) (h0 : FVec F S16x512 .f32) : ℕ → FVec F S16x512 .f32
  | 0 => h0
  | n + 1 => k1_pay2 (hidden P w b h0 n) (rowsOf P n) w b

/-- A hidden state as one slab of the states' array. -/
def slab (h : FVec F S16x512 .f32) : FVec F S1x16x512 .bf16 :=
  shapeCast S1x16x512 (truncf .bf16 h bitsLt_bf16_f32) shapeCasts_S16x512_S1x16x512

variable (X : Operands F)

abbrev encProj : Vec F S2048x1536 .f32 := proj X.x0 X.x2 X.x3
abbrev decProj : Vec F S2048x1536 .f32 := proj X.x1 X.x10 X.x11
/-- The encoder's last state. -/
def encLast : FVec F S16x512 .f32 := hidden (encProj X) X.x4 X.x5 k1_pay28 128
/-- The latent. -/
def latent : FVec F S16x128 .f32 := k1_pay30 (encLast X) X.x6 X.x7
/-- The decoder's first state. -/
def decInit : FVec F S16x512 .f32 := k1_pay31 (encLast X) X.x6 X.x7 X.x8 X.x9
def decHidden (n : ℕ) : FVec F S16x512 .f32 := hidden (decProj X) X.x12 X.x13 (decInit X) n
/-- The slab of step `n`: zeros, then the decoder's states. -/
def slabAt (n : ℕ) : FVec F S1x16x512 .bf16 := if n = 0 then k1_pay52 else slab (decHidden X n)
/-- All the slabs. -/
def slabs : Vec F S128x16x512 .bf16 := fun y => slabAt X (y 0).val
  (fun | ⟨0, _⟩ => ⟨0, Nat.zero_lt_one⟩ | ⟨1, _⟩ => ⟨(y 1).val, (y 1).isLt⟩ | ⟨2, _⟩ => ⟨(y 2).val, (y 2).isLt⟩)

/-! ## The state -/

section State
variable (c : Dev nD) (R : Operrefs)

/-- The operands' buffers. -/
def operandsHeld : sProp 𝕄 :=
  iprop(owns (c : Thread nD τ) R.a0 fullShare X.x0 ∗ owns (c : Thread nD τ) R.a1 fullShare X.x1 ∗ owns (c : Thread nD τ) R.a2 fullShare X.x2 ∗ owns (c : Thread nD τ) R.a3 fullShare X.x3 ∗ owns (c : Thread nD τ) R.a4 fullShare X.x4 ∗ owns (c : Thread nD τ) R.a5 fullShare X.x5 ∗ owns (c : Thread nD τ) R.a6 fullShare X.x6 ∗ owns (c : Thread nD τ) R.a7 fullShare X.x7 ∗ owns (c : Thread nD τ) R.a8 fullShare X.x8 ∗ owns (c : Thread nD τ) R.a9 fullShare X.x9 ∗ owns (c : Thread nD τ) R.a10 fullShare X.x10 ∗ owns (c : Thread nD τ) R.a11 fullShare X.x11 ∗ owns (c : Thread nD τ) R.a12 fullShare X.x12 ∗ owns (c : Thread nD τ) R.a13 fullShare X.x13)

/-- The operands, and the two results and the projection scratch at contents with the given properties. -/
def scanState (Pz : Vec F S16x128 .f32 → Prop) (Ph : Vec F S128x16x512 .bf16 → Prop) (Pg : Vec F S2048x1536 .f32 → Prop) : sProp 𝕄 :=
  iprop(operandsHeld X c R
    ∗ (∃ z, ⌜Pz z⌝ ∗ owns (c : Thread nD τ) R.a14 fullShare z)
    ∗ (∃ h, ⌜Ph h⌝ ∗ owns (c : Thread nD τ) R.a15 fullShare h)
    ∗ (∃ g, ⌜Pg g⌝ ∗ owns (c : Thread nD τ) R.a16 fullShare g))

/-- The first `128 j` rows are the projection's. -/
def rowsTo (P : Vec F S2048x1536 .f32) (j : ℕ) (g : Vec F S2048x1536 .f32) : Prop := ∀ y, (y 0).val < 128 * j → g y = P y
/-- The first `j` slabs are as they should be. -/
def slabsTo (j : ℕ) (h : Vec F S128x16x512 .bf16) : Prop := ∀ y, (y 0).val < j → h y = slabs X y

theorem rowsTo_zero (P g : Vec F S2048x1536 .f32) : rowsTo P 0 g := fun y hy => absurd hy (Nat.not_lt_zero _)
theorem slabsTo_zero (h : Vec F S128x16x512 .bf16) : slabsTo X 0 h := fun y hy => absurd hy (Nat.not_lt_zero _)
theorem rowsTo_all {P g : Vec F S2048x1536 .f32} (h : rowsTo P 16 g) : g = P :=
  funext fun y => h y (by have : (y 0).val < 2048 := (y 0).isLt; omega)
theorem slabsTo_all {h : Vec F S128x16x512 .bf16} (hh : slabsTo X 128 h) : h = slabs X :=
  funext fun y => hh y (y 0).isLt

/-! ## Loads and stores of one buffer -/

theorem step_load {cs : CoreSpace} {s : Shape} {e : EltTy} (m : Memref sig .tc cs s e) (q : PosShare TreeShare) (x : s.Idx → Elt F e)
    {off off' size : Fin s.rank → ℕ} (inb : ∀ a, off a + size a ≤ s.size a) (h : off = off') (inb' : ∀ a, off' a + size a ≤ s.size a) {hl}
    {α : Type} (K : ((Rect.unit off size inb).shape.Idx → Elt F e) → Prog (TpuEff nD τ sig (Elt F) Λ₀ .tc) α) (Q : α → sProp 𝕄) :
    owns (c : Thread nD τ) m q x
      ⊢ iprop((owns (c : Thread nD τ) m q x -∗ wp frame (wpE (defs₀ (F := F)) Variants.none (c : Thread nD τ) none) Set.univ (K (VecWindow.window x off' size inb')) Q)
        -∗ wp frame (wpE (defs₀ (F := F)) Variants.none (c : Thread nD τ) none) Set.univ (Prog.lift (.load m (Rect.unit off size inb).toLoadRect hl) >>= K) Q) := by
  unfold owns
  iintro ⟨%f, %hf, H⟩ Hk
  iapply (wp_load Variants.none (c : Thread nD τ) none Set.univ (m := m) (r := (Rect.unit off size inb).toLoadRect) (hl := hl) (k := K) (Q := Q)
    (S := m.view.set) (q := q) (f := f) (View.setOn_subset_set _ _)) $$ H
  iintro H
  rw [View.readAt_unit m.view f inb h inb', hf]
  iapply Hk
  iexists f
  isplitr; · ipureintro; exact hf
  iexact H

theorem step_store {cs : CoreSpace} {s : Shape} {e : EltTy} (m : Memref sig .tc cs s e) (x : s.Idx → Elt F e)
    {off off' size : Fin s.rank → ℕ} (inb : ∀ a, off a + size a ≤ s.size a) (h : off = off') (w : (Rect.unit off size inb).shape.Idx → Elt F e) {hx hm}
    {α : Type} (K : PUnit → Prog (TpuEff nD τ sig (Elt F) Λ₀ .tc) α) (Q : α → sProp 𝕄) :
    owns (c : Thread nD τ) m fullShare x
      ⊢ iprop((owns (c : Thread nD τ) m fullShare (VecWindow.put x off' size w) -∗ wp frame (wpE (defs₀ (F := F)) Variants.none (c : Thread nD τ) none) Set.univ (K ⟨⟩) Q)
        -∗ wp frame (wpE (defs₀ (F := F)) Variants.none (c : Thread nD τ) none) Set.univ (Prog.lift (.store m (Rect.unit off size inb) w Finset.univ hx hm) >>= K) Q) := by
  unfold owns
  iintro ⟨%f, %hf, H⟩ Hk
  iapply (wp_store Variants.none (c : Thread nD τ) none Set.univ (m := m) (r := Rect.unit off size inb) (w := w) (Mk := Finset.univ) (hx := hx) (hm := hm) (k := K) (Q := Q)
    (S := m.view.set) (f := f) (by rw [View.setOn_univ]; exact View.set_slice_subset _ _)) $$ H
  iintro H
  iapply Hk
  iexists _
  isplitr
  swap; · iexact H
  ipureintro
  subst hf
  exact View.read_writes_cons_put m.view f inb w [] h

theorem window_full {s : Shape} {α : Type} (x : s.Idx → α) {off : Fin s.rank → ℕ} (inb : ∀ a, off a + s.size a ≤ s.size a) :
    VecWindow.window x off s.size inb = x :=
  funext fun y => congrArg x (Rect.emb_unit_full inb y)

theorem get0 : operandsHeld X c R ⊢ iprop(owns (c : Thread nD τ) R.a0 fullShare X.x0 ∗ (owns (c : Thread nD τ) R.a0 fullShare X.x0 -∗ operandsHeld X c R)) := by
  unfold operandsHeld
  iintro ⟨H0, H1, H2, H3, H4, H5, H6, H7, H8, H9, H10, H11, H12, H13⟩
  isplitl [H0]; · iexact H0
  iintro H0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get1 : operandsHeld X c R ⊢ iprop(owns (c : Thread nD τ) R.a1 fullShare X.x1 ∗ (owns (c : Thread nD τ) R.a1 fullShare X.x1 -∗ operandsHeld X c R)) := by
  unfold operandsHeld
  iintro ⟨H0, H1, H2, H3, H4, H5, H6, H7, H8, H9, H10, H11, H12, H13⟩
  isplitl [H1]; · iexact H1
  iintro H1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get2 : operandsHeld X c R ⊢ iprop(owns (c : Thread nD τ) R.a2 fullShare X.x2 ∗ (owns (c : Thread nD τ) R.a2 fullShare X.x2 -∗ operandsHeld X c R)) := by
  unfold operandsHeld
  iintro ⟨H0, H1, H2, H3, H4, H5, H6, H7, H8, H9, H10, H11, H12, H13⟩
  isplitl [H2]; · iexact H2
  iintro H2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get3 : operandsHeld X c R ⊢ iprop(owns (c : Thread nD τ) R.a3 fullShare X.x3 ∗ (owns (c : Thread nD τ) R.a3 fullShare X.x3 -∗ operandsHeld X c R)) := by
  unfold operandsHeld
  iintro ⟨H0, H1, H2, H3, H4, H5, H6, H7, H8, H9, H10, H11, H12, H13⟩
  isplitl [H3]; · iexact H3
  iintro H3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get4 : operandsHeld X c R ⊢ iprop(owns (c : Thread nD τ) R.a4 fullShare X.x4 ∗ (owns (c : Thread nD τ) R.a4 fullShare X.x4 -∗ operandsHeld X c R)) := by
  unfold operandsHeld
  iintro ⟨H0, H1, H2, H3, H4, H5, H6, H7, H8, H9, H10, H11, H12, H13⟩
  isplitl [H4]; · iexact H4
  iintro H4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get5 : operandsHeld X c R ⊢ iprop(owns (c : Thread nD τ) R.a5 fullShare X.x5 ∗ (owns (c : Thread nD τ) R.a5 fullShare X.x5 -∗ operandsHeld X c R)) := by
  unfold operandsHeld
  iintro ⟨H0, H1, H2, H3, H4, H5, H6, H7, H8, H9, H10, H11, H12, H13⟩
  isplitl [H5]; · iexact H5
  iintro H5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get6 : operandsHeld X c R ⊢ iprop(owns (c : Thread nD τ) R.a6 fullShare X.x6 ∗ (owns (c : Thread nD τ) R.a6 fullShare X.x6 -∗ operandsHeld X c R)) := by
  unfold operandsHeld
  iintro ⟨H0, H1, H2, H3, H4, H5, H6, H7, H8, H9, H10, H11, H12, H13⟩
  isplitl [H6]; · iexact H6
  iintro H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get7 : operandsHeld X c R ⊢ iprop(owns (c : Thread nD τ) R.a7 fullShare X.x7 ∗ (owns (c : Thread nD τ) R.a7 fullShare X.x7 -∗ operandsHeld X c R)) := by
  unfold operandsHeld
  iintro ⟨H0, H1, H2, H3, H4, H5, H6, H7, H8, H9, H10, H11, H12, H13⟩
  isplitl [H7]; · iexact H7
  iintro H7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get8 : operandsHeld X c R ⊢ iprop(owns (c : Thread nD τ) R.a8 fullShare X.x8 ∗ (owns (c : Thread nD τ) R.a8 fullShare X.x8 -∗ operandsHeld X c R)) := by
  unfold operandsHeld
  iintro ⟨H0, H1, H2, H3, H4, H5, H6, H7, H8, H9, H10, H11, H12, H13⟩
  isplitl [H8]; · iexact H8
  iintro H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get9 : operandsHeld X c R ⊢ iprop(owns (c : Thread nD τ) R.a9 fullShare X.x9 ∗ (owns (c : Thread nD τ) R.a9 fullShare X.x9 -∗ operandsHeld X c R)) := by
  unfold operandsHeld
  iintro ⟨H0, H1, H2, H3, H4, H5, H6, H7, H8, H9, H10, H11, H12, H13⟩
  isplitl [H9]; · iexact H9
  iintro H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get10 : operandsHeld X c R ⊢ iprop(owns (c : Thread nD τ) R.a10 fullShare X.x10 ∗ (owns (c : Thread nD τ) R.a10 fullShare X.x10 -∗ operandsHeld X c R)) := by
  unfold operandsHeld
  iintro ⟨H0, H1, H2, H3, H4, H5, H6, H7, H8, H9, H10, H11, H12, H13⟩
  isplitl [H10]; · iexact H10
  iintro H10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get11 : operandsHeld X c R ⊢ iprop(owns (c : Thread nD τ) R.a11 fullShare X.x11 ∗ (owns (c : Thread nD τ) R.a11 fullShare X.x11 -∗ operandsHeld X c R)) := by
  unfold operandsHeld
  iintro ⟨H0, H1, H2, H3, H4, H5, H6, H7, H8, H9, H10, H11, H12, H13⟩
  isplitl [H11]; · iexact H11
  iintro H11
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get12 : operandsHeld X c R ⊢ iprop(owns (c : Thread nD τ) R.a12 fullShare X.x12 ∗ (owns (c : Thread nD τ) R.a12 fullShare X.x12 -∗ operandsHeld X c R)) := by
  unfold operandsHeld
  iintro ⟨H0, H1, H2, H3, H4, H5, H6, H7, H8, H9, H10, H11, H12, H13⟩
  isplitl [H12]; · iexact H12
  iintro H12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem get13 : operandsHeld X c R ⊢ iprop(owns (c : Thread nD τ) R.a13 fullShare X.x13 ∗ (owns (c : Thread nD τ) R.a13 fullShare X.x13 -∗ operandsHeld X c R)) := by
  unfold operandsHeld
  iintro ⟨H0, H1, H2, H3, H4, H5, H6, H7, H8, H9, H10, H11, H12, H13⟩
  isplitl [H13]; · iexact H13
  iintro H13
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

variable (Pz : Vec F S16x128 .f32 → Prop) (Ph : Vec F S128x16x512 .bf16 → Prop) (Pg : Vec F S2048x1536 .f32 → Prop)

/-- A load of an operand. -/
theorem load_operand {s : Shape} {e : EltTy} (m : Memref sig .tc .vmem s e) (x : s.Idx → Elt F e)
    (get : operandsHeld X c R ⊢ iprop(owns (c : Thread nD τ) m fullShare x ∗ (owns (c : Thread nD τ) m fullShare x -∗ operandsHeld X c R)))
    {off size : Fin s.rank → ℕ} (inb : ∀ a, off a + size a ≤ s.size a) {hl}
    {α : Type} (K : ((Rect.unit off size inb).shape.Idx → Elt F e) → Prog (TpuEff nD τ sig (Elt F) Λ₀ .tc) α) (Q : α → sProp 𝕄) :
    scanState X c R Pz Ph Pg
      ⊢ iprop((scanState X c R Pz Ph Pg -∗ wp frame (wpE (defs₀ (F := F)) Variants.none (c : Thread nD τ) none) Set.univ (K (VecWindow.window x off size inb)) Q)
        -∗ wp frame (wpE (defs₀ (F := F)) Variants.none (c : Thread nD τ) none) Set.univ (Prog.lift (.load m (Rect.unit off size inb).toLoadRect hl) >>= K) Q) := by
  unfold scanState
  iintro ⟨HO, Hr⟩ Hk
  ihave H := get $$ HO
  icases H with ⟨H, Hb⟩
  iapply (step_load c m fullShare x inb rfl inb K Q) $$ H
  iintro H
  iapply Hk
  isplitl [H Hb]
  · iapply Hb; iexact H
  iexact Hr

/-- A load of a whole operand. -/
theorem load_whole {s : Shape} {e : EltTy} (m : Memref sig .tc .vmem s e) (x : s.Idx → Elt F e)
    (get : operandsHeld X c R ⊢ iprop(owns (c : Thread nD τ) m fullShare x ∗ (owns (c : Thread nD τ) m fullShare x -∗ operandsHeld X c R)))
    {off : Fin s.rank → ℕ} (inb : ∀ a, off a + s.size a ≤ s.size a) {hl}
    {α : Type} (K : (s.Idx → Elt F e) → Prog (TpuEff nD τ sig (Elt F) Λ₀ .tc) α) (Q : α → sProp 𝕄) :
    scanState X c R Pz Ph Pg
      ⊢ iprop((scanState X c R Pz Ph Pg -∗ wp frame (wpE (defs₀ (F := F)) Variants.none (c : Thread nD τ) none) Set.univ (K x) Q)
        -∗ wp frame (wpE (defs₀ (F := F)) Variants.none (c : Thread nD τ) none) Set.univ (Prog.lift (.load m (Rect.unit off s.size inb).toLoadRect hl) >>= K) Q) := by
  have h := load_operand X c R Pz Ph Pg m x get inb (hl := hl) K Q
  rwa [window_full x inb] at h

/-- A load of the latent's buffer, whatever it reads. -/
theorem load_z {off size : Fin S16x128.rank → ℕ} (inb : ∀ a, off a + size a ≤ S16x128.size a) {hl}
    {α : Type} (K : ((Rect.unit off size inb).shape.Idx → Elt F .f32) → Prog (TpuEff nD τ sig (Elt F) Λ₀ .tc) α) (Q : α → sProp 𝕄) :
    scanState X c R Pz Ph Pg
      ⊢ iprop((∀ v, scanState X c R Pz Ph Pg -∗ wp frame (wpE (defs₀ (F := F)) Variants.none (c : Thread nD τ) none) Set.univ (K v) Q)
        -∗ wp frame (wpE (defs₀ (F := F)) Variants.none (c : Thread nD τ) none) Set.univ (Prog.lift (.load R.a14 (Rect.unit off size inb).toLoadRect hl) >>= K) Q) := by
  unfold scanState
  iintro ⟨HO, ⟨%z, %hz, Hz⟩, Hr⟩ Hk
  iapply (step_load c R.a14 fullShare z inb rfl inb K Q) $$ Hz
  iintro Hz
  iapply Hk
  isplitl [HO]; · iexact HO
  isplitl [Hz]
  · iexists z; isplitr; · ipureintro; exact hz
    iexact Hz
  iexact Hr

/-- A load of the states' buffer, whatever it reads. -/
theorem load_h {off size : Fin S128x16x512.rank → ℕ} (inb : ∀ a, off a + size a ≤ S128x16x512.size a) {hl}
    {α : Type} (K : ((Rect.unit off size inb).shape.Idx → Elt F .bf16) → Prog (TpuEff nD τ sig (Elt F) Λ₀ .tc) α) (Q : α → sProp 𝕄) :
    scanState X c R Pz Ph Pg
      ⊢ iprop((∀ v, scanState X c R Pz Ph Pg -∗ wp frame (wpE (defs₀ (F := F)) Variants.none (c : Thread nD τ) none) Set.univ (K v) Q)
        -∗ wp frame (wpE (defs₀ (F := F)) Variants.none (c : Thread nD τ) none) Set.univ (Prog.lift (.load R.a15 (Rect.unit off size inb).toLoadRect hl) >>= K) Q) := by
  unfold scanState
  iintro ⟨HO, Hz, ⟨%h, %hh, Hh⟩, Hr⟩ Hk
  iapply (step_load c R.a15 fullShare h inb rfl inb K Q) $$ Hh
  iintro Hh
  iapply Hk
  isplitl [HO]; · iexact HO
  isplitl [Hz]; · iexact Hz
  isplitl [Hh]
  · iexists h; isplitr; · ipureintro; exact hh
    iexact Hh
  iexact Hr

/-- A load of the scratch, at whatever contents it has. -/
theorem load_g {off off' size : Fin S2048x1536.rank → ℕ} (inb : ∀ a, off a + size a ≤ S2048x1536.size a) (e : off = off')
    (inb' : ∀ a, off' a + size a ≤ S2048x1536.size a) {hl}
    {α : Type} (K : ((Rect.unit off size inb).shape.Idx → Elt F .f32) → Prog (TpuEff nD τ sig (Elt F) Λ₀ .tc) α) (Q : α → sProp 𝕄) :
    scanState X c R Pz Ph Pg
      ⊢ iprop((∀ g, ⌜Pg g⌝ -∗ scanState X c R Pz Ph Pg -∗ wp frame (wpE (defs₀ (F := F)) Variants.none (c : Thread nD τ) none) Set.univ (K (VecWindow.window g off' size inb')) Q)
        -∗ wp frame (wpE (defs₀ (F := F)) Variants.none (c : Thread nD τ) none) Set.univ (Prog.lift (.load R.a16 (Rect.unit off size inb).toLoadRect hl) >>= K) Q) := by
  unfold scanState
  iintro ⟨HO, Hz, Hh, ⟨%g, %hg, Hg⟩⟩ Hk
  iapply (step_load c R.a16 fullShare g inb e inb' K Q) $$ Hg
  iintro Hg
  ispecialize Hk $$ %g %hg
  iapply Hk
  isplitl [HO]; · iexact HO
  isplitl [Hz]; · iexact Hz
  isplitl [Hh]; · iexact Hh
  iexists g; isplitr; · ipureintro; exact hg
  iexact Hg

/-- A load of the scratch, whatever it reads. -/
theorem load_g_any {off size : Fin S2048x1536.rank → ℕ} (inb : ∀ a, off a + size a ≤ S2048x1536.size a) {hl}
    {α : Type} (K : ((Rect.unit off size inb).shape.Idx → Elt F .f32) → Prog (TpuEff nD τ sig (Elt F) Λ₀ .tc) α) (Q : α → sProp 𝕄) :
    scanState X c R Pz Ph Pg
      ⊢ iprop((∀ v, scanState X c R Pz Ph Pg -∗ wp frame (wpE (defs₀ (F := F)) Variants.none (c : Thread nD τ) none) Set.univ (K v) Q)
        -∗ wp frame (wpE (defs₀ (F := F)) Variants.none (c : Thread nD τ) none) Set.univ (Prog.lift (.load R.a16 (Rect.unit off size inb).toLoadRect hl) >>= K) Q) := by
  iintro H Hk
  iapply (load_g X c R Pz Ph Pg inb rfl inb K Q) $$ H
  iintro %g %hg H
  iapply Hk
  iexact H

theorem window_rows (P : Vec F S2048x1536 .f32) (n : ℕ) (hn : n < 128) (inb : ∀ a, (![16 * n, 0] : Fin 2 → ℕ) a + S16x1536.size a ≤ S2048x1536.size a) :
    VecWindow.window P ![16 * n, 0] S16x1536.size inb = rowsOf P n := by
  funext y
  unfold VecWindow.window rowsOf
  congr 1
  funext a
  refine Fin.ext ?_
  have h0 : (y 0).val < 16 := (y 0).isLt
  fin_cases a
  · change 16 * n + 1 * (y 0).val = (16 * n + (y 0).val) % 2048
    omega
  · change 0 + 1 * (y 1).val = (y 1).val
    omega

/-- A load of step `n`'s rows of a complete projection. -/
theorem load_rows (P : Vec F S2048x1536 .f32) (n : ℕ) (hn : n < 128) {off : Fin S2048x1536.rank → ℕ} (inb : ∀ a, off a + S16x1536.size a ≤ S2048x1536.size a) (e : off = ![16 * n, 0]) {hl}
    {α : Type} (K : (S16x1536.Idx → Elt F .f32) → Prog (TpuEff nD τ sig (Elt F) Λ₀ .tc) α) (Q : α → sProp 𝕄) :
    scanState X c R Pz Ph (rowsTo P 16)
      ⊢ iprop((scanState X c R Pz Ph (rowsTo P 16) -∗ wp frame (wpE (defs₀ (F := F)) Variants.none (c : Thread nD τ) none) Set.univ (K (rowsOf P n)) Q)
        -∗ wp frame (wpE (defs₀ (F := F)) Variants.none (c : Thread nD τ) none) Set.univ (Prog.lift (.load R.a16 (Rect.unit off S16x1536.size inb).toLoadRect hl) >>= K) Q) := by
  iintro H Hk
  iapply (load_g X c R Pz Ph (rowsTo P 16) inb e (e ▸ inb) K Q) $$ H
  iintro %g %hg H
  rw [rowsTo_all hg, window_rows P n hn]
  iapply Hk
  iexact H

/-- The latent's store. -/
theorem store_z {off : Fin S16x128.rank → ℕ} (inb : ∀ a, off a + S16x128.size a ≤ S16x128.size a) (w : S16x128.Idx → Elt F .f32) {hx hm}
    {α : Type} (K : PUnit → Prog (TpuEff nD τ sig (Elt F) Λ₀ .tc) α) (Q : α → sProp 𝕄) :
    scanState X c R Pz Ph Pg
      ⊢ iprop((scanState X c R (fun z => z = w) Ph Pg -∗ wp frame (wpE (defs₀ (F := F)) Variants.none (c : Thread nD τ) none) Set.univ (K ⟨⟩) Q)
        -∗ wp frame (wpE (defs₀ (F := F)) Variants.none (c : Thread nD τ) none) Set.univ (Prog.lift (.store R.a14 (Rect.unit off S16x128.size inb) w Finset.univ hx hm) >>= K) Q) := by
  unfold scanState
  iintro ⟨HO, ⟨%z, %hz, Hz⟩, Hr⟩ Hk
  iapply (step_store c R.a14 z inb rfl w K Q) $$ Hz
  iintro Hz
  iapply Hk
  isplitl [HO]; · iexact HO
  isplitl [Hz]
  · iexists _; isplitr
    swap; · iexact Hz
    ipureintro
    have h := VecWindow.window_put_same z off S16x128.size inb w
    rwa [window_full] at h
  iexact Hr

/-- The store of slab `j`. -/
theorem store_h (j : ℕ) {off : Fin S128x16x512.rank → ℕ} (inb : ∀ a, off a + S1x16x512.size a ≤ S128x16x512.size a) (e : off = ![j, 0, 0])
    (w : S1x16x512.Idx → Elt F .bf16) (hw : w = slabAt X j) {hx hm}
    {α : Type} (K : PUnit → Prog (TpuEff nD τ sig (Elt F) Λ₀ .tc) α) (Q : α → sProp 𝕄) :
    scanState X c R Pz (slabsTo X j) Pg
      ⊢ iprop((scanState X c R Pz (slabsTo X (j + 1)) Pg -∗ wp frame (wpE (defs₀ (F := F)) Variants.none (c : Thread nD τ) none) Set.univ (K ⟨⟩) Q)
        -∗ wp frame (wpE (defs₀ (F := F)) Variants.none (c : Thread nD τ) none) Set.univ (Prog.lift (.store R.a15 (Rect.unit off S1x16x512.size inb) w Finset.univ hx hm) >>= K) Q) := by
  unfold scanState
  iintro ⟨HO, Hz, ⟨%h, %hh, Hh⟩, Hr⟩ Hk
  iapply (step_store c R.a15 h inb e w K Q) $$ Hh
  iintro Hh
  iapply Hk
  isplitl [HO]; · iexact HO
  isplitl [Hz]; · iexact Hz
  isplitl [Hh]
  · iexists _; isplitr
    swap; · iexact Hh
    ipureintro
    intro y hy
    unfold VecWindow.put
    by_cases hj : (y 0).val < j
    · rw [dif_neg]
      · exact hh y hj
      · intro hc
        have := (hc 0).1
        change j ≤ (y 0).val at this
        omega
    · have hj' : (y 0).val = j := by omega
      rw [dif_pos]
      · rw [hw]; unfold slabs; rw [hj']
        congr 1
        funext a
        refine Fin.ext ?_
        fin_cases a
        · change (y 0).val - j = 0; omega
        · rfl
        · rfl
      · intro a
        fin_cases a
        · change j ≤ (y 0).val ∧ (y 0).val < j + 1; omega
        · change 0 ≤ (y 1).val ∧ (y 1).val < 0 + 16
          have : (y 1).val < 16 := (y 1).isLt
          omega
        · change 0 ≤ (y 2).val ∧ (y 2).val < 0 + 512
          have : (y 2).val < 512 := (y 2).isLt
          omega
  iexact Hr

/-- The store of chunk `j` of a projection. -/
theorem store_g (x : Vec F S2048x256 .bf16) (wt : Vec F S256x1536 .bf16) (b : Vec F S1x1536 .f32) (j : ℕ) (hj : j < 16)
    {off : Fin S2048x1536.rank → ℕ} (inb : ∀ a, off a + S128x1536.size a ≤ S2048x1536.size a) (e : off = ![128 * j, 0])
    (w : S128x1536.Idx → Elt F .f32) (hw : w = chunk x wt b j hj) {hx hm}
    {α : Type} (K : PUnit → Prog (TpuEff nD τ sig (Elt F) Λ₀ .tc) α) (Q : α → sProp 𝕄) :
    scanState X c R Pz Ph (rowsTo (proj x wt b) j)
      ⊢ iprop((scanState X c R Pz Ph (rowsTo (proj x wt b) (j + 1)) -∗ wp frame (wpE (defs₀ (F := F)) Variants.none (c : Thread nD τ) none) Set.univ (K ⟨⟩) Q)
        -∗ wp frame (wpE (defs₀ (F := F)) Variants.none (c : Thread nD τ) none) Set.univ (Prog.lift (.store R.a16 (Rect.unit off S128x1536.size inb) w Finset.univ hx hm) >>= K) Q) := by
  unfold scanState
  iintro ⟨HO, Hz, Hh, ⟨%g, %hg, Hg⟩⟩ Hk
  iapply (step_store c R.a16 g inb e w K Q) $$ Hg
  iintro Hg
  iapply Hk
  isplitl [HO]; · iexact HO
  isplitl [Hz]; · iexact Hz
  isplitl [Hh]; · iexact Hh
  iexists _; isplitr
  swap; · iexact Hg
  ipureintro
  intro y hy
  unfold VecWindow.put
  by_cases hlt : (y 0).val < 128 * j
  · rw [dif_neg]
    · exact hg y hlt
    · intro hc
      have := (hc 0).1
      change 128 * j ≤ (y 0).val at this
      omega
  · have hq : (y 0).val / 128 = j := by omega
    rw [dif_pos]
    · rw [hw]; unfold proj
      subst hq
      congr 1
      funext a
      refine Fin.ext ?_
      fin_cases a
      · change (y 0).val - 128 * ((y 0).val / 128) = (y 0).val % 128; omega
      · rfl
    · intro a
      fin_cases a
      · change 128 * j ≤ (y 0).val ∧ (y 0).val < 128 * j + 128; omega
      · change 0 ≤ (y 1).val ∧ (y 1).val < 0 + 1536
        have : (y 1).val < 1536 := (y 1).isLt
        omega

variable {Pz Ph Pg} in
/-- The state at weaker properties. -/
theorem scanState_mono {Pz' Ph' Pg'} (hz : ∀ z, Pz z → Pz' z) (hh : ∀ h, Ph h → Ph' h) (hg : ∀ g, Pg g → Pg' g) :
    scanState X c R Pz Ph Pg ⊢ scanState X c R Pz' Ph' Pg' := by
  unfold scanState
  iintro ⟨HO, ⟨%z, %hz', Hz⟩, ⟨%h, %hh', Hh⟩, ⟨%g, %hg', Hg⟩⟩
  isplitl [HO]; · iexact HO
  isplitl [Hz]
  · iexists z; isplitr; · ipureintro; exact hz z hz'
    iexact Hz
  isplitl [Hh]
  · iexists h; isplitr; · ipureintro; exact hh h hh'
    iexact Hh
  iexists g; isplitr; · ipureintro; exact hg g hg'
  iexact Hg

end State

end Cert.Proof.KI
-- ==== Proof.ScanIdeal.lean ====
/-
  The idealized program, as Scan.lean has the kernel.
  The recurrent pass's body: the lemmas of its printed parts, its two loops, and what the whole body leaves.
-/
module

public import proofs.«01_k».proof.Proof.ScanStepsIdeal

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (X : Operands F) (c : Dev nD) (R : Operrefs)

theorem slabAt_succ (n : ℕ) : slabAt X (n + 1) = slab (decHidden X (n + 1)) := if_neg (Nat.succ_ne_zero n)

theorem trips1' : k1_t1_loop.trips = 64 := by decide +kernel
theorem trips2' : k1_t2_loop.trips = 63 := by decide +kernel

theorem scan_part3 {Pz : Vec F S16x128 .f32 → Prop} {Ph : Vec F S128x16x512 .bf16 → Prop} :
    scanState X c R Pz Ph (rowsTo (encProj X) 0) ⊢ wp frame (wpE (defs₀ (F := F)) Variants.none (c : Thread nD τ) none) Set.univ (k1_part3 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16)
      (fun r => iprop(⌜r = (k1_pay8 (VecWindow.window X.x0 ![256, 0] S128x256.size inb_S2048x256_S128x256_256_0) X.x2 X.x3)⌝ ∗ scanState X c R Pz Ph (rowsTo (encProj X) 2))) := by
  rw [k1_part3_eq_skeleton]; unfold k1_part3_skel
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 0 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 1 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (wp_done c)
  isplitr; · ipureintro; rfl
  iexact H

theorem scan_part4 {Pz : Vec F S16x128 .f32 → Prop} {Ph : Vec F S128x16x512 .bf16 → Prop} :
    scanState X c R Pz Ph (rowsTo (encProj X) 2) ⊢ wp frame (wpE (defs₀ (F := F)) Variants.none (c : Thread nD τ) none) Set.univ (k1_part4 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (k1_pay8 (VecWindow.window X.x0 ![256, 0] S128x256.size inb_S2048x256_S128x256_256_0) X.x2 X.x3))
      (fun r => iprop(⌜r = (k1_pay12 (VecWindow.window X.x0 ![640, 0] S128x256.size inb_S2048x256_S128x256_640_0) X.x2)⌝ ∗ scanState X c R Pz Ph (rowsTo (encProj X) 5))) := by
  rw [k1_part4_eq_skeleton]; unfold k1_part4_skel
  iintro H
  iapply (load_g_any X c R _ _ _ _ _ _) $$ H
  iintro %_ H
  iapply (store_g X c R _ _ X.x0 X.x2 X.x3 2 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 3 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 4 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (wp_done c)
  isplitr; · ipureintro; rfl
  iexact H

theorem scan_part5 {Pz : Vec F S16x128 .f32 → Prop} {Ph : Vec F S128x16x512 .bf16 → Prop} :
    scanState X c R Pz Ph (rowsTo (encProj X) 5) ⊢ wp frame (wpE (defs₀ (F := F)) Variants.none (c : Thread nD τ) none) Set.univ (k1_part5 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (k1_pay12 (VecWindow.window X.x0 ![640, 0] S128x256.size inb_S2048x256_S128x256_640_0) X.x2))
      (fun r => iprop(⌜r = (k1_pay16 (VecWindow.window X.x0 ![1024, 0] S128x256.size inb_S2048x256_S128x256_1024_0))⌝ ∗ scanState X c R Pz Ph (rowsTo (encProj X) 8))) := by
  rw [k1_part5_eq_skeleton]; unfold k1_part5_skel
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 5 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 6 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 7 (by decide) _ rfl _ rfl _ _) $$ H
  iintro H
  iapply (load_operand X c R _ _ _ R.a0 X.x0 (get0 X c R) _ _ _) $$ H
  iintro H
  iapply (wp_done c)
  isplitr; · ipureintro; rfl
  iexact H

theorem scan_part6 {Pz : Vec F S16x128 .f32 → Prop} {Ph : Vec F S128x16x512 .bf16 → Prop} :
    scanState X c R Pz Ph (rowsTo (encProj X) 8) ⊢ wp frame (wpE (defs₀ (F := F)) Variants.none (c : Thread nD τ) none) Set.univ (k1_part6 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (k1_pay16 (VecWindow.window X.x0 ![1024, 0] S128x256.size inb_S2048x256_S128x256_1024_0)))
      (fun r => iprop(⌜r = (k1_pay19 (VecWindow.window X.x0 ![1280, 0] S128x256.size inb_S2048x256_S128x256_1280_0) X.x2 X.x3)⌝ ∗ scanState X c R Pz Ph (rowsTo (encProj X) 10))) := by
  rw [k1_part6_eq_skeleton]; unfold k1_part6_skel
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 8 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 9 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (wp_done c)
  isplitr; · ipureintro; rfl
  iexact H

theorem scan_part7 {Pz : Vec F S16x128 .f32 → Prop} {Ph : Vec F S128x16x512 .bf16 → Prop} :
    scanState X c R Pz Ph (rowsTo (encProj X) 10) ⊢ wp frame (wpE (defs₀ (F := F)) Variants.none (c : Thread nD τ) none) Set.univ (k1_part7 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (k1_pay19 (VecWindow.window X.x0 ![1280, 0] S128x256.size inb_S2048x256_S128x256_1280_0) X.x2 X.x3))
      (fun r => iprop(⌜r = ⟨k1_pay23 (VecWindow.window X.x0 ![1664, 0] S128x256.size inb_S2048x256_S128x256_1664_0) X.x2, k1_pay24 X.x3⟩⌝ ∗ scanState X c R Pz Ph (rowsTo (encProj X) 13))) := by
  rw [k1_part7_eq_skeleton]; unfold k1_part7_skel
  iintro H
  iapply (store_g X c R _ _ X.x0 X.x2 X.x3 10 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 11 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 12 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (wp_done c)
  isplitr; · ipureintro; rfl
  iexact H

theorem enc_part (t : Fin k1_t1_loop.trips) (ht : t.val < 64) (a : FVec F S16x512 .f32) {Pz : Vec F S16x128 .f32 → Prop} {Ph : Vec F S128x16x512 .bf16 → Prop} (u v : BitVec 32) :
    scanState X c R Pz Ph (rowsTo (encProj X) 16) ⊢ wp frame (wpE (defs₀ (F := F)) Variants.none (c : Thread nD τ) none) Set.univ (k1_part1 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 u v t a)
      (fun r => iprop(⌜r = ⟨k1_pay2 a (rowsOf (encProj X) (2 * t.val)) X.x4 X.x5, rowsOf (encProj X) (2 * t.val + 1), k1_pay3 a (rowsOf (encProj X) (2 * t.val)) X.x4 X.x5 X.x4⟩⌝ ∗ scanState X c R Pz Ph (rowsTo (encProj X) 16))) := by
  rw [k1_part1_eq_skeleton]; unfold k1_part1_skel
  iintro H
  iapply (load_rows X c R _ _ (encProj X) (2 * t.val) (by omega) _ ((k1_off1_eq t).trans (by congr 1; omega)) _ _) $$ H
  iintro H
  iapply (load_whole X c R _ _ _ R.a4 X.x4 (get4 X c R) _ _ _) $$ H
  iintro H
  iapply (load_whole X c R _ _ _ R.a5 X.x5 (get5 X c R) _ _ _) $$ H
  iintro H
  iapply (load_rows X c R _ _ (encProj X) (2 * t.val + 1) (by omega) _ ((k1_off2_eq t).trans (by congr 1; omega)) _ _) $$ H
  iintro H
  iapply (load_whole X c R _ _ _ R.a4 X.x4 (get4 X c R) _ _ _) $$ H
  iintro H
  iapply (wp_done c)
  isplitr; · ipureintro; rfl
  iexact H

/-- A trip of the encoder's loop: two steps. -/
theorem enc_trip (t : Fin k1_t1_loop.trips) (a : FVec F S16x512 .f32) {Pz : Vec F S16x128 .f32 → Prop} {Ph : Vec F S128x16x512 .bf16 → Prop} (u : FVec F S128x1536 .f32) (v : FVec F S1x1536 .f32) :
    iprop(⌜a = hidden (encProj X) X.x4 X.x5 k1_pay28 (2 * t.val)⌝ ∗ scanState X c R Pz Ph (rowsTo (encProj X) 16))
      ⊢ wp frame (wpE (defs₀ (F := F)) Variants.none (c : Thread nD τ) none) Set.univ (k1_t1_body R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 u v t a)
      (fun r => iprop(⌜r = hidden (encProj X) X.x4 X.x5 k1_pay28 (2 * (t.val + 1))⌝ ∗ scanState X c R Pz Ph (rowsTo (encProj X) 16))) := by
  have ht : t.val < 64 := lt_of_lt_of_eq t.isLt trips1'
  unfold k1_t1_body
  iintro ⟨%ha, H⟩
  rw [wp_bind]
  iapply (wp_wand frame (wpE (defs₀ (F := F)) Variants.none (c : Thread nD τ) none) Set.univ) $$ [H]
  · iapply (enc_part X c R t ht a _ _) $$ H
  iintro %r ⟨%hr, H⟩
  subst hr
  iapply (load_whole X c R _ _ _ R.a5 X.x5 (get5 X c R) _ _ _) $$ H
  iintro H
  iapply (wp_done c)
  isplitr
  · ipureintro; subst ha; rfl
  iexact H

theorem scan_part8 {Pz : Vec F S16x128 .f32 → Prop} {Ph : Vec F S128x16x512 .bf16 → Prop} :
    scanState X c R Pz Ph (rowsTo (encProj X) 13) ⊢ wp frame (wpE (defs₀ (F := F)) Variants.none (c : Thread nD τ) none) Set.univ (k1_part8 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (k1_pay23 (VecWindow.window X.x0 ![1664, 0] S128x256.size inb_S2048x256_S128x256_1664_0) X.x2) (k1_pay24 X.x3))
      (fun r => iprop(⌜r = encLast X⌝ ∗ scanState X c R Pz Ph (rowsTo (encProj X) 16))) := by
  rw [k1_part8_eq_skeleton]; unfold k1_part8_skel
  iintro H
  iapply (load_g_any X c R _ _ _ _ _ _) $$ H
  iintro %_ H
  iapply (store_g X c R _ _ X.x0 X.x2 X.x3 13 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 14 (by decide) _ rfl _ rfl _ _) $$ H
  iintro H
  iapply (load_operand X c R _ _ _ R.a0 X.x0 (get0 X c R) _ _ _) $$ H
  iintro H
  iapply (load_whole X c R _ _ _ R.a2 X.x2 (get2 X c R) _ _ _) $$ H
  iintro H
  iapply (load_whole X c R _ _ _ R.a3 X.x3 (get3 X c R) _ _ _) $$ H
  iintro H
  iapply (load_g_any X c R _ _ _ _ _ _) $$ H
  iintro %_ H
  iapply (store_g X c R _ _ X.x0 X.x2 X.x3 15 (by decide) _ rfl _ rfl _ _) $$ H
  iintro H
  iapply (Scf.wp_for_bind (I := fun k a => iprop(⌜a = hidden (encProj X) X.x4 X.x5 k1_pay28 (2 * k)⌝ ∗ scanState X c R Pz Ph (rowsTo (encProj X) 16)))
    (hbody := fun t a => enc_trip X c R t a _ _)) $$ [H]
  · isplitr; · ipureintro; rfl
    iexact H
  iintro %a ⟨%ha, H⟩
  rw [show Scf.trips k1_t1_loop.lb k1_t1_loop.ub k1_t1_loop.st = 64 from trips1'] at ha
  iapply (wp_done c)
  isplitr; · ipureintro; exact ha
  iexact H

theorem scan_part9 {Pz : Vec F S16x128 .f32 → Prop} {Ph : Vec F S128x16x512 .bf16 → Prop} :
    scanState X c R Pz Ph (rowsTo (encProj X) 16) ⊢ wp frame (wpE (defs₀ (F := F)) Variants.none (c : Thread nD τ) none) Set.univ (k1_part9 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (encLast X))
      (fun r => iprop(⌜r = ⟨decInit X, k1_pay33 (VecWindow.window X.x1 ![128, 0] S128x256.size inb_S2048x256_S128x256_128_0), X.x10⟩⌝ ∗ scanState X c R (fun z => z = latent X) Ph (rowsTo (decProj X) 1))) := by
  rw [k1_part9_eq_skeleton]; unfold k1_part9_skel
  iintro H
  ihave H := (scanState_mono X c R (fun _ h => h) (fun _ h => h) (fun g _ => rowsTo_zero (decProj X) g)) $$ H
  iapply (load_whole X c R _ _ _ R.a6 X.x6 (get6 X c R) _ _ _) $$ H
  iintro H
  iapply (load_whole X c R _ _ _ R.a7 X.x7 (get7 X c R) _ _ _) $$ H
  iintro H
  iapply (load_z X c R _ _ _ _ _ _) $$ H
  iintro %_ H
  iapply (store_z X c R _ _ _ _ _ _ _) $$ H
  iintro H
  iapply (load_whole X c R _ _ _ R.a8 X.x8 (get8 X c R) _ _ _) $$ H
  iintro H
  iapply (load_whole X c R _ _ _ R.a9 X.x9 (get9 X c R) _ _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 0 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (wp_done c)
  isplitr; · ipureintro; rfl
  iexact H

theorem scan_part10 {Pz : Vec F S16x128 .f32 → Prop} {Ph : Vec F S128x16x512 .bf16 → Prop} :
    scanState X c R Pz Ph (rowsTo (decProj X) 1) ⊢ wp frame (wpE (defs₀ (F := F)) Variants.none (c : Thread nD τ) none) Set.univ (k1_part10 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (k1_pay33 (VecWindow.window X.x1 ![128, 0] S128x256.size inb_S2048x256_S128x256_128_0)) (X.x10))
      (fun r => iprop(scanState X c R Pz Ph (rowsTo (decProj X) 4))) := by
  rw [k1_part10_eq_skeleton]; unfold k1_part10_skel
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 1 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 2 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 3 (by decide) _ rfl _ rfl _ _) $$ H
  iintro H
  iapply (wp_done c)
  iexact H

theorem scan_part11 {Pz : Vec F S16x128 .f32 → Prop} {Ph : Vec F S128x16x512 .bf16 → Prop} :
    scanState X c R Pz Ph (rowsTo (decProj X) 4) ⊢ wp frame (wpE (defs₀ (F := F)) Variants.none (c : Thread nD τ) none) Set.univ (k1_part11 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16)
      (fun r => iprop(⌜r = (k1_pay39 (VecWindow.window X.x1 ![768, 0] S128x256.size inb_S2048x256_S128x256_768_0) X.x10 X.x11)⌝ ∗ scanState X c R Pz Ph (rowsTo (decProj X) 6))) := by
  rw [k1_part11_eq_skeleton]; unfold k1_part11_skel
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 4 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 5 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (wp_done c)
  isplitr; · ipureintro; rfl
  iexact H

theorem scan_part12 {Pz : Vec F S16x128 .f32 → Prop} {Ph : Vec F S128x16x512 .bf16 → Prop} :
    scanState X c R Pz Ph (rowsTo (decProj X) 6) ⊢ wp frame (wpE (defs₀ (F := F)) Variants.none (c : Thread nD τ) none) Set.univ (k1_part12 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (k1_pay39 (VecWindow.window X.x1 ![768, 0] S128x256.size inb_S2048x256_S128x256_768_0) X.x10 X.x11))
      (fun r => iprop(⌜r = (k1_pay43 (VecWindow.window X.x1 ![1152, 0] S128x256.size inb_S2048x256_S128x256_1152_0) X.x10)⌝ ∗ scanState X c R Pz Ph (rowsTo (decProj X) 9))) := by
  rw [k1_part12_eq_skeleton]; unfold k1_part12_skel
  iintro H
  iapply (load_g_any X c R _ _ _ _ _ _) $$ H
  iintro %_ H
  iapply (store_g X c R _ _ X.x1 X.x10 X.x11 6 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 7 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 8 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (wp_done c)
  isplitr; · ipureintro; rfl
  iexact H

theorem scan_part13 {Pz : Vec F S16x128 .f32 → Prop} {Ph : Vec F S128x16x512 .bf16 → Prop} :
    scanState X c R Pz Ph (rowsTo (decProj X) 9) ⊢ wp frame (wpE (defs₀ (F := F)) Variants.none (c : Thread nD τ) none) Set.univ (k1_part13 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (k1_pay43 (VecWindow.window X.x1 ![1152, 0] S128x256.size inb_S2048x256_S128x256_1152_0) X.x10))
      (fun r => iprop(⌜r = (k1_pay47 (VecWindow.window X.x1 ![1536, 0] S128x256.size inb_S2048x256_S128x256_1536_0))⌝ ∗ scanState X c R Pz Ph (rowsTo (decProj X) 12))) := by
  rw [k1_part13_eq_skeleton]; unfold k1_part13_skel
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 9 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 10 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 11 (by decide) _ rfl _ rfl _ _) $$ H
  iintro H
  iapply (load_operand X c R _ _ _ R.a1 X.x1 (get1 X c R) _ _ _) $$ H
  iintro H
  iapply (wp_done c)
  isplitr; · ipureintro; rfl
  iexact H

theorem scan_part14 {Pz : Vec F S16x128 .f32 → Prop} {Ph : Vec F S128x16x512 .bf16 → Prop} :
    scanState X c R Pz Ph (rowsTo (decProj X) 12) ⊢ wp frame (wpE (defs₀ (F := F)) Variants.none (c : Thread nD τ) none) Set.univ (k1_part14 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (k1_pay47 (VecWindow.window X.x1 ![1536, 0] S128x256.size inb_S2048x256_S128x256_1536_0)))
      (fun r => iprop(⌜r = (k1_pay50 (VecWindow.window X.x1 ![1792, 0] S128x256.size inb_S2048x256_S128x256_1792_0) X.x10 X.x11)⌝ ∗ scanState X c R Pz Ph (rowsTo (decProj X) 14))) := by
  rw [k1_part14_eq_skeleton]; unfold k1_part14_skel
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 12 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 13 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (wp_done c)
  isplitr; · ipureintro; rfl
  iexact H

theorem dec_part (t : Fin k1_t2_loop.trips) (ht : t.val < 63) {Pz : Vec F S16x128 .f32 → Prop} (u v : BitVec 32) :
    scanState X c R Pz (slabsTo X (2 * t.val + 1)) (rowsTo (decProj X) 16) ⊢ wp frame (wpE (defs₀ (F := F)) Variants.none (c : Thread nD τ) none) Set.univ (k1_part2 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 u v t (decHidden X (2 * t.val)))
      (fun r => iprop(⌜r.1 = decHidden X (2 * t.val + 1)⌝ ∗ scanState X c R Pz (slabsTo X (2 * t.val + 2)) (rowsTo (decProj X) 16))) := by
  rw [k1_part2_eq_skeleton]; unfold k1_part2_skel
  iintro H
  iapply (load_rows X c R _ _ (decProj X) (2 * t.val) (by omega) _ ((k1_off3_eq t).trans (by congr 1; omega)) _ _) $$ H
  iintro H
  iapply (load_whole X c R _ _ _ R.a12 X.x12 (get12 X c R) _ _ _) $$ H
  iintro H
  iapply (load_whole X c R _ _ _ R.a13 X.x13 (get13 X c R) _ _ _) $$ H
  iintro H
  iapply (load_h X c R _ _ _ _ _ _) $$ H
  iintro %_ H
  iapply (store_h X c R _ _ (2 * t.val + 1) _ (k1_off4_eq t) _ (by rw [slabAt_succ]; rfl) _ _) $$ H
  iintro H
  iapply (wp_done c)
  isplitr; · ipureintro; rfl
  iexact H

/-- A trip of the decoder's loop: two steps, and their slabs stored. -/
theorem dec_trip (t : Fin k1_t2_loop.trips) (a : FVec F S16x512 .f32) {Pz : Vec F S16x128 .f32 → Prop} (u : FVec F S16x512 .f32) (v : FVec F S128x1536 .f32) :
    iprop(⌜a = decHidden X (2 * t.val)⌝ ∗ scanState X c R Pz (slabsTo X (2 * t.val + 1)) (rowsTo (decProj X) 16))
      ⊢ wp frame (wpE (defs₀ (F := F)) Variants.none (c : Thread nD τ) none) Set.univ (k1_t2_body R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 u v t a)
      (fun r => iprop(⌜r = decHidden X (2 * (t.val + 1))⌝ ∗ scanState X c R Pz (slabsTo X (2 * (t.val + 1) + 1)) (rowsTo (decProj X) 16))) := by
  have ht : t.val < 63 := lt_of_lt_of_eq t.isLt trips2'
  unfold k1_t2_body
  iintro ⟨%ha, H⟩
  subst ha
  rw [wp_bind]
  iapply (wp_wand frame (wpE (defs₀ (F := F)) Variants.none (c : Thread nD τ) none) Set.univ) $$ [H]
  · iapply (dec_part X c R t ht _ _) $$ H
  iintro %r ⟨%hv, H⟩
  iapply (load_rows X c R _ _ (decProj X) (2 * t.val + 1) (by omega) _ ((k1_off5_eq t).trans (by congr 1; omega)) _ _) $$ H
  iintro H
  iapply (load_whole X c R _ _ _ R.a12 X.x12 (get12 X c R) _ _ _) $$ H
  iintro H
  iapply (load_whole X c R _ _ _ R.a13 X.x13 (get13 X c R) _ _ _) $$ H
  iintro H
  iapply (load_h X c R _ _ _ _ _ _) $$ H
  iintro %_ H
  iapply (store_h X c R _ _ (2 * t.val + 2) _ (k1_off6_eq t) _ (by rw [slabAt_succ, hv]; rfl) _ _) $$ H
  iintro H
  iapply (wp_done c)
  isplitr
  · ipureintro; rw [hv]; rfl
  iexact H

theorem scan_part15 {Pz : Vec F S16x128 .f32 → Prop} {Ph : Vec F S128x16x512 .bf16 → Prop} :
    scanState X c R Pz Ph (rowsTo (decProj X) 14) ⊢ wp frame (wpE (defs₀ (F := F)) Variants.none (c : Thread nD τ) none) Set.univ (k1_part15 R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 (decInit X) (k1_pay50 (VecWindow.window X.x1 ![1792, 0] S128x256.size inb_S2048x256_S128x256_1792_0) X.x10 X.x11))
      (fun r => iprop(⌜r = ⟨(decHidden X 126), (rowsOf (decProj X) 126), k1_pay55 (decHidden X 126) X.x12 X.x13, k1_pay56 (decHidden X 126) (rowsOf (decProj X) 126) X.x12 X.x13⟩⌝ ∗ scanState X c R Pz (slabsTo X 127) (rowsTo (decProj X) 16))) := by
  rw [k1_part15_eq_skeleton]; unfold k1_part15_skel
  iintro H
  iapply (store_g X c R _ _ X.x1 X.x10 X.x11 14 (by decide) _ rfl _ rfl _ _) $$ H
  iintro H
  iapply (load_operand X c R _ _ _ R.a1 X.x1 (get1 X c R) _ _ _) $$ H
  iintro H
  iapply (load_whole X c R _ _ _ R.a10 X.x10 (get10 X c R) _ _ _) $$ H
  iintro H
  iapply (load_whole X c R _ _ _ R.a11 X.x11 (get11 X c R) _ _ _) $$ H
  iintro H
  iapply (load_g_any X c R _ _ _ _ _ _) $$ H
  iintro %_ H
  iapply (store_g X c R _ _ X.x1 X.x10 X.x11 15 (by decide) _ rfl _ rfl _ _) $$ H
  iintro H
  iapply (load_h X c R _ _ _ _ _ _) $$ H
  iintro %_ H
  ihave H := (scanState_mono X c R (fun _ h => h) (fun h _ => slabsTo_zero X h) (fun _ h => h)) $$ H
  iapply (store_h X c R _ _ 0 _ rfl _ rfl _ _) $$ H
  iintro H
  iapply (Scf.wp_for_bind (I := fun k a => iprop(⌜a = decHidden X (2 * k)⌝ ∗ scanState X c R Pz (slabsTo X (2 * k + 1)) (rowsTo (decProj X) 16)))
    (hbody := fun t a => dec_trip X c R t a _ _)) $$ [H]
  · isplitr; · ipureintro; rfl
    iexact H
  iintro %a ⟨%ha, H⟩
  rw [show Scf.trips k1_t2_loop.lb k1_t2_loop.ub k1_t2_loop.st = 63 from trips2'] at ha ⊢
  subst ha
  iapply (load_rows X c R _ _ (decProj X) 126 (by decide) _ rfl _ _) $$ H
  iintro H
  iapply (load_whole X c R _ _ _ R.a12 X.x12 (get12 X c R) _ _ _) $$ H
  iintro H
  iapply (load_whole X c R _ _ _ R.a13 X.x13 (get13 X c R) _ _ _) $$ H
  iintro H
  iapply (wp_done c)
  isplitr; · ipureintro; rfl
  iexact H

/-- The whole body: the latent and the slabs, the operands as they were, the scratch at some contents. -/
theorem scan_body (Q : PUnit → sProp 𝕄) :
    scanState X c R (fun _ => True) (fun _ => True) (fun _ => True)
      ⊢ iprop((scanState X c R (fun z => z = latent X) (fun h => h = slabs X) (fun _ => True) -∗ Q ⟨⟩)
        -∗ wp frame (wpE (defs₀ (F := F)) Variants.none (c : Thread nD τ) none) Set.univ (cc1_gru_scan R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16) Q) := by
  rw [cc1_gru_scan_eq_skeleton]; unfold cc1_gru_scan_skel
  iintro H Hk
  ihave H := (scanState_mono X c R (fun _ h => h) (fun _ h => h) (fun g _ => rowsTo_zero (encProj X) g)) $$ H
  rw [wp_bind]
  iapply (wp_wand frame (wpE (defs₀ (F := F)) Variants.none (c : Thread nD τ) none) Set.univ) $$ [H]
  · iapply (scan_part3 X c R) $$ H
  iintro %r ⟨%hr, H⟩
  subst hr
  rw [wp_bind]
  iapply (wp_wand frame (wpE (defs₀ (F := F)) Variants.none (c : Thread nD τ) none) Set.univ) $$ [H]
  · iapply (scan_part4 X c R) $$ H
  iintro %r ⟨%hr, H⟩
  subst hr
  rw [wp_bind]
  iapply (wp_wand frame (wpE (defs₀ (F := F)) Variants.none (c : Thread nD τ) none) Set.univ) $$ [H]
  · iapply (scan_part5 X c R) $$ H
  iintro %r ⟨%hr, H⟩
  subst hr
  rw [wp_bind]
  iapply (wp_wand frame (wpE (defs₀ (F := F)) Variants.none (c : Thread nD τ) none) Set.univ) $$ [H]
  · iapply (scan_part6 X c R) $$ H
  iintro %r ⟨%hr, H⟩
  subst hr
  rw [wp_bind]
  iapply (wp_wand frame (wpE (defs₀ (F := F)) Variants.none (c : Thread nD τ) none) Set.univ) $$ [H]
  · iapply (scan_part7 X c R) $$ H
  iintro %r ⟨%hr, H⟩
  subst hr
  rw [wp_bind]
  iapply (wp_wand frame (wpE (defs₀ (F := F)) Variants.none (c : Thread nD τ) none) Set.univ) $$ [H]
  · iapply (scan_part8 X c R) $$ H
  iintro %r ⟨%hr, H⟩
  subst hr
  rw [wp_bind]
  iapply (wp_wand frame (wpE (defs₀ (F := F)) Variants.none (c : Thread nD τ) none) Set.univ) $$ [H]
  · iapply (scan_part9 X c R) $$ H
  iintro %r ⟨%hr, H⟩
  subst hr
  rw [wp_bind]
  iapply (wp_wand frame (wpE (defs₀ (F := F)) Variants.none (c : Thread nD τ) none) Set.univ) $$ [H]
  · iapply (scan_part10 X c R) $$ H
  iintro %_ H
  rw [wp_bind]
  iapply (wp_wand frame (wpE (defs₀ (F := F)) Variants.none (c : Thread nD τ) none) Set.univ) $$ [H]
  · iapply (scan_part11 X c R) $$ H
  iintro %r ⟨%hr, H⟩
  subst hr
  rw [wp_bind]
  iapply (wp_wand frame (wpE (defs₀ (F := F)) Variants.none (c : Thread nD τ) none) Set.univ) $$ [H]
  · iapply (scan_part12 X c R) $$ H
  iintro %r ⟨%hr, H⟩
  subst hr
  rw [wp_bind]
  iapply (wp_wand frame (wpE (defs₀ (F := F)) Variants.none (c : Thread nD τ) none) Set.univ) $$ [H]
  · iapply (scan_part13 X c R) $$ H
  iintro %r ⟨%hr, H⟩
  subst hr
  rw [wp_bind]
  iapply (wp_wand frame (wpE (defs₀ (F := F)) Variants.none (c : Thread nD τ) none) Set.univ) $$ [H]
  · iapply (scan_part14 X c R) $$ H
  iintro %r ⟨%hr, H⟩
  subst hr
  rw [wp_bind]
  iapply (wp_wand frame (wpE (defs₀ (F := F)) Variants.none (c : Thread nD τ) none) Set.univ) $$ [H]
  · iapply (scan_part15 X c R) $$ H
  iintro %r ⟨%hr, H⟩
  subst hr
  iapply (load_h X c R _ _ _ _ _ _) $$ H
  iintro %_ H
  iapply (store_h X c R _ _ 127 _ rfl _ (by rw [slabAt_succ]; rfl) _ _) $$ H
  iintro H
  iapply (wp_done c)
  iapply Hk
  iapply (scanState_mono X c R (fun _ h => h) (fun _ h => slabsTo_all X h) (fun _ _ => trivial)) $$ H

end Cert.Proof.KI
-- ==== Proof.RegionsIdeal.lean ====
/-
  The idealized program, as Regions.lean has the kernel.
  The three calls of @main as pipelines: what each call's buffers hold when its body is entered and left, at
  any entry contents `V`, and the library's body obligation for each.
-/
module

public import proofs.«01_k».proof.Proof.ScanIdeal
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The gather, over owned memrefs -/

/-- Row `t` of the result is the table's row that word `t` names. -/
def gatherRows (tbl : Vec F S32000x256 .f32) (x : Vec F S2048 .i32) : Vec F S2048x256 .f32 := fun y =>
  tbl (fun | ⟨0, _⟩ => ⟨ixOf x ⟨(y 0).val, (y 0).isLt⟩ % 32000, Nat.mod_lt _ (by decide)⟩ | ⟨1, _⟩ => ⟨(y 1).val, (y 1).isLt⟩)

theorem gathered_eq (c : Dev nD) (M : Memref sig .tc .hbm S32000x256 .f32) (f) (x : Vec F S2048 .i32) (hix : ∀ t, ixOf x t < 32000) :
    gathered c M f (ixOf x) hix = gatherRows (M.view.read (Elt F) f) x := by
  funext y
  unfold gathered gatherRows
  congr 1
  funext a
  refine Fin.ext ?_
  fin_cases a
  · exact (Nat.mod_eq_of_lt (hix _)).symm
  · rfl

theorem gather_owned (c : Dev nD)
    (arg0 : Memref sig .tc .smem S2048 .i32) (harg0 : arg0.IsWhole) (arg1 : Memref sig .tc .hbm S32000x256 .f32) (harg1 : arg1.IsWhole)
    (arg2 : Memref sig .tc .hbm S32000x256 .f32) (harg2 : arg2.IsWhole) (arg3 : Memref sig .tc .vmem S2048x256 .f32) (harg3 : arg3.IsWhole)
    (arg4 : Memref sig .tc .vmem S2048x256 .f32) (harg4 : arg4.IsWhole) (arg5 arg6 : DmaSems sig S_)
    (x : Vec F S2048 .i32) (T1 T2 : Vec F S32000x256 .f32) (hix : ∀ t, ixOf x t < 32000) (W : Waits sig Unit) (Q : PUnit → sProp 𝕄) :
    iprop(owns (c : Thread nD τ) arg0 fullShare x ∗ owns (c : Thread nD τ) arg1 fullShare T1 ∗ owns (c : Thread nD τ) arg2 fullShare T2
        ∗ (∃ d, owns (c : Thread nD τ) arg3 fullShare d) ∗ (∃ d, owns (c : Thread nD τ) arg4 fullShare d)
        ∗ semVal ((c : Thread nD τ), .dma arg5.sem) 0 ∗ semVal ((c : Thread nD τ), .dma arg6.sem) 0
        ∗ owes (c : Thread nD τ) 0 W)
      ⊢ iprop((iprop(owns (c : Thread nD τ) arg0 fullShare x ∗ owns (c : Thread nD τ) arg1 fullShare T1 ∗ owns (c : Thread nD τ) arg2 fullShare T2
            ∗ owns (c : Thread nD τ) arg3 fullShare (gatherRows T1 x) ∗ owns (c : Thread nD τ) arg4 fullShare (gatherRows T2 x)
            ∗ semVal ((c : Thread nD τ), .dma arg5.sem) 0 ∗ semVal ((c : Thread nD τ), .dma arg6.sem) 0
            ∗ ∃ W, owes (c : Thread nD τ) 0 W) -∗ Q ⟨⟩)
        -∗ wp frame (wpE (defs₀ (F := F)) Variants.none (c : Thread nD τ) none) Set.univ (cc0_embed_gather arg0 harg0 arg1 harg1 arg2 harg2 arg3 harg3 arg4 harg4 arg5 arg6) Q) := by
  unfold owns
  iintro ⟨⟨%f0, %h0, H0⟩, ⟨%f1, %h1, H1⟩, ⟨%f2, %h2, H2⟩, ⟨%d3, %f3, -, H3⟩, ⟨%d4, %f4, -, H4⟩, S1, S2, HW⟩ Hk
  subst h0 h1 h2
  iapply (gather_body c arg0 harg0 arg1 harg1 arg2 harg2 arg3 harg3 arg4 harg4 arg5 arg6 f0 f1 f2 f3 f4 hix W Q) $$ [H0 H1 H2 H3 H4 S1 S2 HW]
  · unfold holds
    isplitl [H0]; · iexact H0
    isplitl [H1]; · iexact H1
    isplitl [H2]; · iexact H2
    isplitl [H3]; · iexact H3
    isplitl [H4]; · iexact H4
    isplitl [S1]; · iexact S1
    isplitl [S2]; · iexact S2
    iexact HW
  rw [gathered_eq, gathered_eq]
  unfold holds owns
  iintro ⟨H0, H1, H2, H3, H4, S1, S2, HW⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]; · iexact H3
  isplitl [H4]; · iexact H4
  isplitl [S1]; · iexact S1
  isplitl [S2]; · iexact S2
  iexact HW

/-! ## The logits body -/

/-- What one point of the logits call stores: its block of products, biased and with every first row of a sequence cleared. -/
def logitsBlock (a : Vec F S1024x512 .bf16) (w : Vec F S3200x512 .f32) (b : Vec F S1x3200 .f32) : Vec F S1024x3200 .f32 := k2_pay1 w a b

theorem logits_body (c : Dev nD) (i : grid2.Coords) (arg2 : Memref sig .tc .vmem S1024x512 .bf16) (harg2 : arg2.IsWhole) (arg3 : Memref sig .tc .vmem S3200x512 .f32) (harg3 : arg3.IsWhole)
    (arg4 : Memref sig .tc .vmem S1x3200 .f32) (harg4 : arg4.IsWhole) (arg5 : Memref sig .tc .vmem S1024x3200 .f32) (harg5 : arg5.IsWhole)
    (a : Vec F S1024x512 .bf16) (w : Vec F S3200x512 .f32) (b d : Vec F _ .f32) (Q : PUnit → sProp 𝕄) :
    iprop(owns (c : Thread nD τ) arg2 fullShare a ∗ owns (c : Thread nD τ) arg3 fullShare w ∗ owns (c : Thread nD τ) arg4 fullShare b ∗ owns (c : Thread nD τ) arg5 fullShare d)
      ⊢ iprop((iprop(owns (c : Thread nD τ) arg2 fullShare a ∗ owns (c : Thread nD τ) arg3 fullShare w ∗ owns (c : Thread nD τ) arg4 fullShare b
            ∗ owns (c : Thread nD τ) arg5 fullShare (logitsBlock a w b)) -∗ Q ⟨⟩)
        -∗ wp frame (wpE (defs₀ (F := F)) Variants.none (c : Thread nD τ) none) Set.univ (cc2_logits_proj i arg2 harg2 arg3 harg3 arg4 harg4 arg5 harg5) Q) := by
  rw [cc2_logits_proj_eq_skeleton]; unfold cc2_logits_proj_skel
  iintro ⟨H2, H3, H4, H5⟩ Hk
  iapply (step_load c arg3 fullShare w _ rfl inb_S3200x512_S3200x512_0_0 _ _) $$ H3
  iintro H3
  iapply (step_load c arg2 fullShare a _ rfl inb_S1024x512_S1024x512_0_0 _ _) $$ H2
  iintro H2
  iapply (step_load c arg4 fullShare b _ rfl inb_S1x3200_S1x3200_0_0 _ _) $$ H4
  iintro H4
  iapply (step_load c arg5 fullShare d _ rfl inb_S1024x3200_S1024x3200_0_0 _ _) $$ H5
  iintro H5
  rw [window_full, window_full, window_full]
  iapply (step_store c arg5 d _ rfl _ _ _) $$ H5
  rw [show VecWindow.put d ![0, 0] S1024x3200.size (k2_pay1 w a b) = logitsBlock a w b from
    (window_full _ inb_S1024x3200_S1024x3200_0_0).symm.trans (VecWindow.window_put_same d ![0, 0] S1024x3200.size inb_S1024x3200_S1024x3200_0_0 (k2_pay1 w a b))]
  iintro H5
  iapply (wp_done c)
  iapply Hk
  isplitl [H2]; · iexact H2
  isplitl [H3]; · iexact H3
  isplitl [H4]; · iexact H4
  iexact H5

section Data
variable (V : (c : Dev nD) → (b : Ref sig .tc) → Buf (Elt F) ((c : Thread nD τ).loc b))

/-! ## Call 0 -/

/-- Window `w`'s block at point `t`, of the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What rides through the gather: the two tables, its two semaphores at zero, the other scoped buffers, the generator register. -/
def Φ0 (c : Dev nD) : sProp 𝕄 :=
  iprop((((c : Thread nD τ).loc main_arg1) ↦{fullShare} V c main_arg1) ∗ (((c : Thread nD τ).loc main_arg10) ↦{fullShare} V c main_arg10)
    ∗ semVal ((c : Thread nD τ), .dma cc0_scratch0.sem) 0 ∗ semVal ((c : Thread nD τ), .dma cc0_scratch1.sem) 0
    ∗ Pipeline.scopedRest (Ix := Unit) (Name := ℕ) (U := UU nD τ) (Lvl := ℕ) (Val := Elt F) spec0 c ∗ ∃ r, prngReg c r)

/-- The proof data of call 0. -/
def dat0 (c : Dev nD) : Dat τ (Elt F) Unit ℕ (UU nD τ) ℕ cfg0 c where
  A w := V c (Pipeline.arrRef spec0 w)
  after w t := match w with
    | ⟨0, _⟩ => iblk0 V c 0 t
    | ⟨1, _⟩ => gatherRows (V c main_arg1) (iblk0 V c 0 t)
    | ⟨2, _⟩ => gatherRows (V c main_arg10) (iblk0 V c 0 t)
  Φ _ := Φ0 V c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = gatherRows (V c main_arg1) (iblk0 V c 0 t) := by dsimp only [dat0]
theorem after0_2 (c : Dev nD) (t : Fin cfg0.N) : (dat0 V c).after 2 t = gatherRows (V c main_arg10) (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- The body's obligation at one point, its windows one by one: before, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
/-- and after. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem point0 (c : Dev nD) (hix : ∀ t s, ixOf (iblk0 V c 0 t) s < 32000) (t : Fin cfg0.N) : pre0 V c t ⊢ wp frame (wpE (defs₀ (F := F)) Variants.none (c : Thread nD τ) none) Set.univ (bodyAt0 t) (fun _ => post0 V c t) := by
  unfold pre0 post0 bodyAt0
  simp only [before0_0]
  rw [show (dat0 V c).Φ t.succ = (dat0 V c).Φ t.castSucc from rfl, show (dat0 V c).owesAt () t.succ = (dat0 V c).owesAt () t.castSucc from rfl,
    after0_0, after0_1, after0_2]
  rw [show (dat0 V c).Φ t.castSucc = Φ0 V c from rfl]
  unfold Φ0 Dat.owesAt Pipeline.owesWithin
  rw [show (dat0 V c).owed t.castSucc = 0 from rfl]
  rw [← owns_whole (c : Thread nD τ) main_arg1 fullShare (V c main_arg1), ← owns_whole (c : Thread nD τ) main_arg10 fullShare (V c main_arg10)]
  iintro ⟨⟨T1, T2, S1, S2, HR, Hg⟩, ⟨%W, %hW, HO⟩, ⟨%d0, H0⟩, ⟨%d1, H1⟩, ⟨%d2, H2⟩⟩
  iapply (gather_owned c _ _ _ _ _ _ _ _ _ _ cc0_scratch0 cc0_scratch1 (iblk0 V c 0 t) (V c main_arg1) (V c main_arg10) (hix t) W _) $$ [T1 T2 S1 S2 HO H0 H1 H2]
  · isplitl [H0]; · iexact H0
    isplitl [T1]; · iexact T1
    isplitl [T2]; · iexact T2
    isplitl [H1]; · iexists _; iexact H1
    isplitl [H2]; · iexists _; iexact H2
    isplitl [S1]; · iexact S1
    isplitl [S2]; · iexact S2
    iexact HO
  iintro ⟨H0, T1, T2, H1, H2, S1, S2, ⟨%W', HO⟩⟩
  isplitl [T1 T2 S1 S2 HR Hg]
  · isplitl [T1]; · iexact T1
    isplitl [T2]; · iexact T2
    isplitl [S1]; · iexact S1
    isplitl [S2]; · iexact S2
    isplitl [HR]; · iexact HR
    iexact Hg
  isplitl [HO]
  · iexists W'; isplitr; · ipureintro; exact fun _ _ => Or.inl trivial
    iexact HO
  isplitl [H0]; · iexact H0
  isplitl [H1]; · iexact H1
  iexact H2

theorem row0 (t : Fin cfg0.N) : defs₀ (F := F) .tc cfg0.body (cfg0.bodyArgs t (cfg0.slots t)) = bodyAt0 t := by
  unfold defs₀; rw [Defs.onTc_tc]

/-- The library's obligation of call 0. -/
theorem obligation0 (c : Dev nD) (hix : ∀ t s, ixOf (iblk0 V c 0 t) s < 32000) : BodyObligation (dat0 (F := F) V c) (defs₀ (F := F)) Variants.none () Set.univ := fun t => by
  rw [bigSep_W0, bigSep_W0, row0]
  exact triple_restated (point0 V c hix t) rfl .rfl fun _ => .rfl

/-! ## Call 1 -/

/-- Window `w`'s block at point `t`, of the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The recurrent pass's operands, from the entry contents. -/
def operands (c : Dev nD) (t : Fin cfg1.N) : Operands F :=
  ⟨iblk1 V c 0 t, iblk1 V c 1 t, iblk1 V c 2 t, iblk1 V c 3 t, iblk1 V c 4 t, iblk1 V c 5 t, iblk1 V c 6 t, iblk1 V c 7 t, iblk1 V c 8 t, iblk1 V c 9 t, iblk1 V c 10 t, iblk1 V c 11 t, iblk1 V c 12 t, iblk1 V c 13 t⟩

/-- The recurrent pass's memrefs at a point. -/
def operrefs (t : Fin cfg1.N) : Operrefs :=
  ⟨win1_0.stage (cfg1.slots t 0), hstage1_0 0, win1_1.stage (cfg1.slots t 1), hstage1_1 0, win1_2.stage (cfg1.slots t 2), hstage1_2 0, win1_3.stage (cfg1.slots t 3), hstage1_3 0, win1_4.stage (cfg1.slots t 4), hstage1_4 0, win1_5.stage (cfg1.slots t 5), hstage1_5 0, win1_6.stage (cfg1.slots t 6), hstage1_6 0, win1_7.stage (cfg1.slots t 7), hstage1_7 0, win1_8.stage (cfg1.slots t 8), hstage1_8 0, win1_9.stage (cfg1.slots t 9), hstage1_9 0, win1_10.stage (cfg1.slots t 10), hstage1_10 0, win1_11.stage (cfg1.slots t 11), hstage1_11 0, win1_12.stage (cfg1.slots t 12), hstage1_12 0, win1_13.stage (cfg1.slots t 13), hstage1_13 0, win1_14.stage (cfg1.slots t 14), hstage1_14 0, win1_15.stage (cfg1.slots t 15), hstage1_15 0, Memref.whole cc1_scratch0, Memref.isWhole_whole _⟩

/-- The proof data of call 1. -/
def dat1 (c : Dev nD) : Dat τ (Elt F) Unit ℕ (UU nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => latent (operands V c t)
    | ⟨15, _⟩ => slabs (operands V c t)
    | ⟨_ + 16, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = latent (operands V c t) := by dsimp only [dat1]
theorem after1_15 (c : Dev nD) (t : Fin cfg1.N) : (dat1 V c).after 15 t = slabs (operands V c t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A_eq1]; try rfl) t d).trans
    (by unfold Dat.fetched Dat.blockOf iblk1; rw [A_eq1]; try rfl)

/-- The body's obligation at one point, its windows one by one: before, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))
/-- and after. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

theorem point1 (c : Dev nD) (t : Fin cfg1.N) : pre1 V c t ⊢ wp frame (wpE (defs₀ (F := F)) Variants.none (c : Thread nD τ) none) Set.univ (bodyAt1 t) (fun _ => post1 V c t) := by
  unfold pre1 post1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl, show (dat1 V c).owesAt () t.succ = (dat1 V c).owesAt () t.castSucc from rfl,
    after1_0, after1_1, after1_2, after1_3, after1_4, after1_5, after1_6, after1_7, after1_8, after1_9, after1_10, after1_11, after1_12, after1_13, after1_14, after1_15]
  rw [show (dat1 V c).Φ t.castSucc = Pipeline.ΦA spec1 c from rfl]
  unfold Pipeline.ΦA
  rw [scopedRest1_eq]
  iintro ⟨⟨⟨HR0, HR1, ⟨%g, HS⟩, HR3, HR4, HR5, HR6, HR7, HR8, HR9, HR10, HR11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (scan_body (operands V c t) c (operrefs t) _) $$ [HS H0 H1 H2 H3 H4 H5 H6 H7 H8 H9 H10 H11 H12 H13 H14 H15]
  · unfold scanState operandsHeld
    isplitl [H0 H1 H2 H3 H4 H5 H6 H7 H8 H9 H10 H11 H12 H13]
    · dsimp only [operands, operrefs]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]
    · iexists _; isplitr
      swap; · iexact H14
      ipureintro; trivial
    isplitl [H15]
    · iexists _; isplitr
      swap; · iexact H15
      ipureintro; trivial
    iexists g; isplitr; · ipureintro; trivial
    dsimp only [operrefs]
    rw [owns_whole (c : Thread nD τ) cc1_scratch0 fullShare g]
    iexact HS
  unfold scanState operandsHeld
  dsimp only [operrefs]
  iintro ⟨⟨H0, H1, H2, H3, H4, H5, H6, H7, H8, H9, H10, H11, H12, H13⟩, ⟨%z, %hz, H14⟩, ⟨%h, %hh, H15⟩, ⟨%g', -, HS⟩⟩
  subst hz hh
  isplitl [HR0 HR1 HR3 HR4 HR5 HR6 HR7 HR8 HR9 HR10 HR11 HS Hg]
  · isplitr [Hg]
    · isplitl [HR0]; · iexact HR0
      isplitl [HR1]; · iexact HR1
      isplitl [HS]; · iexists g'; rw [← owns_whole (c : Thread nD τ) cc1_scratch0 fullShare g']; iexact HS
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      iexact HR11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem row1 (t : Fin cfg1.N) : defs₀ (F := F) .tc cfg1.body (cfg1.bodyArgs t (cfg1.slots t)) = bodyAt1 t := by
  unfold defs₀; rw [Defs.onTc_tc]

/-- The library's obligation of call 1. -/
theorem obligation1 (c : Dev nD) : BodyObligation (dat1 (F := F) V c) (defs₀ (F := F)) Variants.none () Set.univ := fun t => by
  rw [bigSep_W1, bigSep_W1, row1]
  exact triple_restated (point1 V c t) rfl .rfl fun _ => .rfl

/-! ## Call 2 -/

/-- Window `w`'s block at point `t`, of the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of call 2. -/
def dat2 (c : Dev nD) : Dat τ (Elt F) Unit ℕ (UU nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => logitsBlock (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = logitsBlock (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-- The body's obligation at one point, its windows one by one: before, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))
/-- and after. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem point2 (c : Dev nD) (t : Fin cfg2.N) : pre2 V c t ⊢ wp frame (wpE (defs₀ (F := F)) Variants.none (c : Thread nD τ) none) Set.univ (bodyAt2 t) (fun _ => post2 V c t) := by
  unfold pre2 post2 bodyAt2
  simp only [before2_0, before2_1, before2_2]
  rw [show (dat2 V c).Φ t.succ = (dat2 V c).Φ t.castSucc from rfl, show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (logits_body c (grid2.coords t) _ _ _ _ _ _ _ _ (iblk2 V c 0 t) (iblk2 V c 1 t) (iblk2 V c 2 t) _ _) $$ [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row2 (t : Fin cfg2.N) : defs₀ (F := F) .tc cfg2.body (cfg2.bodyArgs t (cfg2.slots t)) = bodyAt2 t := by
  unfold defs₀; rw [Defs.onTc_tc]

/-- The library's obligation of call 2. -/
theorem obligation2 (c : Dev nD) : BodyObligation (dat2 (F := F) V c) (defs₀ (F := F)) Variants.none () Set.univ := fun t => by
  rw [bigSep_W2, bigSep_W2, row2]
  exact triple_restated (point2 V c t) rfl .rfl fun _ => .rfl

end Data

end Cert.Proof.KI
-- ==== Proof.RunIdeal.lean ====
/-
  The idealized program, as Run.lean has the kernel.
  The run of @main: host operations and calls in turn, each from the buffer contents the one before left; the final
  state has every unscoped buffer at the last contents and every semaphore at zero.
-/
module

public import proofs.«01_k».proof.Proof.RegionsIdeal

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The arguments of @main. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-! ## What the host operations write -/

theorem fresh0 : (hostOps0 : List (HloOp τ sig (Elt F))).Forall fun op => op.fresh = ∅ := by
  simp only [List.Forall]; repeat' constructor
/-- The buffers host stretch 0 writes. -/
abbrev wr0 : List (Ref sig .tc) := [main_v0, main_v1]
theorem writes0 : (hostOps0 : List (HloOp τ sig (Elt F))).Forall fun op => op.writes ⊆ (wr0.map (Proc.devRef (τ := τ) .tc)).toFinset :=
  StableHlo.forall_writes_sub_of_map rfl
theorem args0 : ∀ a ∈ argRefs, a ∉ wr0 := ListAll.forall_mem_of_all_decide (by decide +kernel)

theorem fresh1 : (hostOps1 : List (HloOp τ sig (Elt F))).Forall fun op => op.fresh = ∅ := by
  simp only [List.Forall]; repeat' constructor
/-- The buffers host stretch 1 writes. -/
abbrev wr1 : List (Ref sig .tc) := [main_v3, main_v4, main_v5, main_v6, main_v7, main_v8, main_v9, main_v10, main_v11, main_v12, main_v13, main_v14, main_v15, main_v16, main_v17, main_v18, main_v19, main_v20, main_v21, main_v22]
theorem writes1 : (hostOps1 : List (HloOp τ sig (Elt F))).Forall fun op => op.writes ⊆ (wr1.map (Proc.devRef (τ := τ) .tc)).toFinset :=
  StableHlo.forall_writes_sub_of_map rfl
theorem args1 : ∀ a ∈ argRefs, a ∉ wr1 := ListAll.forall_mem_of_all_decide (by decide +kernel)

theorem fresh2 : (hostOps2 : List (HloOp τ sig (Elt F))).Forall fun op => op.fresh = ∅ := by
  simp only [List.Forall]; repeat' constructor
/-- The buffers host stretch 2 writes. -/
abbrev wr2 : List (Ref sig .tc) := [main_v24, main_v25, main_v26]
theorem writes2 : (hostOps2 : List (HloOp τ sig (Elt F))).Forall fun op => op.writes ⊆ (wr2.map (Proc.devRef (τ := τ) .tc)).toFinset :=
  StableHlo.forall_writes_sub_of_map rfl
theorem args2 : ∀ a ∈ argRefs, a ∉ wr2 := ListAll.forall_mem_of_all_decide (by decide +kernel)

theorem fresh3 : (hostOps3 : List (HloOp τ sig (Elt F))).Forall fun op => op.fresh = ∅ := by
  simp only [List.Forall]; repeat' constructor
/-- The buffers host stretch 3 writes. -/
abbrev wr3 : List (Ref sig .tc) := [main_v28]
theorem writes3 : (hostOps3 : List (HloOp τ sig (Elt F))).Forall fun op => op.writes ⊆ (wr3.map (Proc.devRef (τ := τ) .tc)).toFinset :=
  StableHlo.forall_writes_sub_of_map rfl
theorem args3 : ∀ a ∈ argRefs, a ∉ wr3 := ListAll.forall_mem_of_all_decide (by decide +kernel)

/-! ## The contents between the segments -/

/-- The contents at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After host stretch 0. -/
abbrev W1 : Dev nD → Valuation τ sig (Elt F) := fun c => StableHlo.after hostOps0 (W0 m ρ c)
theorem W1_of (c : Dev nD) (r : Ref sig .tc) (h : r ∉ wr0) : W1 m ρ c (Proc.devRef .tc r) = W0 m ρ c (Proc.devRef .tc r) :=
  StableHlo.after_of_writes_sub hostOps0 _ writes0 h
theorem W1_args (c : Dev nD) : ∀ a ∈ argRefs, W1 m ρ c (Proc.devRef .tc a) = m ((c : Thread nD τ).loc a) :=
  fun a ha => (W1_of m ρ c a (args0 a ha)).trans (W0_args m ρ c a ha)
/-- The same at the core's own references. -/
abbrev V1 : (c : Dev nD) → (b : Ref sig .tc) → Buf (Elt F) ((c : Thread nD τ).loc b) := fun c b => W1 m ρ c b
/-- After call 0: its arrays as the pipeline leaves them, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) : W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) : W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem arr0 (c : Dev nD) (w : Fin cfg0.W) : (dat0 (V1 m ρ) c).arrAt w cfg0.N = V2 m ρ c (Pipeline.arrRef spec0 w) :=
  (W2_arr m ρ c w).symm
theorem rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1. -/
abbrev W3 : Dev nD → Valuation τ sig (Elt F) := fun c => StableHlo.after hostOps1 (W2 m ρ c)
theorem W3_of (c : Dev nD) (r : Ref sig .tc) (h : r ∉ wr1) : W3 m ρ c (Proc.devRef .tc r) = W2 m ρ c (Proc.devRef .tc r) :=
  StableHlo.after_of_writes_sub hostOps1 _ writes1 h
theorem W3_args (c : Dev nD) : ∀ a ∈ argRefs, W3 m ρ c (Proc.devRef .tc a) = m ((c : Thread nD τ).loc a) :=
  fun a ha => (W3_of m ρ c a (args1 a ha)).trans (W2_args m ρ c a ha)
/-- The same at the core's own references. -/
abbrev V3 : (c : Dev nD) → (b : Ref sig .tc) → Buf (Elt F) ((c : Thread nD τ).loc b) := fun c b => W3 m ρ c b
/-- After call 1: its arrays as the pipeline leaves them, the rest as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) : W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) : W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem arr1 (c : Dev nD) (w : Fin cfg1.W) : (dat1 (V3 m ρ) c).arrAt w cfg1.N = V4 m ρ c (Pipeline.arrRef spec1 w) :=
  (W4_arr m ρ c w).symm
theorem rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2. -/
abbrev W5 : Dev nD → Valuation τ sig (Elt F) := fun c => StableHlo.after hostOps2 (W4 m ρ c)
theorem W5_of (c : Dev nD) (r : Ref sig .tc) (h : r ∉ wr2) : W5 m ρ c (Proc.devRef .tc r) = W4 m ρ c (Proc.devRef .tc r) :=
  StableHlo.after_of_writes_sub hostOps2 _ writes2 h
theorem W5_args (c : Dev nD) : ∀ a ∈ argRefs, W5 m ρ c (Proc.devRef .tc a) = m ((c : Thread nD τ).loc a) :=
  fun a ha => (W5_of m ρ c a (args2 a ha)).trans (W4_args m ρ c a ha)
/-- The same at the core's own references. -/
abbrev V5 : (c : Dev nD) → (b : Ref sig .tc) → Buf (Elt F) ((c : Thread nD τ).loc b) := fun c b => W5 m ρ c b
/-- After call 2: its arrays as the pipeline leaves them, the rest as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) : W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) : W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem arr2 (c : Dev nD) (w : Fin cfg2.W) : (dat2 (V5 m ρ) c).arrAt w cfg2.N = V6 m ρ c (Pipeline.arrRef spec2 w) :=
  (W6_arr m ρ c w).symm
theorem rest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3. -/
abbrev W7 : Dev nD → Valuation τ sig (Elt F) := fun c => StableHlo.after hostOps3 (W6 m ρ c)
theorem W7_of (c : Dev nD) (r : Ref sig .tc) (h : r ∉ wr3) : W7 m ρ c (Proc.devRef .tc r) = W6 m ρ c (Proc.devRef .tc r) :=
  StableHlo.after_of_writes_sub hostOps3 _ writes3 h
theorem W7_args (c : Dev nD) : ∀ a ∈ argRefs, W7 m ρ c (Proc.devRef .tc a) = m ((c : Thread nD τ).loc a) :=
  fun a ha => (W7_of m ρ c a (args3 a ha)).trans (W6_args m ρ c a ha)

/-! ## The segments -/

/-- No pipeline has a prefetched table. -/
abbrev adm : (p : Fin 3) → (pcfgs (F := F) p).Adm := fun p => (cfgs p).toPCfg_adm
/-- Each call's proof data at its entry contents. -/
def pdats : (p : Fin 3) → (c : Dev nD) → Dat τ (Elt F) Unit ℕ (UU nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What every segment carries beside the buffers. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the last segment leaves. -/
abbrev Tₙ (c : Dev nD) : sProp 𝕄 := iprop(StableHlo.held (c : Thread nD τ) (Pipeline.ucRefs τ sig) (W7 m ρ c) ∗ ∃ r, prngReg c r)

/-- The buffers the gather's pipeline does not stage. -/
abbrev restRefs0 : Finset (Ref sig .tc) := (Finset.univ.filter fun b : Ref sig .tc => ¬ b.isScoped) \ Finset.univ.image (Pipeline.arrRef spec0)

theorem arg1_mem : main_arg1 ∈ restRefs0 := by decide +kernel
theorem arg10_mem : main_arg10 ∈ restRefs0.erase main_arg1 := by decide +kernel

/-- The unstaged buffers, the two tables first. -/
theorem rest_split (c : Dev nD) (V : (b : Ref sig .tc) → Buf (Elt F) ((c : Thread nD τ).loc b)) :
    (Pipeline.unscopedRest (Ix := Unit) (Name := ℕ) (U := UU nD τ) (Lvl := ℕ) spec0 c V : sProp 𝕄)
      = iprop((((c : Thread nD τ).loc main_arg1) ↦{fullShare} V main_arg1) ∗ (((c : Thread nD τ).loc main_arg10) ↦{fullShare} V main_arg10)
          ∗ bigSep ((restRefs0.erase main_arg1).erase main_arg10) fun b => ((c : Thread nD τ).loc b) ↦{fullShare} V b) := by
  unfold Pipeline.unscopedRest
  rw [BI.bigSep_erase arg1_mem, BI.bigSep_erase arg10_mem]
  rfl

/-- The gather's own semaphores. -/
def osem : Fin 2 → SemLoc sig := ![.dma cc0_scratch0.sem, .dma cc0_scratch1.sem]
theorem ownSemFacts : Pipeline.OwnSemFacts spec0 osem := by decide
theorem ownSems0_eq (c : Dev nD) :
    (Pipeline.ownSems0 (Ix := Unit) (Name := ℕ) (U := UU nD τ) (Lvl := ℕ) (Val := Elt F) (τ := τ) osem c : sProp 𝕄)
      = iprop(semVal ((c : Thread nD τ), .dma cc0_scratch0.sem) 0 ∗ semVal ((c : Thread nD τ), .dma cc0_scratch1.sem) 0) :=
  Pipeline.ownSems0_eq_of_list c osem [0, 1] (by decide) (by decide)

set_option backward.isDefEq.respectTransparency.types false in
/-- Call 0 as a segment, from the contents before it to those after it. -/
def reg0 (hix : ∀ c t s, ixOf (iblk0 (V1 m ρ) c 0 t) s < 32000) : Pipeline.RegionSeg (pcfgs (F := F)) adm (pdats m ρ) () defs₀ 𝒱₀ L lv 0 where
  win := launch0.win.to₀
  block_pos := launch0.block_pos
  stage_whole := launch0.stage_whole
  K := Fin 2
  osem := osem
  ho := ownSemFacts
  hbody c := (obligation0 (V1 m ρ) c (hix c)).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop((((c : Thread nD τ).loc main_arg1) ↦{fullShare} V1 m ρ c main_arg1) ∗ (((c : Thread nD τ).loc main_arg10) ↦{fullShare} V1 m ρ c main_arg10)
    ∗ semVal ((c : Thread nD τ), .dma cc0_scratch0.sem) 0 ∗ semVal ((c : Thread nD τ), .dma cc0_scratch1.sem) 0 ∗ ∃ r, prngReg c r)
  Y c := iprop((((c : Thread nD τ).loc main_arg1) ↦{fullShare} V1 m ρ c main_arg1) ∗ (((c : Thread nD τ).loc main_arg10) ↦{fullShare} V1 m ρ c main_arg10) ∗ ∃ r, prngReg c r)
  Z c := bigSep ((restRefs0.erase main_arg1).erase main_arg10) fun b => ((c : Thread nD τ).loc b) ↦{fullShare} V1 m ρ c b
  hentry c := by
    rw [ownSems0_eq]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held, show Pipeline.unscopedRest (Pipeline.pin (pcfgs (F := F)) adm 0).spec c (V1 m ρ c) = _ from rest_split c (V1 m ρ c)] at hsplit
    iintro ⟨⟨Hub, Hp, HO⟩, ⟨S1, S2⟩, -⟩
    ihave H := hsplit $$ Hub
    icases H with ⟨Ha, T1, T2, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [T1 T2 S1 S2 Hp]
    · isplitl [T1]; · iexact T1
      isplitl [T2]; · iexact T2
      isplitl [S1]; · iexact S1
      isplitl [S2]; · iexact S2
      iexact Hp
    iexact Hrest
  hin c := by
    rw [show (pdats m ρ 0 c).Φ 0 = Φ0 (V1 m ρ) c from rfl]; unfold Φ0
    iintro ⟨⟨T1, T2, S1, S2, Hp⟩, -, Hr⟩
    isplitl [T1]; · iexact T1
    isplitl [T2]; · iexact T2
    isplitl [S1]; · iexact S1
    isplitl [S2]; · iexact S2
    isplitl [Hr]; · iexact Hr
    iexact Hp
  hout c := by
    rw [ownSems0_eq, show (pdats m ρ 0 c).Φ (Fin.last _) = Φ0 (V1 m ρ) c from rfl]; unfold Φ0
    iintro ⟨T1, T2, S1, S2, Hr, Hp⟩
    isplitl [T1 T2 Hp]
    · isplitl [T1]; · iexact T1
      isplitl [T2]; · iexact T2
      iexact Hp
    isplitl [S1 S2]
    · isplitl [S1] <;> iassumption
    iexact Hr
  hexit c := by
    have hjoin := Pipeline.unscopedBufs_of_arrays (p := 0) (pcfgs (F := F)) adm (Ix := Unit) (Name := ℕ) (U := UU nD τ) (Lvl := ℕ)
      launch0.win launch0.arr_whole c (pdats m ρ) ((pdats m ρ 0 c).share_full fun _ => rfl)
      (V1 m ρ c) (V2 m ρ c) ((pdats m ρ 0 c).arrAt · cfg0.N) (arr0 m ρ c) (rest0 m ρ c)
    rw [Pipeline.unscopedBufs_held, show Pipeline.unscopedRest (Pipeline.pin (pcfgs (F := F)) adm 0).spec c (V1 m ρ c) = _ from rest_split c (V1 m ρ c)] at hjoin
    iintro ⟨Ha, HO, ⟨T1, T2, Hp⟩, Hrest⟩
    imodintro
    isplitl [Ha T1 T2 Hrest]
    · iapply hjoin
      isplitl [Ha]; · iexact Ha
      isplitl [T1]; · iexact T1
      isplitl [T2]; · iexact T2
      iexact Hrest
    isplitl [Hp]; · iexact Hp
    unfold Pipeline.Dat.owesAt Pipeline.owesWithin
    icases HO with ⟨%W, -, HO⟩; iexists W; iexact HO

set_option backward.isDefEq.respectTransparency.types false in
/-- Call 1 as a segment, from the contents before it to those after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UU nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UU nD τ) (Lvl := ℕ)
      launch1.win launch1.arr_whole c (pdats m ρ) ((pdats m ρ 1 c).share_full fun _ => rfl)
      (V3 m ρ c) (V4 m ρ c) ((pdats m ρ 1 c).arrAt · cfg1.N) (arr1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment, from the contents before it to those after it. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UU nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UU nD τ) (Lvl := ℕ)
      launch2.win launch2.arr_whole c (pdats m ρ) ((pdats m ρ 2 c).share_full fun _ => rfl)
      (V5 m ρ c) (V6 m ρ c) ((pdats m ρ 2 c).arrAt · cfg2.N) (arr2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

section Launch
variable (hix : ∀ c t s, ixOf (iblk0 (V1 m ρ) c 0 t) s < 32000)

/-- @main's segments in order. -/
abbrev segs : List (Pipeline.Seg (pcfgs (F := F)) adm (pdats m ρ) () defs₀ 𝒱₀ L lv) :=
  [ .host (hseg hostOps0 hostOps0_sub fresh0 (W0 m ρ)),
    .region (reg0 m ρ hix),
    .host (hseg hostOps1 hostOps1_sub fresh1 (W2 m ρ)),
    .region (reg1 m ρ),
    .host (hseg hostOps2 hostOps2_sub fresh2 (W4 m ρ)),
    .region (reg2 m ρ),
    .host (hseg hostOps3 hostOps3_sub fresh3 (W6 m ρ)) ]

theorem main_run (c : Dev nD) : main (F := F) c = Pipeline.Seg.run (segs m ρ hix) := (main_chain c).trans (by chain_rfl)

theorem no_unscoped : ∀ sm : SemLoc sig, sm.isScoped .tc = true := by decide

/-- The pipelines' part of the launch element. -/
abbrev EP : Emb (UR sig nD τ) 𝕄 := embL

/-- The launch element: the pipelines', and no counter. -/
def u₀ : UU nD τ := (initOf (Pipeline.cells cfgs cellOf_inj) (Pipeline.launchToks cfgs cellOf_inj), 1)

set_option backward.isDefEq.respectTransparency.types false in
include hix in
/-- Every weakly fair execution ends with every unscoped buffer at the last contents and every semaphore at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj EP defs₀ 𝒱₀ L lv m ρ main (segs m ρ hix)
    (fun c Q => by rw [main_run m ρ hix c])
    (by simp only [segs, Pipeline.Seg.pipes_host, Pipeline.Seg.pipes_region, Pipeline.Seg.pipes_nil]; decide)
    (O₀ := 0) (hL := fun _ _ => rfl) (G := fun _ => iprop(emp))
    (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Launch

end Cert.Proof.KI
-- ==== Proof.ValuesIdeal.lean ====
/-
  The idealized program, as Values.lean has the kernel.
  What the run leaves, as functions of the arguments: the calls' blocks are whole arrays (the gather, the recurrent
  pass) or tiles (the logits), and the host operations between them rearrange and round.
-/
module

public import proofs.«01_k».proof.Proof.RunIdeal
public import Idealize.ShloMosaic.Lib.StableHlo.RunRead
public import Idealize.ShloMosaic.Lib.Pipeline.ValueKit

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.Pipeline (Dat Cfg Window)

variable {F : FTy → Type} [FloatOps F]
variable (m : (ℓ : Loc nD τ sig) → Buf (Elt F) ℓ) (ρ : Dev nD → PrngReg)

/-- The tokens in time-major order: word `16 t + b` is token `t` of sequence `b`. -/
def tokens (x : Vec F S16x128 .i32) : Vec F S2048 .i32 :=
  shapeCast S2048 (transpose S128x16 [1, 0] x transposes_S16x128_S128x16_1_0) shapeCasts_S128x16_S2048

theorem W1_tokens (c : Dev nD) : W1 m ρ c (Proc.devRef .tc main_v1) = tokens (m ((c : Thread nD τ).loc main_arg0)) := by
  unfold W1 tokens
  after_reads_simp
  rfl

/-- Rounded. -/
abbrev rnd {s : Shape} (x : FVec F s .f32) : FVec F s .bf16 := truncf .bf16 x bitsLt_bf16_f32

/-- The recurrent pass's operands: the gathered rows, the weights transposed, both rounded, the biases as rows. -/
def opnds (c : Dev nD) : Operands F :=
  ⟨rnd (gatherRows (m ((c : Thread nD τ).loc main_arg1)) (tokens (m ((c : Thread nD τ).loc main_arg0)))),
   rnd (gatherRows (m ((c : Thread nD τ).loc main_arg10)) (tokens (m ((c : Thread nD τ).loc main_arg0)))),
   rnd (transpose S256x1536 [1, 0] (m ((c : Thread nD τ).loc main_arg2)) transposes_S1536x256_S256x1536_1_0),
   shapeCast S1x1536 (m ((c : Thread nD τ).loc main_arg3)) shapeCasts_S1536_S1x1536,
   rnd (transpose S512x1536 [1, 0] (m ((c : Thread nD τ).loc main_arg4)) transposes_S1536x512_S512x1536_1_0),
   shapeCast S1x1536 (m ((c : Thread nD τ).loc main_arg5)) shapeCasts_S1536_S1x1536,
   rnd (transpose S512x128 [1, 0] (m ((c : Thread nD τ).loc main_arg6)) transposes_S128x512_S512x128_1_0),
   shapeCast S1x128 (m ((c : Thread nD τ).loc main_arg7)) shapeCasts_S128_S1x128,
   rnd (transpose S128x512 [1, 0] (m ((c : Thread nD τ).loc main_arg8)) transposes_S512x128_S128x512_1_0),
   shapeCast S1x512 (m ((c : Thread nD τ).loc main_arg9)) shapeCasts_S512_S1x512,
   rnd (transpose S256x1536 [1, 0] (m ((c : Thread nD τ).loc main_arg11)) transposes_S1536x256_S256x1536_1_0),
   shapeCast S1x1536 (m ((c : Thread nD τ).loc main_arg12)) shapeCasts_S1536_S1x1536,
   rnd (transpose S512x1536 [1, 0] (m ((c : Thread nD τ).loc main_arg13)) transposes_S1536x512_S512x1536_1_0),
   shapeCast S1x1536 (m ((c : Thread nD τ).loc main_arg14)) shapeCasts_S1536_S1x1536⟩

/-- The hidden states, one row per position of each sequence. -/
def hsRows (h : Vec F S128x16x512 .bf16) : Vec F S2048x512 .bf16 :=
  shapeCast S2048x512 (transpose S16x128x512 [1, 0, 2] h transposes_S128x16x512_S16x128x512_1_0_2) shapeCasts_S16x128x512_S2048x512

/-- Rows `1024 i …` of the hidden states. -/
def tileA (a : Vec F S2048x512 .bf16) (i : Nat) : Vec F S1024x512 .bf16 := fun z =>
  a (fun | ⟨0, _⟩ => ⟨(1024 * i + (z 0).val) % 2048, Nat.mod_lt _ (by decide)⟩ | ⟨1, _⟩ => ⟨(z 1).val, (z 1).isLt⟩)
/-- Rows `3200 j …` of the projection's weight. -/
def tileW (w : Vec F S32000x512 .f32) (j : Nat) : Vec F S3200x512 .f32 := fun z =>
  w (fun | ⟨0, _⟩ => ⟨(3200 * j + (z 0).val) % 32000, Nat.mod_lt _ (by decide)⟩ | ⟨1, _⟩ => ⟨(z 1).val, (z 1).isLt⟩)
/-- Columns `3200 j …` of its bias. -/
def tileB (b : Vec F S1x32000 .f32) (j : Nat) : Vec F S1x3200 .f32 := fun z =>
  b (fun | ⟨0, _⟩ => ⟨(z 0).val, (z 0).isLt⟩ | ⟨1, _⟩ => ⟨(3200 * j + (z 1).val) % 32000, Nat.mod_lt _ (by decide)⟩)

/-- All the logits, each read off its tile. -/
def logitsAll (a : Vec F S2048x512 .bf16) (w : Vec F S32000x512 .f32) (b : Vec F S1x32000 .f32) : Vec F S2048x32000 .f32 := fun y =>
  logitsBlock (tileA a ((y 0).val / 1024)) (tileW w ((y 1).val / 3200)) (tileB b ((y 1).val / 3200))
    (fun | ⟨0, _⟩ => ⟨(y 0).val % 1024, Nat.mod_lt _ (by decide)⟩ | ⟨1, _⟩ => ⟨(y 1).val % 3200, Nat.mod_lt _ (by decide)⟩)

section Blocks
variable (V : (c : Dev nD) → (b : Ref sig .tc) → Buf (Elt F) ((c : Thread nD τ).loc b))

theorem block0_0 (c : Dev nD) (t : Fin cfg0.N) : iblk0 V c 0 t = V c main_v1 := by
  funext y
  refine congrArg (V c main_v1) (funext fun a => Fin.ext ?_)
  exact Window.rect_emb_val_of_index_zero win0_0 t a rfl y
theorem block1_0 (c : Dev nD) (t : Fin cfg1.N) : iblk1 V c 0 t = V c main_v3 := by
  funext y
  refine congrArg (V c main_v3) (funext fun a => Fin.ext ?_)
  exact Window.rect_emb_val_of_index_zero win1_0 t a rfl y
theorem block1_1 (c : Dev nD) (t : Fin cfg1.N) : iblk1 V c 1 t = V c main_v4 := by
  funext y
  refine congrArg (V c main_v4) (funext fun a => Fin.ext ?_)
  exact Window.rect_emb_val_of_index_zero win1_1 t a rfl y
theorem block1_2 (c : Dev nD) (t : Fin cfg1.N) : iblk1 V c 2 t = V c main_v6 := by
  funext y
  refine congrArg (V c main_v6) (funext fun a => Fin.ext ?_)
  exact Window.rect_emb_val_of_index_zero win1_2 t a rfl y
theorem block1_3 (c : Dev nD) (t : Fin cfg1.N) : iblk1 V c 3 t = V c main_v7 := by
  funext y
  refine congrArg (V c main_v7) (funext fun a => Fin.ext ?_)
  exact Window.rect_emb_val_of_index_zero win1_3 t a rfl y
theorem block1_4 (c : Dev nD) (t : Fin cfg1.N) : iblk1 V c 4 t = V c main_v9 := by
  funext y
  refine congrArg (V c main_v9) (funext fun a => Fin.ext ?_)
  exact Window.rect_emb_val_of_index_zero win1_4 t a rfl y
theorem block1_5 (c : Dev nD) (t : Fin cfg1.N) : iblk1 V c 5 t = V c main_v10 := by
  funext y
  refine congrArg (V c main_v10) (funext fun a => Fin.ext ?_)
  exact Window.rect_emb_val_of_index_zero win1_5 t a rfl y
theorem block1_6 (c : Dev nD) (t : Fin cfg1.N) : iblk1 V c 6 t = V c main_v12 := by
  funext y
  refine congrArg (V c main_v12) (funext fun a => Fin.ext ?_)
  exact Window.rect_emb_val_of_index_zero win1_6 t a rfl y
theorem block1_7 (c : Dev nD) (t : Fin cfg1.N) : iblk1 V c 7 t = V c main_v13 := by
  funext y
  refine congrArg (V c main_v13) (funext fun a => Fin.ext ?_)
  exact Window.rect_emb_val_of_index_zero win1_7 t a rfl y
theorem block1_8 (c : Dev nD) (t : Fin cfg1.N) : iblk1 V c 8 t = V c main_v15 := by
  funext y
  refine congrArg (V c main_v15) (funext fun a => Fin.ext ?_)
  exact Window.rect_emb_val_of_index_zero win1_8 t a rfl y
theorem block1_9 (c : Dev nD) (t : Fin cfg1.N) : iblk1 V c 9 t = V c main_v16 := by
  funext y
  refine congrArg (V c main_v16) (funext fun a => Fin.ext ?_)
  exact Window.rect_emb_val_of_index_zero win1_9 t a rfl y
theorem block1_10 (c : Dev nD) (t : Fin cfg1.N) : iblk1 V c 10 t = V c main_v18 := by
  funext y
  refine congrArg (V c main_v18) (funext fun a => Fin.ext ?_)
  exact Window.rect_emb_val_of_index_zero win1_10 t a rfl y
theorem block1_11 (c : Dev nD) (t : Fin cfg1.N) : iblk1 V c 11 t = V c main_v19 := by
  funext y
  refine congrArg (V c main_v19) (funext fun a => Fin.ext ?_)
  exact Window.rect_emb_val_of_index_zero win1_11 t a rfl y
theorem block1_12 (c : Dev nD) (t : Fin cfg1.N) : iblk1 V c 12 t = V c main_v21 := by
  funext y
  refine congrArg (V c main_v21) (funext fun a => Fin.ext ?_)
  exact Window.rect_emb_val_of_index_zero win1_12 t a rfl y
theorem block1_13 (c : Dev nD) (t : Fin cfg1.N) : iblk1 V c 13 t = V c main_v22 := by
  funext y
  refine congrArg (V c main_v22) (funext fun a => Fin.ext ?_)
  exact Window.rect_emb_val_of_index_zero win1_13 t a rfl y

theorem index2_0 : ∀ t : Fin cfg2.N, win2_0.index t 0 = (grid2.coords t 1).val ∧ win2_0.index t 1 = 0 := by decide +kernel
theorem index2_1 : ∀ t : Fin cfg2.N, win2_1.index t 0 = (grid2.coords t 0).val ∧ win2_1.index t 1 = 0 := by decide +kernel
theorem index2_2 : ∀ t : Fin cfg2.N, win2_2.index t 0 = 0 ∧ win2_2.index t 1 = (grid2.coords t 0).val := by decide +kernel
theorem index2_3 : ∀ t : Fin cfg2.N, win2_3.index t 0 = (grid2.coords t 1).val ∧ win2_3.index t 1 = (grid2.coords t 0).val := by decide +kernel

theorem block2_0 (c : Dev nD) (t : Fin cfg2.N) : iblk2 V c 0 t = tileA (V c main_v25) (grid2.coords t 1).val := by
  funext y
  refine congrArg (V c main_v25) (funext fun a => Fin.ext ?_)
  refine (Window.rect_emb_val win2_0 t y a).trans ?_
  have hc : (grid2.coords t 1).val < 2 := (grid2.coords t 1).isLt
  fin_cases a
  · have hy : (y 0).val < 1024 := (y 0).isLt
    have h := (index2_0 t).1
    show win2_0.index t 0 * 1024 + (y 0).val = (1024 * (grid2.coords t 1).val + (y 0).val) % 2048
    rw [h]; omega
  · have h := (index2_0 t).2
    show win2_0.index t 1 * 512 + (y 1).val = (y 1).val
    rw [h]; omega

theorem block2_1 (c : Dev nD) (t : Fin cfg2.N) : iblk2 V c 1 t = tileW (V c main_arg15) (grid2.coords t 0).val := by
  funext y
  refine congrArg (V c main_arg15) (funext fun a => Fin.ext ?_)
  refine (Window.rect_emb_val win2_1 t y a).trans ?_
  have hc : (grid2.coords t 0).val < 10 := (grid2.coords t 0).isLt
  fin_cases a
  · have hy : (y 0).val < 3200 := (y 0).isLt
    have h := (index2_1 t).1
    show win2_1.index t 0 * 3200 + (y 0).val = (3200 * (grid2.coords t 0).val + (y 0).val) % 32000
    rw [h]; omega
  · have h := (index2_1 t).2
    show win2_1.index t 1 * 512 + (y 1).val = (y 1).val
    rw [h]; omega

theorem block2_2 (c : Dev nD) (t : Fin cfg2.N) : iblk2 V c 2 t = tileB (V c main_v26) (grid2.coords t 0).val := by
  funext y
  refine congrArg (V c main_v26) (funext fun a => Fin.ext ?_)
  refine (Window.rect_emb_val win2_2 t y a).trans ?_
  have hc : (grid2.coords t 0).val < 10 := (grid2.coords t 0).isLt
  fin_cases a
  · have h := (index2_2 t).1
    show win2_2.index t 0 * 1 + (y 0).val = (y 0).val
    rw [h]; omega
  · have hy : (y 1).val < 3200 := (y 1).isLt
    have h := (index2_2 t).2
    show win2_2.index t 1 * 3200 + (y 1).val = (3200 * (grid2.coords t 0).val + (y 1).val) % 32000
    rw [h]; omega

theorem array2 (c : Dev nD) : (dat2 V c).arrAt 3 cfg2.N = logitsAll (V c main_v25) (V c main_arg15) (V c main_v26) := by
  refine (dat2 V c).arrAt_eq_of_covers 3 _ (by decide +kernel) fun t hf y => ?_
  rw [after2_3, block2_0, block2_1, block2_2]
  have h0 : ((((cfg2.win 3).blk t).view.emb y) 0).val = 1024 * (grid2.coords t 1).val + (y 0).val := by
    refine (Window.rect_emb_val win2_3 t y 0).trans ?_
    rw [(index2_3 t).1]; exact congrArg (· + (y 0).val) (Nat.mul_comm _ _)
  have h1 : ((((cfg2.win 3).blk t).view.emb y) 1).val = 3200 * (grid2.coords t 0).val + (y 1).val := by
    refine (Window.rect_emb_val win2_3 t y 1).trans ?_
    rw [(index2_3 t).2]; exact congrArg (· + (y 1).val) (Nat.mul_comm _ _)
  have hy0 : (y 0).val < 1024 := (y 0).isLt
  have hy1 : (y 1).val < 3200 := (y 1).isLt
  have e0 : ((((cfg2.win 3).blk t).view.emb y) 0).val / 1024 = (grid2.coords t 1).val := by rw [h0]; omega
  have e1 : ((((cfg2.win 3).blk t).view.emb y) 1).val / 3200 = (grid2.coords t 0).val := by rw [h1]; omega
  have m0 : ((((cfg2.win 3).blk t).view.emb y) 0).val % 1024 = (y 0).val := by rw [h0]; omega
  have m1 : ((((cfg2.win 3).blk t).view.emb y) 1).val % 3200 = (y 1).val := by rw [h1]; omega
  unfold logitsAll
  rw [e0, e1]
  refine congrArg (logitsBlock (F := F) _ _ _) (funext fun a => Fin.ext ?_)
  fin_cases a
  · exact m0.symm
  · exact m1.symm

theorem array1_z (c : Dev nD) : (dat1 V c).arrAt 14 cfg1.N = latent (operands V c t1_0) := by
  refine (dat1 V c).arrAt_eq_of_after_last 14 t1_0 (by decide +kernel) _ fun j => ?_
  rw [after1_14]
  rfl
theorem array1_hs (c : Dev nD) : (dat1 V c).arrAt 15 cfg1.N = slabs (operands V c t1_0) := by
  refine (dat1 V c).arrAt_eq_of_after_last 15 t1_0 (by decide +kernel) _ fun j => ?_
  rw [after1_15]
  rfl
theorem array0_1 (c : Dev nD) : (dat0 V c).arrAt 1 cfg0.N = gatherRows (V c main_arg1) (V c main_v1) := by
  refine (dat0 V c).arrAt_eq_of_after_last 1 t0_0 (by decide +kernel) _ fun j => ?_
  rw [after0_1, block0_0]
  rfl
theorem array0_2 (c : Dev nD) : (dat0 V c).arrAt 2 cfg0.N = gatherRows (V c main_arg10) (V c main_v1) := by
  refine (dat0 V c).arrAt_eq_of_after_last 2 t0_0 (by decide +kernel) _ fun j => ?_
  rw [after0_2, block0_0]
  rfl

end Blocks

/-! ## The contents, call by call -/

theorem W2_enc (c : Dev nD) : W2 m ρ c (Proc.devRef .tc main_v2_0) = gatherRows (m ((c : Thread nD τ).loc main_arg1)) (tokens (m ((c : Thread nD τ).loc main_arg0))) := by
  refine (W2_arr m ρ c 1).trans ((array0_1 (V1 m ρ) c).trans ?_)
  show gatherRows (W1 m ρ c (Proc.devRef .tc main_arg1)) (W1 m ρ c (Proc.devRef .tc main_v1)) = _
  rw [W1_tokens, W1_args m ρ c main_arg1 (by decide)]
theorem W2_dec (c : Dev nD) : W2 m ρ c (Proc.devRef .tc main_v2_1) = gatherRows (m ((c : Thread nD τ).loc main_arg10)) (tokens (m ((c : Thread nD τ).loc main_arg0))) := by
  refine (W2_arr m ρ c 2).trans ((array0_2 (V1 m ρ) c).trans ?_)
  show gatherRows (W1 m ρ c (Proc.devRef .tc main_arg10)) (W1 m ρ c (Proc.devRef .tc main_v1)) = _
  rw [W1_tokens, W1_args m ρ c main_arg10 (by decide)]

theorem W3_3 (c : Dev nD) : W3 m ρ c (Proc.devRef .tc main_v3) = (opnds m c).x0 := by
  unfold W3 opnds
  after_reads_simp
  rw [W2_enc]
theorem W3_4 (c : Dev nD) : W3 m ρ c (Proc.devRef .tc main_v4) = (opnds m c).x1 := by
  unfold W3 opnds
  after_reads_simp
  rw [W2_dec]
theorem W3_6 (c : Dev nD) : W3 m ρ c (Proc.devRef .tc main_v6) = (opnds m c).x2 := by
  unfold W3 opnds
  after_reads_simp
  rw [W2_args m ρ c main_arg2 (by decide)]
  try rfl
theorem W3_7 (c : Dev nD) : W3 m ρ c (Proc.devRef .tc main_v7) = (opnds m c).x3 := by
  unfold W3 opnds
  after_reads_simp
  rw [W2_args m ρ c main_arg3 (by decide)]
  try rfl
theorem W3_9 (c : Dev nD) : W3 m ρ c (Proc.devRef .tc main_v9) = (opnds m c).x4 := by
  unfold W3 opnds
  after_reads_simp
  rw [W2_args m ρ c main_arg4 (by decide)]
  try rfl
theorem W3_10 (c : Dev nD) : W3 m ρ c (Proc.devRef .tc main_v10) = (opnds m c).x5 := by
  unfold W3 opnds
  after_reads_simp
  rw [W2_args m ρ c main_arg5 (by decide)]
  try rfl
theorem W3_12 (c : Dev nD) : W3 m ρ c (Proc.devRef .tc main_v12) = (opnds m c).x6 := by
  unfold W3 opnds
  after_reads_simp
  rw [W2_args m ρ c main_arg6 (by decide)]
  try rfl
theorem W3_13 (c : Dev nD) : W3 m ρ c (Proc.devRef .tc main_v13) = (opnds m c).x7 := by
  unfold W3 opnds
  after_reads_simp
  rw [W2_args m ρ c main_arg7 (by decide)]
  try rfl
theorem W3_15 (c : Dev nD) : W3 m ρ c (Proc.devRef .tc main_v15) = (opnds m c).x8 := by
  unfold W3 opnds
  after_reads_simp
  rw [W2_args m ρ c main_arg8 (by decide)]
  try rfl
theorem W3_16 (c : Dev nD) : W3 m ρ c (Proc.devRef .tc main_v16) = (opnds m c).x9 := by
  unfold W3 opnds
  after_reads_simp
  rw [W2_args m ρ c main_arg9 (by decide)]
  try rfl
theorem W3_18 (c : Dev nD) : W3 m ρ c (Proc.devRef .tc main_v18) = (opnds m c).x10 := by
  unfold W3 opnds
  after_reads_simp
  rw [W2_args m ρ c main_arg11 (by decide)]
  try rfl
theorem W3_19 (c : Dev nD) : W3 m ρ c (Proc.devRef .tc main_v19) = (opnds m c).x11 := by
  unfold W3 opnds
  after_reads_simp
  rw [W2_args m ρ c main_arg12 (by decide)]
  try rfl
theorem W3_21 (c : Dev nD) : W3 m ρ c (Proc.devRef .tc main_v21) = (opnds m c).x12 := by
  unfold W3 opnds
  after_reads_simp
  rw [W2_args m ρ c main_arg13 (by decide)]
  try rfl
theorem W3_22 (c : Dev nD) : W3 m ρ c (Proc.devRef .tc main_v22) = (opnds m c).x13 := by
  unfold W3 opnds
  after_reads_simp
  rw [W2_args m ρ c main_arg14 (by decide)]
  try rfl

theorem operands_eq (c : Dev nD) (t : Fin cfg1.N) : operands (V3 m ρ) c t = opnds m c := by
  unfold operands
  rw [block1_0, block1_1, block1_2, block1_3, block1_4, block1_5, block1_6, block1_7, block1_8, block1_9, block1_10, block1_11, block1_12, block1_13]
  show Operands.mk (W3 m ρ c (Proc.devRef .tc main_v3)) (W3 m ρ c (Proc.devRef .tc main_v4)) (W3 m ρ c (Proc.devRef .tc main_v6)) (W3 m ρ c (Proc.devRef .tc main_v7)) (W3 m ρ c (Proc.devRef .tc main_v9)) (W3 m ρ c (Proc.devRef .tc main_v10)) (W3 m ρ c (Proc.devRef .tc main_v12)) (W3 m ρ c (Proc.devRef .tc main_v13)) (W3 m ρ c (Proc.devRef .tc main_v15)) (W3 m ρ c (Proc.devRef .tc main_v16)) (W3 m ρ c (Proc.devRef .tc main_v18)) (W3 m ρ c (Proc.devRef .tc main_v19)) (W3 m ρ c (Proc.devRef .tc main_v21)) (W3 m ρ c (Proc.devRef .tc main_v22)) = _
  rw [W3_3, W3_4, W3_6, W3_7, W3_9, W3_10, W3_12, W3_13, W3_15, W3_16, W3_18, W3_19, W3_21, W3_22]

theorem W4_z (c : Dev nD) : W4 m ρ c (Proc.devRef .tc main_v23_0) = latent (opnds m c) :=
  (W4_arr m ρ c 14).trans ((array1_z (V3 m ρ) c).trans (congrArg latent (operands_eq m ρ c t1_0)))
theorem W4_hs (c : Dev nD) : W4 m ρ c (Proc.devRef .tc main_v23_1) = slabs (opnds m c) :=
  (W4_arr m ρ c 15).trans ((array1_hs (V3 m ρ) c).trans (congrArg slabs (operands_eq m ρ c t1_0)))
theorem W5_hs (c : Dev nD) : W5 m ρ c (Proc.devRef .tc main_v25) = hsRows (slabs (opnds m c)) := by
  rw [← W4_hs m ρ c]
  unfold W5 hsRows
  after_reads_simp
  try rfl
theorem W5_bias (c : Dev nD) : W5 m ρ c (Proc.devRef .tc main_v26) = shapeCast S1x32000 (m ((c : Thread nD τ).loc main_arg16)) shapeCasts_S32000_S1x32000 := by
  rw [← W4_args m ρ c main_arg16 (by decide)]
  unfold W5
  after_reads_simp
  try rfl
/-- The logits, before the final regrouping. -/
def logitsOf (c : Dev nD) : Vec F S2048x32000 .f32 :=
  logitsAll (hsRows (slabs (opnds m c))) (m ((c : Thread nD τ).loc main_arg15)) (shapeCast S1x32000 (m ((c : Thread nD τ).loc main_arg16)) shapeCasts_S32000_S1x32000)

theorem W6_logits (c : Dev nD) : W6 m ρ c (Proc.devRef .tc main_v27) = logitsOf m c := by
  refine (W6_arr m ρ c 3).trans ((array2 (V5 m ρ) c).trans ?_)
  show logitsAll (W5 m ρ c (Proc.devRef .tc main_v25)) (W5 m ρ c (Proc.devRef .tc main_arg15)) (W5 m ρ c (Proc.devRef .tc main_v26)) = _
  rw [W5_hs, W5_bias, W5_args m ρ c main_arg15 (by decide)]
  rfl

theorem W7_outputs (c : Dev nD) : W7 m ρ c (Proc.devRef .tc main_v28) = shapeCast S16x128x32000 (logitsOf m c) shapeCasts_S2048x32000_S16x128x32000 := by
  rw [← W6_logits m ρ c]
  unfold W7
  after_reads_simp
  try rfl
theorem W7_latent (c : Dev nD) : W7 m ρ c (Proc.devRef .tc main_v23_0) = latent (opnds m c) := by
  rw [W7_of m ρ c main_v23_0 (by decide), W6_of m ρ c main_v23_0 (by decide), W5_of m ρ c main_v23_0 (by decide), W4_z]

/-! ## The run, from tokens in range -/

theorem index_in_range (hx : ∀ c : Dev nD, ∀ i, BitVec.toNat (w := 32) (m ((c : Thread nD τ).loc main_arg0) i) < 32000) :
    ∀ c t s, ixOf (iblk0 (V1 m ρ) c 0 t) s < 32000 := by
  intro c t s
  rw [block0_0]
  show ixOf (W1 m ρ c (Proc.devRef .tc main_v1)) s < 32000
  rw [W1_tokens]
  exact hx c _

/-- Every execution ends with the two results at these values, the arguments as launched and the semaphores at zero. -/
theorem results (hx : ∀ c : Dev nD, ∀ i, BitVec.toNat (w := 32) (m ((c : Thread nD τ).loc main_arg0) i) < 32000) :
    θ_run defs (onTc (τ := τ) (main (F := F))) ⟨m, fun _ => 0, ρ⟩ (fun r =>
      ((∀ c : Dev nD, r.2.mem ((c : Thread nD τ).loc main_v28) = shapeCast S16x128x32000 (logitsOf m c) shapeCasts_S2048x32000_S16x128x32000
          ∧ r.2.mem ((c : Thread nD τ).loc main_v23_0) = latent (opnds m c))
        ∧ ∀ c : Dev nD, ∀ a ∈ argRefs, r.2.mem ((c : Thread nD τ).loc a) = m ((c : Thread nD τ).loc a)) ∧ r.2.sem = fun _ => 0) :=
  (θ_run defs _ _).mono (fun r h =>
    ⟨⟨fun c => ⟨(h.1 c _ (mem_uc main_v28 (by decide))).trans (W7_outputs m ρ c), (h.1 c _ (mem_uc main_v23_0 (by decide))).trans (W7_latent m ρ c)⟩,
      fun c a ha => (h.1 c _ (mem_uc a ((ListAll.forall_mem_of_all_decide (by decide +kernel) : ∀ a ∈ argRefs, ¬ (Proc.devRef .tc a : DevRef τ sig).isScoped) a ha))).trans (W7_args m ρ c a ha)⟩, h.2⟩)
    (run m ρ (index_in_range m ρ hx))

end Cert.Proof.KI
-- ==== Proof.RefOps.lean ====
/-
  The reference program's operations, list by list, and the program as the chain of these lists and its two loops.
-/
module

public import proofs.«01_k».proof.Proof.Gen.ReferenceIdeal
public import Idealize.ShloMosaic.Lib.Pipeline.Regions
public import Idealize.ShloMosaic.Lib.StableHlo.RunLoop

@[expose] public section

noncomputable section

namespace Cert.Proof.RI

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The host operations before the first loop. -/
abbrev hostOps0 : List (HloOp τ sig (Elt F)) :=
  [ StableHlo.nullary main_c (constantI S_ 32 0#32),
    StableHlo.unary main_c main_v0 (broadcastInDim S16x128 ![] bcast_S_S16x128 : (⟨S_, .i32⟩ : BufTy).Contents (Elt F) → (⟨S16x128, .i32⟩ : BufTy).Contents (Elt F)),
    StableHlo.binary main_arg0 main_v0 main_v1 (cmpi .slt : (⟨S16x128, .i32⟩ : BufTy).Contents (Elt F) → (⟨S16x128, .i32⟩ : BufTy).Contents (Elt F) → (⟨S16x128, .i1⟩ : BufTy).Contents (Elt F)),
    StableHlo.nullary main_c_0 (constantI S_ 32 32000#32),
    StableHlo.unary main_c_0 main_v2 (broadcastInDim S16x128 ![] bcast_S_S16x128 : (⟨S_, .i32⟩ : BufTy).Contents (Elt F) → (⟨S16x128, .i32⟩ : BufTy).Contents (Elt F)),
    StableHlo.binary main_arg0 main_v2 main_v3 (addi : (⟨S16x128, .i32⟩ : BufTy).Contents (Elt F) → (⟨S16x128, .i32⟩ : BufTy).Contents (Elt F) → (⟨S16x128, .i32⟩ : BufTy).Contents (Elt F)),
    StableHlo.ternary main_v1 main_v3 main_arg0 main_v4 (select : (⟨S16x128, .i1⟩ : BufTy).Contents (Elt F) → (⟨S16x128, .i32⟩ : BufTy).Contents (Elt F) → (⟨S16x128, .i32⟩ : BufTy).Contents (Elt F) → (⟨S16x128, .i32⟩ : BufTy).Contents (Elt F)),
    StableHlo.unary main_v4 main_v5 (broadcastInDim S16x128x1 ![0, 1] bcast_S16x128_S16x128x1_0_1 : (⟨S16x128, .i32⟩ : BufTy).Contents (Elt F) → (⟨S16x128x1, .i32⟩ : BufTy).Contents (Elt F)),
    StableHlo.binary main_arg1 main_v5 main_v6 ((fun x i => Host.gather gather_S32000x256_S16x128x1_S16x128x256_2_0_n_n_0_2_1256 x i) : (⟨S32000x256, .f32⟩ : BufTy).Contents (Elt F) → (⟨S16x128x1, .i32⟩ : BufTy).Contents (Elt F) → (⟨S16x128x256, .f32⟩ : BufTy).Contents (Elt F)),
    StableHlo.unary main_v6 main_v7 ((transpose S128x16x256 [1, 0, 2] · transposes_S16x128x256_S128x16x256_1_0_2) : (⟨S16x128x256, .f32⟩ : BufTy).Contents (Elt F) → (⟨S128x16x256, .f32⟩ : BufTy).Contents (Elt F)),
    StableHlo.nullary main_cst (constant S_ .f32 0x00000000#32),
    StableHlo.unary main_cst main_v8 (broadcastInDim S16x512 ![] bcast_S_S16x512 : (⟨S_, .f32⟩ : BufTy).Contents (Elt F) → (⟨S16x512, .f32⟩ : BufTy).Contents (Elt F)),
    StableHlo.binary main_v7 main_arg2 main_v9 ((fun l r => Host.dotGeneral dot_S128x16x256_S1536x256_S128x16x1536_2_1_01_0_n_n none l r) : (⟨S128x16x256, .f32⟩ : BufTy).Contents (Elt F) → (⟨S1536x256, .f32⟩ : BufTy).Contents (Elt F) → (⟨S128x16x1536, .f32⟩ : BufTy).Contents (Elt F)),
    StableHlo.unary main_arg3 main_v10 (broadcastInDim S1x1x1536 ![2] bcast_S1536_S1x1x1536_2 : (⟨S1536, .f32⟩ : BufTy).Contents (Elt F) → (⟨S1x1x1536, .f32⟩ : BufTy).Contents (Elt F)),
    StableHlo.unary main_v10 main_v11 (broadcastInDim S128x16x1536 ![0, 1, 2] bcast_S1x1x1536_S128x16x1536_0_1_2 : (⟨S1x1x1536, .f32⟩ : BufTy).Contents (Elt F) → (⟨S128x16x1536, .f32⟩ : BufTy).Contents (Elt F)),
    StableHlo.binary main_v9 main_v11 main_v12 (addf : (⟨S128x16x1536, .f32⟩ : BufTy).Contents (Elt F) → (⟨S128x16x1536, .f32⟩ : BufTy).Contents (Elt F) → (⟨S128x16x1536, .f32⟩ : BufTy).Contents (Elt F)),
    StableHlo.nullary main_cst_1 (constant S_ .f32 0x00000000#32),
    StableHlo.unary main_cst_1 main_v13 (broadcastInDim S128x16x512 ![] bcast_S_S128x16x512 : (⟨S_, .f32⟩ : BufTy).Contents (Elt F) → (⟨S128x16x512, .f32⟩ : BufTy).Contents (Elt F)),
    StableHlo.nullary main_c_2 (constantI S_ 32 0#32),
    StableHlo.unary main_v12 main_v14_0 id,
    StableHlo.unary main_arg4 main_v14_1 id,
    StableHlo.unary main_arg5 main_v14_2 id,
    StableHlo.unary main_c_2 main_v14_3 id,
    StableHlo.unary main_v8 main_v14_4 id,
    StableHlo.unary main_v13 main_v14_5 id ]
theorem hostOps0_sub : (hostOps0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- Those between the loops. -/
abbrev hostOps0_1 : List (HloOp τ sig (Elt F)) :=
  ( StableHlo.unary main_arg6 main_v15 ((transpose S512x128 [1, 0] · transposes_S128x512_S512x128_1_0) : (⟨S128x512, .f32⟩ : BufTy).Contents (Elt F) → (⟨S512x128, .f32⟩ : BufTy).Contents (Elt F))
  :: StableHlo.binary main_v14_4 main_v15 main_v16 ((fun l r => Host.dotGeneral dot_S16x512_S512x128_S16x128_1_0_0_1_n_n none l r) : (⟨S16x512, .f32⟩ : BufTy).Contents (Elt F) → (⟨S512x128, .f32⟩ : BufTy).Contents (Elt F) → (⟨S16x128, .f32⟩ : BufTy).Contents (Elt F))
  :: StableHlo.unary main_arg7 main_v17 (broadcastInDim S1x128 ![1] bcast_S128_S1x128_1 : (⟨S128, .f32⟩ : BufTy).Contents (Elt F) → (⟨S1x128, .f32⟩ : BufTy).Contents (Elt F))
  :: StableHlo.unary main_v17 main_v18 (broadcastInDim S16x128 ![0, 1] bcast_S1x128_S16x128_0_1 : (⟨S1x128, .f32⟩ : BufTy).Contents (Elt F) → (⟨S16x128, .f32⟩ : BufTy).Contents (Elt F))
  :: StableHlo.binary main_v16 main_v18 main_v19 (addf : (⟨S16x128, .f32⟩ : BufTy).Contents (Elt F) → (⟨S16x128, .f32⟩ : BufTy).Contents (Elt F) → (⟨S16x128, .f32⟩ : BufTy).Contents (Elt F))
  :: StableHlo.unary main_arg8 main_v20 ((transpose S128x512 [1, 0] · transposes_S512x128_S128x512_1_0) : (⟨S512x128, .f32⟩ : BufTy).Contents (Elt F) → (⟨S128x512, .f32⟩ : BufTy).Contents (Elt F))
  :: StableHlo.binary main_v19 main_v20 main_v21 ((fun l r => Host.dotGeneral dot_S16x128_S128x512_S16x512_1_0_0_1_n_n none l r) : (⟨S16x128, .f32⟩ : BufTy).Contents (Elt F) → (⟨S128x512, .f32⟩ : BufTy).Contents (Elt F) → (⟨S16x512, .f32⟩ : BufTy).Contents (Elt F))
  :: StableHlo.unary main_arg9 main_v22 (broadcastInDim S1x512 ![1] bcast_S512_S1x512_1 : (⟨S512, .f32⟩ : BufTy).Contents (Elt F) → (⟨S1x512, .f32⟩ : BufTy).Contents (Elt F))
  :: StableHlo.unary main_v22 main_v23 (broadcastInDim S16x512 ![0, 1] bcast_S1x512_S16x512_0_1 : (⟨S1x512, .f32⟩ : BufTy).Contents (Elt F) → (⟨S16x512, .f32⟩ : BufTy).Contents (Elt F))
  :: StableHlo.binary main_v21 main_v23 main_v24 (addf : (⟨S16x512, .f32⟩ : BufTy).Contents (Elt F) → (⟨S16x512, .f32⟩ : BufTy).Contents (Elt F) → (⟨S16x512, .f32⟩ : BufTy).Contents (Elt F))
  :: StableHlo.unary main_v24 main_v25 (Host.tanh : (⟨S16x512, .f32⟩ : BufTy).Contents (Elt F) → (⟨S16x512, .f32⟩ : BufTy).Contents (Elt F))
  :: StableHlo.unary main_arg0 main_v26 ((extractStridedSlice S16x127 ![0, 0] · slices_S16x128_S16x127_0_0) : (⟨S16x128, .i32⟩ : BufTy).Contents (Elt F) → (⟨S16x127, .i32⟩ : BufTy).Contents (Elt F))
  :: StableHlo.nullary main_c_3 (constantI S_ 32 0#32)
  :: StableHlo.unary main_c_3 main_v27 (broadcastInDim S16x127 ![] bcast_S_S16x127 : (⟨S_, .i32⟩ : BufTy).Contents (Elt F) → (⟨S16x127, .i32⟩ : BufTy).Contents (Elt F))
  :: StableHlo.binary main_v26 main_v27 main_v28 (cmpi .slt : (⟨S16x127, .i32⟩ : BufTy).Contents (Elt F) → (⟨S16x127, .i32⟩ : BufTy).Contents (Elt F) → (⟨S16x127, .i1⟩ : BufTy).Contents (Elt F))
  :: StableHlo.nullary main_c_4 (constantI S_ 32 32000#32)
  :: StableHlo.unary main_c_4 main_v29 (broadcastInDim S16x127 ![] bcast_S_S16x127 : (⟨S_, .i32⟩ : BufTy).Contents (Elt F) → (⟨S16x127, .i32⟩ : BufTy).Contents (Elt F))
  :: StableHlo.binary main_v26 main_v29 main_v30 (addi : (⟨S16x127, .i32⟩ : BufTy).Contents (Elt F) → (⟨S16x127, .i32⟩ : BufTy).Contents (Elt F) → (⟨S16x127, .i32⟩ : BufTy).Contents (Elt F))
  :: StableHlo.ternary main_v28 main_v30 main_v26 main_v31 (select : (⟨S16x127, .i1⟩ : BufTy).Contents (Elt F) → (⟨S16x127, .i32⟩ : BufTy).Contents (Elt F) → (⟨S16x127, .i32⟩ : BufTy).Contents (Elt F) → (⟨S16x127, .i32⟩ : BufTy).Contents (Elt F))
  :: StableHlo.unary main_v31 main_v32 (broadcastInDim S16x127x1 ![0, 1] bcast_S16x127_S16x127x1_0_1 : (⟨S16x127, .i32⟩ : BufTy).Contents (Elt F) → (⟨S16x127x1, .i32⟩ : BufTy).Contents (Elt F))
  :: StableHlo.binary main_arg10 main_v32 main_v33 ((fun x i => Host.gather gather_S32000x256_S16x127x1_S16x127x256_2_0_n_n_0_2_1256 x i) : (⟨S32000x256, .f32⟩ : BufTy).Contents (Elt F) → (⟨S16x127x1, .i32⟩ : BufTy).Contents (Elt F) → (⟨S16x127x256, .f32⟩ : BufTy).Contents (Elt F))
  :: StableHlo.unary main_v33 main_v34 ((transpose S127x16x256 [1, 0, 2] · transposes_S16x127x256_S127x16x256_1_0_2) : (⟨S16x127x256, .f32⟩ : BufTy).Contents (Elt F) → (⟨S127x16x256, .f32⟩ : BufTy).Contents (Elt F))
  :: StableHlo.binary main_v34 main_arg11 main_v35 ((fun l r => Host.dotGeneral dot_S127x16x256_S1536x256_S127x16x1536_2_1_01_0_n_n none l r) : (⟨S127x16x256, .f32⟩ : BufTy).Contents (Elt F) → (⟨S1536x256, .f32⟩ : BufTy).Contents (Elt F) → (⟨S127x16x1536, .f32⟩ : BufTy).Contents (Elt F))
  :: StableHlo.unary main_arg12 main_v36 (broadcastInDim S1x1x1536 ![2] bcast_S1536_S1x1x1536_2 : (⟨S1536, .f32⟩ : BufTy).Contents (Elt F) → (⟨S1x1x1536, .f32⟩ : BufTy).Contents (Elt F))
  :: StableHlo.unary main_v36 main_v37 (broadcastInDim S127x16x1536 ![0, 1, 2] bcast_S1x1x1536_S127x16x1536_0_1_2 : (⟨S1x1x1536, .f32⟩ : BufTy).Contents (Elt F) → (⟨S127x16x1536, .f32⟩ : BufTy).Contents (Elt F))
  :: StableHlo.binary main_v35 main_v37 main_v38 (addf : (⟨S127x16x1536, .f32⟩ : BufTy).Contents (Elt F) → (⟨S127x16x1536, .f32⟩ : BufTy).Contents (Elt F) → (⟨S127x16x1536, .f32⟩ : BufTy).Contents (Elt F))
  :: StableHlo.nullary main_cst_5 (constant S_ .f32 0x00000000#32)
  :: StableHlo.unary main_cst_5 main_v39 (broadcastInDim S127x16x512 ![] bcast_S_S127x16x512 : (⟨S_, .f32⟩ : BufTy).Contents (Elt F) → (⟨S127x16x512, .f32⟩ : BufTy).Contents (Elt F))
  :: StableHlo.nullary main_c_6 (constantI S_ 32 0#32)
  :: StableHlo.unary main_v38 main_v40_0 id
  :: StableHlo.unary main_arg13 main_v40_1 id
  :: StableHlo.unary main_arg14 main_v40_2 id
  :: StableHlo.unary main_c_6 main_v40_3 id
  :: StableHlo.unary main_v25 main_v40_4 id
  :: StableHlo.unary main_v39 main_v40_5 id
  :: [] )
theorem hostOps0_1_sub : (hostOps0_1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- Those after the second loop. -/
abbrev hostOps0_2 : List (HloOp τ sig (Elt F)) :=
  [ StableHlo.binary main_arg15 main_v40_5 main_v41 ((fun l r => Host.dotGeneral dot_S32000x512_S127x16x512_S32000x127x16_1_2_0_01_n_n none l r) : (⟨S32000x512, .f32⟩ : BufTy).Contents (Elt F) → (⟨S127x16x512, .f32⟩ : BufTy).Contents (Elt F) → (⟨S32000x127x16, .f32⟩ : BufTy).Contents (Elt F)),
    StableHlo.unary main_v41 main_v42 ((transpose S16x127x32000 [2, 1, 0] · transposes_S32000x127x16_S16x127x32000_2_1_0) : (⟨S32000x127x16, .f32⟩ : BufTy).Contents (Elt F) → (⟨S16x127x32000, .f32⟩ : BufTy).Contents (Elt F)),
    StableHlo.unary main_arg16 main_v43 (broadcastInDim S1x1x32000 ![2] bcast_S32000_S1x1x32000_2 : (⟨S32000, .f32⟩ : BufTy).Contents (Elt F) → (⟨S1x1x32000, .f32⟩ : BufTy).Contents (Elt F)),
    StableHlo.unary main_v43 main_v44 (broadcastInDim S16x127x32000 ![0, 1, 2] bcast_S1x1x32000_S16x127x32000_0_1_2 : (⟨S1x1x32000, .f32⟩ : BufTy).Contents (Elt F) → (⟨S16x127x32000, .f32⟩ : BufTy).Contents (Elt F)),
    StableHlo.binary main_v42 main_v44 main_v45 (addf : (⟨S16x127x32000, .f32⟩ : BufTy).Contents (Elt F) → (⟨S16x127x32000, .f32⟩ : BufTy).Contents (Elt F) → (⟨S16x127x32000, .f32⟩ : BufTy).Contents (Elt F)),
    StableHlo.nullary main_cst_7 (constant S_ .f32 0x00000000#32),
    StableHlo.unary main_cst_7 main_v46 (broadcastInDim S16x128x32000 ![] bcast_S_S16x128x32000 : (⟨S_, .f32⟩ : BufTy).Contents (Elt F) → (⟨S16x128x32000, .f32⟩ : BufTy).Contents (Elt F)),
    StableHlo.nullary main_c_8 (constantI S_ 32 1#32),
    StableHlo.unary main_c_8 main_v47 (broadcastInDim S1 ![] bcast_S_S1 : (⟨S_, .i32⟩ : BufTy).Contents (Elt F) → (⟨S1, .i32⟩ : BufTy).Contents (Elt F)),
    StableHlo.ternary main_v46 main_v47 main_v45 main_v48 ((fun x i u => Host.scatter scatter_S16x128x32000_S1_S16x127x32000_012_n_1_0 (fun _ b => b) x i u) : (⟨S16x128x32000, .f32⟩ : BufTy).Contents (Elt F) → (⟨S1, .i32⟩ : BufTy).Contents (Elt F) → (⟨S16x127x32000, .f32⟩ : BufTy).Contents (Elt F) → (⟨S16x128x32000, .f32⟩ : BufTy).Contents (Elt F)) ]
theorem hostOps0_2_sub : (hostOps0_2 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.ternary_bufs_sub ..⟩
/-- The same lists as the program text is cut into two parts. -/
abbrev main_part0_ops0 : List (HloOp τ sig (Elt F)) :=
  [ StableHlo.nullary main_c (constantI S_ 32 0#32),
    StableHlo.unary main_c main_v0 (broadcastInDim S16x128 ![] bcast_S_S16x128 : (⟨S_, .i32⟩ : BufTy).Contents (Elt F) → (⟨S16x128, .i32⟩ : BufTy).Contents (Elt F)),
    StableHlo.binary main_arg0 main_v0 main_v1 (cmpi .slt : (⟨S16x128, .i32⟩ : BufTy).Contents (Elt F) → (⟨S16x128, .i32⟩ : BufTy).Contents (Elt F) → (⟨S16x128, .i1⟩ : BufTy).Contents (Elt F)),
    StableHlo.nullary main_c_0 (constantI S_ 32 32000#32),
    StableHlo.unary main_c_0 main_v2 (broadcastInDim S16x128 ![] bcast_S_S16x128 : (⟨S_, .i32⟩ : BufTy).Contents (Elt F) → (⟨S16x128, .i32⟩ : BufTy).Contents (Elt F)),
    StableHlo.binary main_arg0 main_v2 main_v3 (addi : (⟨S16x128, .i32⟩ : BufTy).Contents (Elt F) → (⟨S16x128, .i32⟩ : BufTy).Contents (Elt F) → (⟨S16x128, .i32⟩ : BufTy).Contents (Elt F)),
    StableHlo.ternary main_v1 main_v3 main_arg0 main_v4 (select : (⟨S16x128, .i1⟩ : BufTy).Contents (Elt F) → (⟨S16x128, .i32⟩ : BufTy).Contents (Elt F) → (⟨S16x128, .i32⟩ : BufTy).Contents (Elt F) → (⟨S16x128, .i32⟩ : BufTy).Contents (Elt F)),
    StableHlo.unary main_v4 main_v5 (broadcastInDim S16x128x1 ![0, 1] bcast_S16x128_S16x128x1_0_1 : (⟨S16x128, .i32⟩ : BufTy).Contents (Elt F) → (⟨S16x128x1, .i32⟩ : BufTy).Contents (Elt F)),
    StableHlo.binary main_arg1 main_v5 main_v6 ((fun x i => Host.gather gather_S32000x256_S16x128x1_S16x128x256_2_0_n_n_0_2_1256 x i) : (⟨S32000x256, .f32⟩ : BufTy).Contents (Elt F) → (⟨S16x128x1, .i32⟩ : BufTy).Contents (Elt F) → (⟨S16x128x256, .f32⟩ : BufTy).Contents (Elt F)),
    StableHlo.unary main_v6 main_v7 ((transpose S128x16x256 [1, 0, 2] · transposes_S16x128x256_S128x16x256_1_0_2) : (⟨S16x128x256, .f32⟩ : BufTy).Contents (Elt F) → (⟨S128x16x256, .f32⟩ : BufTy).Contents (Elt F)),
    StableHlo.nullary main_cst (constant S_ .f32 0x00000000#32),
    StableHlo.unary main_cst main_v8 (broadcastInDim S16x512 ![] bcast_S_S16x512 : (⟨S_, .f32⟩ : BufTy).Contents (Elt F) → (⟨S16x512, .f32⟩ : BufTy).Contents (Elt F)),
    StableHlo.binary main_v7 main_arg2 main_v9 ((fun l r => Host.dotGeneral dot_S128x16x256_S1536x256_S128x16x1536_2_1_01_0_n_n none l r) : (⟨S128x16x256, .f32⟩ : BufTy).Contents (Elt F) → (⟨S1536x256, .f32⟩ : BufTy).Contents (Elt F) → (⟨S128x16x1536, .f32⟩ : BufTy).Contents (Elt F)),
    StableHlo.unary main_arg3 main_v10 (broadcastInDim S1x1x1536 ![2] bcast_S1536_S1x1x1536_2 : (⟨S1536, .f32⟩ : BufTy).Contents (Elt F) → (⟨S1x1x1536, .f32⟩ : BufTy).Contents (Elt F)),
    StableHlo.unary main_v10 main_v11 (broadcastInDim S128x16x1536 ![0, 1, 2] bcast_S1x1x1536_S128x16x1536_0_1_2 : (⟨S1x1x1536, .f32⟩ : BufTy).Contents (Elt F) → (⟨S128x16x1536, .f32⟩ : BufTy).Contents (Elt F)),
    StableHlo.binary main_v9 main_v11 main_v12 (addf : (⟨S128x16x1536, .f32⟩ : BufTy).Contents (Elt F) → (⟨S128x16x1536, .f32⟩ : BufTy).Contents (Elt F) → (⟨S128x16x1536, .f32⟩ : BufTy).Contents (Elt F)),
    StableHlo.nullary main_cst_1 (constant S_ .f32 0x00000000#32),
    StableHlo.unary main_cst_1 main_v13 (broadcastInDim S128x16x512 ![] bcast_S_S128x16x512 : (⟨S_, .f32⟩ : BufTy).Contents (Elt F) → (⟨S128x16x512, .f32⟩ : BufTy).Contents (Elt F)),
    StableHlo.nullary main_c_2 (constantI S_ 32 0#32),
    StableHlo.unary main_v12 main_v14_0 id,
    StableHlo.unary main_arg4 main_v14_1 id,
    StableHlo.unary main_arg5 main_v14_2 id,
    StableHlo.unary main_c_2 main_v14_3 id,
    StableHlo.unary main_v8 main_v14_4 id,
    StableHlo.unary main_v13 main_v14_5 id ]
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
abbrev main_part0_ops1 : List (HloOp τ sig (Elt F)) :=
  ( StableHlo.unary main_arg6 main_v15 ((transpose S512x128 [1, 0] · transposes_S128x512_S512x128_1_0) : (⟨S128x512, .f32⟩ : BufTy).Contents (Elt F) → (⟨S512x128, .f32⟩ : BufTy).Contents (Elt F))
  :: StableHlo.binary main_v14_4 main_v15 main_v16 ((fun l r => Host.dotGeneral dot_S16x512_S512x128_S16x128_1_0_0_1_n_n none l r) : (⟨S16x512, .f32⟩ : BufTy).Contents (Elt F) → (⟨S512x128, .f32⟩ : BufTy).Contents (Elt F) → (⟨S16x128, .f32⟩ : BufTy).Contents (Elt F))
  :: StableHlo.unary main_arg7 main_v17 (broadcastInDim S1x128 ![1] bcast_S128_S1x128_1 : (⟨S128, .f32⟩ : BufTy).Contents (Elt F) → (⟨S1x128, .f32⟩ : BufTy).Contents (Elt F))
  :: StableHlo.unary main_v17 main_v18 (broadcastInDim S16x128 ![0, 1] bcast_S1x128_S16x128_0_1 : (⟨S1x128, .f32⟩ : BufTy).Contents (Elt F) → (⟨S16x128, .f32⟩ : BufTy).Contents (Elt F))
  :: StableHlo.binary main_v16 main_v18 main_v19 (addf : (⟨S16x128, .f32⟩ : BufTy).Contents (Elt F) → (⟨S16x128, .f32⟩ : BufTy).Contents (Elt F) → (⟨S16x128, .f32⟩ : BufTy).Contents (Elt F))
  :: StableHlo.unary main_arg8 main_v20 ((transpose S128x512 [1, 0] · transposes_S512x128_S128x512_1_0) : (⟨S512x128, .f32⟩ : BufTy).Contents (Elt F) → (⟨S128x512, .f32⟩ : BufTy).Contents (Elt F))
  :: StableHlo.binary main_v19 main_v20 main_v21 ((fun l r => Host.dotGeneral dot_S16x128_S128x512_S16x512_1_0_0_1_n_n none l r) : (⟨S16x128, .f32⟩ : BufTy).Contents (Elt F) → (⟨S128x512, .f32⟩ : BufTy).Contents (Elt F) → (⟨S16x512, .f32⟩ : BufTy).Contents (Elt F))
  :: StableHlo.unary main_arg9 main_v22 (broadcastInDim S1x512 ![1] bcast_S512_S1x512_1 : (⟨S512, .f32⟩ : BufTy).Contents (Elt F) → (⟨S1x512, .f32⟩ : BufTy).Contents (Elt F))
  :: StableHlo.unary main_v22 main_v23 (broadcastInDim S16x512 ![0, 1] bcast_S1x512_S16x512_0_1 : (⟨S1x512, .f32⟩ : BufTy).Contents (Elt F) → (⟨S16x512, .f32⟩ : BufTy).Contents (Elt F))
  :: StableHlo.binary main_v21 main_v23 main_v24 (addf : (⟨S16x512, .f32⟩ : BufTy).Contents (Elt F) → (⟨S16x512, .f32⟩ : BufTy).Contents (Elt F) → (⟨S16x512, .f32⟩ : BufTy).Contents (Elt F))
  :: StableHlo.unary main_v24 main_v25 (Host.tanh : (⟨S16x512, .f32⟩ : BufTy).Contents (Elt F) → (⟨S16x512, .f32⟩ : BufTy).Contents (Elt F))
  :: StableHlo.unary main_arg0 main_v26 ((extractStridedSlice S16x127 ![0, 0] · slices_S16x128_S16x127_0_0) : (⟨S16x128, .i32⟩ : BufTy).Contents (Elt F) → (⟨S16x127, .i32⟩ : BufTy).Contents (Elt F))
  :: StableHlo.nullary main_c_3 (constantI S_ 32 0#32)
  :: StableHlo.unary main_c_3 main_v27 (broadcastInDim S16x127 ![] bcast_S_S16x127 : (⟨S_, .i32⟩ : BufTy).Contents (Elt F) → (⟨S16x127, .i32⟩ : BufTy).Contents (Elt F))
  :: StableHlo.binary main_v26 main_v27 main_v28 (cmpi .slt : (⟨S16x127, .i32⟩ : BufTy).Contents (Elt F) → (⟨S16x127, .i32⟩ : BufTy).Contents (Elt F) → (⟨S16x127, .i1⟩ : BufTy).Contents (Elt F))
  :: StableHlo.nullary main_c_4 (constantI S_ 32 32000#32)
  :: StableHlo.unary main_c_4 main_v29 (broadcastInDim S16x127 ![] bcast_S_S16x127 : (⟨S_, .i32⟩ : BufTy).Contents (Elt F) → (⟨S16x127, .i32⟩ : BufTy).Contents (Elt F))
  :: StableHlo.binary main_v26 main_v29 main_v30 (addi : (⟨S16x127, .i32⟩ : BufTy).Contents (Elt F) → (⟨S16x127, .i32⟩ : BufTy).Contents (Elt F) → (⟨S16x127, .i32⟩ : BufTy).Contents (Elt F))
  :: StableHlo.ternary main_v28 main_v30 main_v26 main_v31 (select : (⟨S16x127, .i1⟩ : BufTy).Contents (Elt F) → (⟨S16x127, .i32⟩ : BufTy).Contents (Elt F) → (⟨S16x127, .i32⟩ : BufTy).Contents (Elt F) → (⟨S16x127, .i32⟩ : BufTy).Contents (Elt F))
  :: StableHlo.unary main_v31 main_v32 (broadcastInDim S16x127x1 ![0, 1] bcast_S16x127_S16x127x1_0_1 : (⟨S16x127, .i32⟩ : BufTy).Contents (Elt F) → (⟨S16x127x1, .i32⟩ : BufTy).Contents (Elt F))
  :: StableHlo.binary main_arg10 main_v32 main_v33 ((fun x i => Host.gather gather_S32000x256_S16x127x1_S16x127x256_2_0_n_n_0_2_1256 x i) : (⟨S32000x256, .f32⟩ : BufTy).Contents (Elt F) → (⟨S16x127x1, .i32⟩ : BufTy).Contents (Elt F) → (⟨S16x127x256, .f32⟩ : BufTy).Contents (Elt F))
  :: StableHlo.unary main_v33 main_v34 ((transpose S127x16x256 [1, 0, 2] · transposes_S16x127x256_S127x16x256_1_0_2) : (⟨S16x127x256, .f32⟩ : BufTy).Contents (Elt F) → (⟨S127x16x256, .f32⟩ : BufTy).Contents (Elt F))
  :: StableHlo.binary main_v34 main_arg11 main_v35 ((fun l r => Host.dotGeneral dot_S127x16x256_S1536x256_S127x16x1536_2_1_01_0_n_n none l r) : (⟨S127x16x256, .f32⟩ : BufTy).Contents (Elt F) → (⟨S1536x256, .f32⟩ : BufTy).Contents (Elt F) → (⟨S127x16x1536, .f32⟩ : BufTy).Contents (Elt F))
  :: StableHlo.unary main_arg12 main_v36 (broadcastInDim S1x1x1536 ![2] bcast_S1536_S1x1x1536_2 : (⟨S1536, .f32⟩ : BufTy).Contents (Elt F) → (⟨S1x1x1536, .f32⟩ : BufTy).Contents (Elt F))
  :: StableHlo.unary main_v36 main_v37 (broadcastInDim S127x16x1536 ![0, 1, 2] bcast_S1x1x1536_S127x16x1536_0_1_2 : (⟨S1x1x1536, .f32⟩ : BufTy).Contents (Elt F) → (⟨S127x16x1536, .f32⟩ : BufTy).Contents (Elt F))
  :: StableHlo.binary main_v35 main_v37 main_v38 (addf : (⟨S127x16x1536, .f32⟩ : BufTy).Contents (Elt F) → (⟨S127x16x1536, .f32⟩ : BufTy).Contents (Elt F) → (⟨S127x16x1536, .f32⟩ : BufTy).Contents (Elt F))
  :: StableHlo.nullary main_cst_5 (constant S_ .f32 0x00000000#32)
  :: StableHlo.unary main_cst_5 main_v39 (broadcastInDim S127x16x512 ![] bcast_S_S127x16x512 : (⟨S_, .f32⟩ : BufTy).Contents (Elt F) → (⟨S127x16x512, .f32⟩ : BufTy).Contents (Elt F))
  :: StableHlo.nullary main_c_6 (constantI S_ 32 0#32)
  :: StableHlo.unary main_v38 main_v40_0 id
  :: StableHlo.unary main_arg13 main_v40_1 id
  :: StableHlo.unary main_arg14 main_v40_2 id
  :: StableHlo.unary main_c_6 main_v40_3 id
  :: StableHlo.unary main_v25 main_v40_4 id
  :: [] )
theorem main_part0_ops1_sub : (main_part0_ops1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

abbrev main_part1_ops0 : List (HloOp τ sig (Elt F)) :=
  [ StableHlo.unary main_v39 main_v40_5 id ]
theorem main_part1_ops0_sub : (main_part1_ops0 : List (HloOp τ sig (Elt F))).Forall fun op => op.bufs ⊆ StableHlo.tcRefs τ sig :=
  StableHlo.unary_bufs_sub ..
abbrev main_part1_ops1 : List (HloOp τ sig (Elt F)) :=
  [ StableHlo.binary main_arg15 main_v40_5 main_v41 ((fun l r => Host.dotGeneral dot_S32000x512_S127x16x512_S32000x127x16_1_2_0_01_n_n none l r) : (⟨S32000x512, .f32⟩ : BufTy).Contents (Elt F) → (⟨S127x16x512, .f32⟩ : BufTy).Contents (Elt F) → (⟨S32000x127x16, .f32⟩ : BufTy).Contents (Elt F)),
    StableHlo.unary main_v41 main_v42 ((transpose S16x127x32000 [2, 1, 0] · transposes_S32000x127x16_S16x127x32000_2_1_0) : (⟨S32000x127x16, .f32⟩ : BufTy).Contents (Elt F) → (⟨S16x127x32000, .f32⟩ : BufTy).Contents (Elt F)),
    StableHlo.unary main_arg16 main_v43 (broadcastInDim S1x1x32000 ![2] bcast_S32000_S1x1x32000_2 : (⟨S32000, .f32⟩ : BufTy).Contents (Elt F) → (⟨S1x1x32000, .f32⟩ : BufTy).Contents (Elt F)),
    StableHlo.unary main_v43 main_v44 (broadcastInDim S16x127x32000 ![0, 1, 2] bcast_S1x1x32000_S16x127x32000_0_1_2 : (⟨S1x1x32000, .f32⟩ : BufTy).Contents (Elt F) → (⟨S16x127x32000, .f32⟩ : BufTy).Contents (Elt F)),
    StableHlo.binary main_v42 main_v44 main_v45 (addf : (⟨S16x127x32000, .f32⟩ : BufTy).Contents (Elt F) → (⟨S16x127x32000, .f32⟩ : BufTy).Contents (Elt F) → (⟨S16x127x32000, .f32⟩ : BufTy).Contents (Elt F)),
    StableHlo.nullary main_cst_7 (constant S_ .f32 0x00000000#32),
    StableHlo.unary main_cst_7 main_v46 (broadcastInDim S16x128x32000 ![] bcast_S_S16x128x32000 : (⟨S_, .f32⟩ : BufTy).Contents (Elt F) → (⟨S16x128x32000, .f32⟩ : BufTy).Contents (Elt F)),
    StableHlo.nullary main_c_8 (constantI S_ 32 1#32),
    StableHlo.unary main_c_8 main_v47 (broadcastInDim S1 ![] bcast_S_S1 : (⟨S_, .i32⟩ : BufTy).Contents (Elt F) → (⟨S1, .i32⟩ : BufTy).Contents (Elt F)),
    StableHlo.ternary main_v46 main_v47 main_v45 main_v48 ((fun x i u => Host.scatter scatter_S16x128x32000_S1_S16x127x32000_012_n_1_0 (fun _ b => b) x i u) : (⟨S16x128x32000, .f32⟩ : BufTy).Contents (Elt F) → (⟨S1, .i32⟩ : BufTy).Contents (Elt F) → (⟨S16x127x32000, .f32⟩ : BufTy).Contents (Elt F) → (⟨S16x128x32000, .f32⟩ : BufTy).Contents (Elt F)) ]
theorem main_part1_ops1_sub : (main_part1_ops1 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.ternary_bufs_sub ..⟩
theorem main_part1_chain (c : Dev nD) : main_part1 (F := F) c = (Pipeline.chain
  [ StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem main_chain_windows (c : Dev nD) : main (F := F) c = (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .prog (HostLoop.enter 1),
    .ops [main_part1_ops1] ]

theorem main_chain_cut (c : Dev nD) : (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  chain_rfl

/-- The program is its stretches and its loops in order. -/
theorem main_chain (c : Dev nD) : main (F := F) c = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- The first loop's body: the step's row of the projections. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v14_0 : StableHlo.TRef sig ⟨S128x16x1536, .f32⟩) ![(.of main_v14_3 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x16x1536, .f32⟩) (fun x i => Host.dynamicSlice S1x16x1536 x (fun k => (i k (Shape.Idx.first h_S_)).toInt) sliceFits_S128x16x1536_S1x16x1536),
    StableHlo.TRef.reshape (.of main_while0b_call0_v0 : StableHlo.TRef sig ⟨S1x16x1536, .f32⟩) (.of main_while0b_v49 : StableHlo.TRef sig ⟨S16x1536, .f32⟩) (rfl : (.f32 : EltTy) = .f32) shapeCasts_S1x16x1536_S16x1536 ]
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The cell. -/
abbrev while0Ops0_1 : List (HloOp τ sig (Elt F)) :=
  ( StableHlo.unary main_v14_1 main_while0b_v50 ((transpose S512x1536 [1, 0] · transposes_S1536x512_S512x1536_1_0) : (⟨S1536x512, .f32⟩ : BufTy).Contents (Elt F) → (⟨S512x1536, .f32⟩ : BufTy).Contents (Elt F))
  :: StableHlo.binary main_v14_4 main_while0b_v50 main_while0b_v51 ((fun l r => Host.dotGeneral dot_S16x512_S512x1536_S16x1536_1_0_0_1_n_n none l r) : (⟨S16x512, .f32⟩ : BufTy).Contents (Elt F) → (⟨S512x1536, .f32⟩ : BufTy).Contents (Elt F) → (⟨S16x1536, .f32⟩ : BufTy).Contents (Elt F))
  :: StableHlo.unary main_v14_2 main_while0b_v52 (broadcastInDim S1x1536 ![1] bcast_S1536_S1x1536_1 : (⟨S1536, .f32⟩ : BufTy).Contents (Elt F) → (⟨S1x1536, .f32⟩ : BufTy).Contents (Elt F))
  :: StableHlo.unary main_while0b_v52 main_while0b_v53 (broadcastInDim S16x1536 ![0, 1] bcast_S1x1536_S16x1536_0_1 : (⟨S1x1536, .f32⟩ : BufTy).Contents (Elt F) → (⟨S16x1536, .f32⟩ : BufTy).Contents (Elt F))
  :: StableHlo.binary main_while0b_v51 main_while0b_v53 main_while0b_v54 (addf : (⟨S16x1536, .f32⟩ : BufTy).Contents (Elt F) → (⟨S16x1536, .f32⟩ : BufTy).Contents (Elt F) → (⟨S16x1536, .f32⟩ : BufTy).Contents (Elt F))
  :: StableHlo.unary main_while0b_v49 main_while0b_v55 ((extractStridedSlice S16x512 ![0, 0] · slices_S16x1536_S16x512_0_0) : (⟨S16x1536, .f32⟩ : BufTy).Contents (Elt F) → (⟨S16x512, .f32⟩ : BufTy).Contents (Elt F))
  :: StableHlo.unary main_while0b_v49 main_while0b_v56 ((extractStridedSlice S16x512 ![0, 512] · slices_S16x1536_S16x512_0_512) : (⟨S16x1536, .f32⟩ : BufTy).Contents (Elt F) → (⟨S16x512, .f32⟩ : BufTy).Contents (Elt F))
  :: StableHlo.unary main_while0b_v49 main_while0b_v57 ((extractStridedSlice S16x512 ![0, 1024] · slices_S16x1536_S16x512_0_1024) : (⟨S16x1536, .f32⟩ : BufTy).Contents (Elt F) → (⟨S16x512, .f32⟩ : BufTy).Contents (Elt F))
  :: StableHlo.unary main_while0b_v54 main_while0b_v58 ((extractStridedSlice S16x512 ![0, 0] · slices_S16x1536_S16x512_0_0) : (⟨S16x1536, .f32⟩ : BufTy).Contents (Elt F) → (⟨S16x512, .f32⟩ : BufTy).Contents (Elt F))
  :: StableHlo.unary main_while0b_v54 main_while0b_v59 ((extractStridedSlice S16x512 ![0, 512] · slices_S16x1536_S16x512_0_512) : (⟨S16x1536, .f32⟩ : BufTy).Contents (Elt F) → (⟨S16x512, .f32⟩ : BufTy).Contents (Elt F))
  :: StableHlo.unary main_while0b_v54 main_while0b_v60 ((extractStridedSlice S16x512 ![0, 1024] · slices_S16x1536_S16x512_0_1024) : (⟨S16x1536, .f32⟩ : BufTy).Contents (Elt F) → (⟨S16x512, .f32⟩ : BufTy).Contents (Elt F))
  :: StableHlo.binary main_while0b_v55 main_while0b_v58 main_while0b_v61 (addf : (⟨S16x512, .f32⟩ : BufTy).Contents (Elt F) → (⟨S16x512, .f32⟩ : BufTy).Contents (Elt F) → (⟨S16x512, .f32⟩ : BufTy).Contents (Elt F))
  :: StableHlo.unary main_while0b_v61 main_while0b_v62 (Host.negf : (⟨S16x512, .f32⟩ : BufTy).Contents (Elt F) → (⟨S16x512, .f32⟩ : BufTy).Contents (Elt F))
  :: StableHlo.unary main_while0b_v62 main_while0b_v63 (Host.exp : (⟨S16x512, .f32⟩ : BufTy).Contents (Elt F) → (⟨S16x512, .f32⟩ : BufTy).Contents (Elt F))
  :: StableHlo.nullary main_while0b_cst_14 (constant S_ .f32 0x3F800000#32)
  :: StableHlo.unary main_while0b_cst_14 main_while0b_v64 (broadcastInDim S16x512 ![] bcast_S_S16x512 : (⟨S_, .f32⟩ : BufTy).Contents (Elt F) → (⟨S16x512, .f32⟩ : BufTy).Contents (Elt F))
  :: StableHlo.binary main_while0b_v64 main_while0b_v63 main_while0b_v65 (addf : (⟨S16x512, .f32⟩ : BufTy).Contents (Elt F) → (⟨S16x512, .f32⟩ : BufTy).Contents (Elt F) → (⟨S16x512, .f32⟩ : BufTy).Contents (Elt F))
  :: StableHlo.nullary main_while0b_cst_15 (constant S_ .f32 0x3F800000#32)
  :: StableHlo.unary main_while0b_cst_15 main_while0b_v66 (broadcastInDim S16x512 ![] bcast_S_S16x512 : (⟨S_, .f32⟩ : BufTy).Contents (Elt F) → (⟨S16x512, .f32⟩ : BufTy).Contents (Elt F))
  :: StableHlo.binary main_while0b_v66 main_while0b_v65 main_while0b_v67 (Host.divf : (⟨S16x512, .f32⟩ : BufTy).Contents (Elt F) → (⟨S16x512, .f32⟩ : BufTy).Contents (Elt F) → (⟨S16x512, .f32⟩ : BufTy).Contents (Elt F))
  :: StableHlo.binary main_while0b_v56 main_while0b_v59 main_while0b_v68 (addf : (⟨S16x512, .f32⟩ : BufTy).Contents (Elt F) → (⟨S16x512, .f32⟩ : BufTy).Contents (Elt F) → (⟨S16x512, .f32⟩ : BufTy).Contents (Elt F))
  :: StableHlo.unary main_while0b_v68 main_while0b_v69 (Host.negf : (⟨S16x512, .f32⟩ : BufTy).Contents (Elt F) → (⟨S16x512, .f32⟩ : BufTy).Contents (Elt F))
  :: StableHlo.unary main_while0b_v69 main_while0b_v70 (Host.exp : (⟨S16x512, .f32⟩ : BufTy).Contents (Elt F) → (⟨S16x512, .f32⟩ : BufTy).Contents (Elt F))
  :: StableHlo.nullary main_while0b_cst_16 (constant S_ .f32 0x3F800000#32)
  :: StableHlo.unary main_while0b_cst_16 main_while0b_v71 (broadcastInDim S16x512 ![] bcast_S_S16x512 : (⟨S_, .f32⟩ : BufTy).Contents (Elt F) → (⟨S16x512, .f32⟩ : BufTy).Contents (Elt F))
  :: StableHlo.binary main_while0b_v71 main_while0b_v70 main_while0b_v72 (addf : (⟨S16x512, .f32⟩ : BufTy).Contents (Elt F) → (⟨S16x512, .f32⟩ : BufTy).Contents (Elt F) → (⟨S16x512, .f32⟩ : BufTy).Contents (Elt F))
  :: StableHlo.nullary main_while0b_cst_17 (constant S_ .f32 0x3F800000#32)
  :: StableHlo.unary main_while0b_cst_17 main_while0b_v73 (broadcastInDim S16x512 ![] bcast_S_S16x512 : (⟨S_, .f32⟩ : BufTy).Contents (Elt F) → (⟨S16x512, .f32⟩ : BufTy).Contents (Elt F))
  :: StableHlo.binary main_while0b_v73 main_while0b_v72 main_while0b_v74 (Host.divf : (⟨S16x512, .f32⟩ : BufTy).Contents (Elt F) → (⟨S16x512, .f32⟩ : BufTy).Contents (Elt F) → (⟨S16x512, .f32⟩ : BufTy).Contents (Elt F))
  :: StableHlo.binary main_while0b_v67 main_while0b_v60 main_while0b_v75 (mulf : (⟨S16x512, .f32⟩ : BufTy).Contents (Elt F) → (⟨S16x512, .f32⟩ : BufTy).Contents (Elt F) → (⟨S16x512, .f32⟩ : BufTy).Contents (Elt F))
  :: StableHlo.binary main_while0b_v57 main_while0b_v75 main_while0b_v76 (addf : (⟨S16x512, .f32⟩ : BufTy).Contents (Elt F) → (⟨S16x512, .f32⟩ : BufTy).Contents (Elt F) → (⟨S16x512, .f32⟩ : BufTy).Contents (Elt F))
  :: StableHlo.unary main_while0b_v76 main_while0b_v77 (Host.tanh : (⟨S16x512, .f32⟩ : BufTy).Contents (Elt F) → (⟨S16x512, .f32⟩ : BufTy).Contents (Elt F))
  :: StableHlo.nullary main_while0b_cst_18 (constant S_ .f32 0x3F800000#32)
  :: StableHlo.unary main_while0b_cst_18 main_while0b_v78 (broadcastInDim S16x512 ![] bcast_S_S16x512 : (⟨S_, .f32⟩ : BufTy).Contents (Elt F) → (⟨S16x512, .f32⟩ : BufTy).Contents (Elt F))
  :: StableHlo.binary main_while0b_v78 main_while0b_v74 main_while0b_v79 (subf : (⟨S16x512, .f32⟩ : BufTy).Contents (Elt F) → (⟨S16x512, .f32⟩ : BufTy).Contents (Elt F) → (⟨S16x512, .f32⟩ : BufTy).Contents (Elt F))
  :: StableHlo.binary main_while0b_v79 main_while0b_v77 main_while0b_v80 (mulf : (⟨S16x512, .f32⟩ : BufTy).Contents (Elt F) → (⟨S16x512, .f32⟩ : BufTy).Contents (Elt F) → (⟨S16x512, .f32⟩ : BufTy).Contents (Elt F))
  :: StableHlo.binary main_while0b_v74 main_v14_4 main_while0b_v81 (mulf : (⟨S16x512, .f32⟩ : BufTy).Contents (Elt F) → (⟨S16x512, .f32⟩ : BufTy).Contents (Elt F) → (⟨S16x512, .f32⟩ : BufTy).Contents (Elt F))
  :: StableHlo.binary main_while0b_v80 main_while0b_v81 main_while0b_v82 (addf : (⟨S16x512, .f32⟩ : BufTy).Contents (Elt F) → (⟨S16x512, .f32⟩ : BufTy).Contents (Elt F) → (⟨S16x512, .f32⟩ : BufTy).Contents (Elt F))
  :: [] )
theorem while0Ops0_1_sub : (while0Ops0_1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩
/-- The new state stored. -/
abbrev while0Ops0_2 : List (HloOp τ sig (Elt F)) :=
  [ StableHlo.TRef.unary (.of main_while0b_v82 : StableHlo.TRef sig ⟨S16x512, .f32⟩) (.of main_while0b_call1_v0 : StableHlo.TRef sig ⟨S1x16x512, .f32⟩) (broadcastInDim S1x16x512 ![1, 2] bcast_S16x512_S1x16x512_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v14_5 : StableHlo.TRef sig ⟨S128x16x512, .f32⟩) (.of main_while0b_call1_v0 : StableHlo.TRef sig ⟨S1x16x512, .f32⟩) ![(.of main_v14_3 : StableHlo.TRef sig ⟨S_, .i32⟩), (.of main_while0b_call1_c : StableHlo.TRef sig ⟨S_, .i32⟩), (.of main_while0b_call1_c_0 : StableHlo.TRef sig ⟨S_, .i32⟩)] (.of main_while0b_v83 : StableHlo.TRef sig ⟨S128x16x512, .f32⟩) (fun x u i => Host.dynamicUpdateSlice x u (fun k => (i k (Shape.Idx.first h_S_)).toInt) updateFits_S128x16x512_S1x16x512) ]
theorem while0Ops0_2_sub : (while0Ops0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The counter and the carried values. -/
abbrev while0Ops0_3 : List (HloOp τ sig (Elt F)) :=
  [ StableHlo.nullary main_while0b_c_19 (constantI S_ 32 1#32),
    StableHlo.binary main_v14_3 main_while0b_c_19 main_while0b_v84 (addi : (⟨S_, .i32⟩ : BufTy).Contents (Elt F) → (⟨S_, .i32⟩ : BufTy).Contents (Elt F) → (⟨S_, .i32⟩ : BufTy).Contents (Elt F)),
    StableHlo.unary main_while0b_v84 main_v14_3 id,
    StableHlo.unary main_while0b_v82 main_v14_4 id,
    StableHlo.unary main_while0b_v83 main_v14_5 id ]
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2,
    StableHlo.seq while0Ops0_3 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-- The second loop's body: the step's row of the projections. -/
abbrev while1Ops0 : List (HloOp τ sig (Elt F)) :=
  [ StableHlo.TRef.nullary (.of main_while1b_call2_c : StableHlo.TRef sig ⟨S_, .i32⟩) (constantI S_ 32 0#32),
    StableHlo.TRef.nullary (.of main_while1b_call2_c_0 : StableHlo.TRef sig ⟨S_, .i32⟩) (constantI S_ 32 0#32),
    StableHlo.TRef.unaryIndexed (.of main_v40_0 : StableHlo.TRef sig ⟨S127x16x1536, .f32⟩) ![(.of main_v40_3 : StableHlo.TRef sig ⟨S_, .i32⟩), (.of main_while1b_call2_c : StableHlo.TRef sig ⟨S_, .i32⟩), (.of main_while1b_call2_c_0 : StableHlo.TRef sig ⟨S_, .i32⟩)] (.of main_while1b_call2_v0 : StableHlo.TRef sig ⟨S1x16x1536, .f32⟩) (fun x i => Host.dynamicSlice S1x16x1536 x (fun k => (i k (Shape.Idx.first h_S_)).toInt) sliceFits_S127x16x1536_S1x16x1536),
    StableHlo.TRef.reshape (.of main_while1b_call2_v0 : StableHlo.TRef sig ⟨S1x16x1536, .f32⟩) (.of main_while1b_v49 : StableHlo.TRef sig ⟨S16x1536, .f32⟩) (rfl : (.f32 : EltTy) = .f32) shapeCasts_S1x16x1536_S16x1536 ]
theorem while1Ops0_sub : (while1Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The cell. -/
abbrev while1Ops0_1 : List (HloOp τ sig (Elt F)) :=
  ( StableHlo.unary main_v40_1 main_while1b_v50 ((transpose S512x1536 [1, 0] · transposes_S1536x512_S512x1536_1_0) : (⟨S1536x512, .f32⟩ : BufTy).Contents (Elt F) → (⟨S512x1536, .f32⟩ : BufTy).Contents (Elt F))
  :: StableHlo.binary main_v40_4 main_while1b_v50 main_while1b_v51 ((fun l r => Host.dotGeneral dot_S16x512_S512x1536_S16x1536_1_0_0_1_n_n none l r) : (⟨S16x512, .f32⟩ : BufTy).Contents (Elt F) → (⟨S512x1536, .f32⟩ : BufTy).Contents (Elt F) → (⟨S16x1536, .f32⟩ : BufTy).Contents (Elt F))
  :: StableHlo.unary main_v40_2 main_while1b_v52 (broadcastInDim S1x1536 ![1] bcast_S1536_S1x1536_1 : (⟨S1536, .f32⟩ : BufTy).Contents (Elt F) → (⟨S1x1536, .f32⟩ : BufTy).Contents (Elt F))
  :: StableHlo.unary main_while1b_v52 main_while1b_v53 (broadcastInDim S16x1536 ![0, 1] bcast_S1x1536_S16x1536_0_1 : (⟨S1x1536, .f32⟩ : BufTy).Contents (Elt F) → (⟨S16x1536, .f32⟩ : BufTy).Contents (Elt F))
  :: StableHlo.binary main_while1b_v51 main_while1b_v53 main_while1b_v54 (addf : (⟨S16x1536, .f32⟩ : BufTy).Contents (Elt F) → (⟨S16x1536, .f32⟩ : BufTy).Contents (Elt F) → (⟨S16x1536, .f32⟩ : BufTy).Contents (Elt F))
  :: StableHlo.unary main_while1b_v49 main_while1b_v55 ((extractStridedSlice S16x512 ![0, 0] · slices_S16x1536_S16x512_0_0) : (⟨S16x1536, .f32⟩ : BufTy).Contents (Elt F) → (⟨S16x512, .f32⟩ : BufTy).Contents (Elt F))
  :: StableHlo.unary main_while1b_v49 main_while1b_v56 ((extractStridedSlice S16x512 ![0, 512] · slices_S16x1536_S16x512_0_512) : (⟨S16x1536, .f32⟩ : BufTy).Contents (Elt F) → (⟨S16x512, .f32⟩ : BufTy).Contents (Elt F))
  :: StableHlo.unary main_while1b_v49 main_while1b_v57 ((extractStridedSlice S16x512 ![0, 1024] · slices_S16x1536_S16x512_0_1024) : (⟨S16x1536, .f32⟩ : BufTy).Contents (Elt F) → (⟨S16x512, .f32⟩ : BufTy).Contents (Elt F))
  :: StableHlo.unary main_while1b_v54 main_while1b_v58 ((extractStridedSlice S16x512 ![0, 0] · slices_S16x1536_S16x512_0_0) : (⟨S16x1536, .f32⟩ : BufTy).Contents (Elt F) → (⟨S16x512, .f32⟩ : BufTy).Contents (Elt F))
  :: StableHlo.unary main_while1b_v54 main_while1b_v59 ((extractStridedSlice S16x512 ![0, 512] · slices_S16x1536_S16x512_0_512) : (⟨S16x1536, .f32⟩ : BufTy).Contents (Elt F) → (⟨S16x512, .f32⟩ : BufTy).Contents (Elt F))
  :: StableHlo.unary main_while1b_v54 main_while1b_v60 ((extractStridedSlice S16x512 ![0, 1024] · slices_S16x1536_S16x512_0_1024) : (⟨S16x1536, .f32⟩ : BufTy).Contents (Elt F) → (⟨S16x512, .f32⟩ : BufTy).Contents (Elt F))
  :: StableHlo.binary main_while1b_v55 main_while1b_v58 main_while1b_v61 (addf : (⟨S16x512, .f32⟩ : BufTy).Contents (Elt F) → (⟨S16x512, .f32⟩ : BufTy).Contents (Elt F) → (⟨S16x512, .f32⟩ : BufTy).Contents (Elt F))
  :: StableHlo.unary main_while1b_v61 main_while1b_v62 (Host.negf : (⟨S16x512, .f32⟩ : BufTy).Contents (Elt F) → (⟨S16x512, .f32⟩ : BufTy).Contents (Elt F))
  :: StableHlo.unary main_while1b_v62 main_while1b_v63 (Host.exp : (⟨S16x512, .f32⟩ : BufTy).Contents (Elt F) → (⟨S16x512, .f32⟩ : BufTy).Contents (Elt F))
  :: StableHlo.nullary main_while1b_cst_14 (constant S_ .f32 0x3F800000#32)
  :: StableHlo.unary main_while1b_cst_14 main_while1b_v64 (broadcastInDim S16x512 ![] bcast_S_S16x512 : (⟨S_, .f32⟩ : BufTy).Contents (Elt F) → (⟨S16x512, .f32⟩ : BufTy).Contents (Elt F))
  :: StableHlo.binary main_while1b_v64 main_while1b_v63 main_while1b_v65 (addf : (⟨S16x512, .f32⟩ : BufTy).Contents (Elt F) → (⟨S16x512, .f32⟩ : BufTy).Contents (Elt F) → (⟨S16x512, .f32⟩ : BufTy).Contents (Elt F))
  :: StableHlo.nullary main_while1b_cst_15 (constant S_ .f32 0x3F800000#32)
  :: StableHlo.unary main_while1b_cst_15 main_while1b_v66 (broadcastInDim S16x512 ![] bcast_S_S16x512 : (⟨S_, .f32⟩ : BufTy).Contents (Elt F) → (⟨S16x512, .f32⟩ : BufTy).Contents (Elt F))
  :: StableHlo.binary main_while1b_v66 main_while1b_v65 main_while1b_v67 (Host.divf : (⟨S16x512, .f32⟩ : BufTy).Contents (Elt F) → (⟨S16x512, .f32⟩ : BufTy).Contents (Elt F) → (⟨S16x512, .f32⟩ : BufTy).Contents (Elt F))
  :: StableHlo.binary main_while1b_v56 main_while1b_v59 main_while1b_v68 (addf : (⟨S16x512, .f32⟩ : BufTy).Contents (Elt F) → (⟨S16x512, .f32⟩ : BufTy).Contents (Elt F) → (⟨S16x512, .f32⟩ : BufTy).Contents (Elt F))
  :: StableHlo.unary main_while1b_v68 main_while1b_v69 (Host.negf : (⟨S16x512, .f32⟩ : BufTy).Contents (Elt F) → (⟨S16x512, .f32⟩ : BufTy).Contents (Elt F))
  :: StableHlo.unary main_while1b_v69 main_while1b_v70 (Host.exp : (⟨S16x512, .f32⟩ : BufTy).Contents (Elt F) → (⟨S16x512, .f32⟩ : BufTy).Contents (Elt F))
  :: StableHlo.nullary main_while1b_cst_16 (constant S_ .f32 0x3F800000#32)
  :: StableHlo.unary main_while1b_cst_16 main_while1b_v71 (broadcastInDim S16x512 ![] bcast_S_S16x512 : (⟨S_, .f32⟩ : BufTy).Contents (Elt F) → (⟨S16x512, .f32⟩ : BufTy).Contents (Elt F))
  :: StableHlo.binary main_while1b_v71 main_while1b_v70 main_while1b_v72 (addf : (⟨S16x512, .f32⟩ : BufTy).Contents (Elt F) → (⟨S16x512, .f32⟩ : BufTy).Contents (Elt F) → (⟨S16x512, .f32⟩ : BufTy).Contents (Elt F))
  :: StableHlo.nullary main_while1b_cst_17 (constant S_ .f32 0x3F800000#32)
  :: StableHlo.unary main_while1b_cst_17 main_while1b_v73 (broadcastInDim S16x512 ![] bcast_S_S16x512 : (⟨S_, .f32⟩ : BufTy).Contents (Elt F) → (⟨S16x512, .f32⟩ : BufTy).Contents (Elt F))
  :: StableHlo.binary main_while1b_v73 main_while1b_v72 main_while1b_v74 (Host.divf : (⟨S16x512, .f32⟩ : BufTy).Contents (Elt F) → (⟨S16x512, .f32⟩ : BufTy).Contents (Elt F) → (⟨S16x512, .f32⟩ : BufTy).Contents (Elt F))
  :: StableHlo.binary main_while1b_v67 main_while1b_v60 main_while1b_v75 (mulf : (⟨S16x512, .f32⟩ : BufTy).Contents (Elt F) → (⟨S16x512, .f32⟩ : BufTy).Contents (Elt F) → (⟨S16x512, .f32⟩ : BufTy).Contents (Elt F))
  :: StableHlo.binary main_while1b_v57 main_while1b_v75 main_while1b_v76 (addf : (⟨S16x512, .f32⟩ : BufTy).Contents (Elt F) → (⟨S16x512, .f32⟩ : BufTy).Contents (Elt F) → (⟨S16x512, .f32⟩ : BufTy).Contents (Elt F))
  :: StableHlo.unary main_while1b_v76 main_while1b_v77 (Host.tanh : (⟨S16x512, .f32⟩ : BufTy).Contents (Elt F) → (⟨S16x512, .f32⟩ : BufTy).Contents (Elt F))
  :: StableHlo.nullary main_while1b_cst_18 (constant S_ .f32 0x3F800000#32)
  :: StableHlo.unary main_while1b_cst_18 main_while1b_v78 (broadcastInDim S16x512 ![] bcast_S_S16x512 : (⟨S_, .f32⟩ : BufTy).Contents (Elt F) → (⟨S16x512, .f32⟩ : BufTy).Contents (Elt F))
  :: StableHlo.binary main_while1b_v78 main_while1b_v74 main_while1b_v79 (subf : (⟨S16x512, .f32⟩ : BufTy).Contents (Elt F) → (⟨S16x512, .f32⟩ : BufTy).Contents (Elt F) → (⟨S16x512, .f32⟩ : BufTy).Contents (Elt F))
  :: StableHlo.binary main_while1b_v79 main_while1b_v77 main_while1b_v80 (mulf : (⟨S16x512, .f32⟩ : BufTy).Contents (Elt F) → (⟨S16x512, .f32⟩ : BufTy).Contents (Elt F) → (⟨S16x512, .f32⟩ : BufTy).Contents (Elt F))
  :: StableHlo.binary main_while1b_v74 main_v40_4 main_while1b_v81 (mulf : (⟨S16x512, .f32⟩ : BufTy).Contents (Elt F) → (⟨S16x512, .f32⟩ : BufTy).Contents (Elt F) → (⟨S16x512, .f32⟩ : BufTy).Contents (Elt F))
  :: StableHlo.binary main_while1b_v80 main_while1b_v81 main_while1b_v82 (addf : (⟨S16x512, .f32⟩ : BufTy).Contents (Elt F) → (⟨S16x512, .f32⟩ : BufTy).Contents (Elt F) → (⟨S16x512, .f32⟩ : BufTy).Contents (Elt F))
  :: [] )
theorem while1Ops0_1_sub : (while1Ops0_1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩
/-- The new state stored. -/
abbrev while1Ops0_2 : List (HloOp τ sig (Elt F)) :=
  [ StableHlo.TRef.unary (.of main_while1b_v82 : StableHlo.TRef sig ⟨S16x512, .f32⟩) (.of main_while1b_call3_v0 : StableHlo.TRef sig ⟨S1x16x512, .f32⟩) (broadcastInDim S1x16x512 ![1, 2] bcast_S16x512_S1x16x512_1_2),
    StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.binaryIndexed (.of main_v40_5 : StableHlo.TRef sig ⟨S127x16x512, .f32⟩) (.of main_while1b_call3_v0 : StableHlo.TRef sig ⟨S1x16x512, .f32⟩) ![(.of main_v40_3 : StableHlo.TRef sig ⟨S_, .i32⟩), (.of main_while1b_call3_c : StableHlo.TRef sig ⟨S_, .i32⟩), (.of main_while1b_call3_c_0 : StableHlo.TRef sig ⟨S_, .i32⟩)] (.of main_while1b_v83 : StableHlo.TRef sig ⟨S127x16x512, .f32⟩) (fun x u i => Host.dynamicUpdateSlice x u (fun k => (i k (Shape.Idx.first h_S_)).toInt) updateFits_S127x16x512_S1x16x512) ]
theorem while1Ops0_2_sub : (while1Ops0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The counter and the carried values. -/
abbrev while1Ops0_3 : List (HloOp τ sig (Elt F)) :=
  [ StableHlo.nullary main_while1b_c_19 (constantI S_ 32 1#32),
    StableHlo.binary main_v40_3 main_while1b_c_19 main_while1b_v84 (addi : (⟨S_, .i32⟩ : BufTy).Contents (Elt F) → (⟨S_, .i32⟩ : BufTy).Contents (Elt F) → (⟨S_, .i32⟩ : BufTy).Contents (Elt F)),
    StableHlo.unary main_while1b_v84 main_v40_3 id,
    StableHlo.unary main_while1b_v82 main_v40_4 id,
    StableHlo.unary main_while1b_v83 main_v40_5 id ]
theorem while1Ops0_3_sub : (while1Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem while1_body_chain : main_while1_body (F := F) = (Pipeline.chain
  [ StableHlo.seq while1Ops0,
    StableHlo.seq while1Ops0_1,
    StableHlo.seq while1Ops0_2,
    StableHlo.seq while1Ops0_3 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-! No operation allocates; what each list writes. -/

theorem hostOps0_fresh : (hostOps0 : List (HloOp τ sig (Elt F))).Forall fun op => op.fresh = ∅ :=
  StableHlo.forall_fresh_of_map rfl
abbrev hostOps0_W : List (Ref sig .tc) := [main_c, main_v0, main_v1, main_c_0, main_v2, main_v3, main_v4, main_v5, main_v6, main_v7, main_cst, main_v8, main_v9, main_v10, main_v11, main_v12, main_cst_1, main_v13, main_c_2, main_v14_0, main_v14_1, main_v14_2, main_v14_3, main_v14_4, main_v14_5]
theorem hostOps0_writes : (hostOps0 : List (HloOp τ sig (Elt F))).Forall fun op => op.writes ⊆ (hostOps0_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl
abbrev hostOps0_1_W : List (Ref sig .tc) := [main_v15, main_v16, main_v17, main_v18, main_v19, main_v20, main_v21, main_v22, main_v23, main_v24, main_v25, main_v26, main_c_3, main_v27, main_v28, main_c_4, main_v29, main_v30, main_v31, main_v32, main_v33, main_v34, main_v35, main_v36, main_v37, main_v38, main_cst_5, main_v39, main_c_6, main_v40_0, main_v40_1, main_v40_2, main_v40_3, main_v40_4, main_v40_5]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_2_fresh : (hostOps0_2 : List (HloOp τ sig (Elt F))).Forall fun op => op.fresh = ∅ :=
  StableHlo.forall_fresh_of_map rfl
abbrev hostOps0_2_W : List (Ref sig .tc) := [main_v41, main_v42, main_v43, main_v44, main_v45, main_cst_7, main_v46, main_c_8, main_v47, main_v48]
theorem hostOps0_2_writes : (hostOps0_2 : List (HloOp τ sig (Elt F))).Forall fun op => op.writes ⊆ (hostOps0_2_W.map (Proc.devRef (τ := τ) .tc)).toFinset :=
  StableHlo.forall_writes_sub_of_map rfl
theorem while0Ops0_fresh : (while0Ops0 : List (HloOp τ sig (Elt F))).Forall fun op => op.fresh = ∅ :=
  StableHlo.forall_fresh_of_map rfl
abbrev while0Ops0_W : List (Ref sig .tc) := [main_while0b_call0_c, main_while0b_call0_c_0, main_while0b_call0_v0, main_while0b_v49]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
abbrev while0Ops0_1_W : List (Ref sig .tc) := [main_while0b_v50, main_while0b_v51, main_while0b_v52, main_while0b_v53, main_while0b_v54, main_while0b_v55, main_while0b_v56, main_while0b_v57, main_while0b_v58, main_while0b_v59, main_while0b_v60, main_while0b_v61, main_while0b_v62, main_while0b_v63, main_while0b_cst_14, main_while0b_v64, main_while0b_v65, main_while0b_cst_15, main_while0b_v66, main_while0b_v67, main_while0b_v68, main_while0b_v69, main_while0b_v70, main_while0b_cst_16, main_while0b_v71, main_while0b_v72, main_while0b_cst_17, main_while0b_v73, main_while0b_v74, main_while0b_v75, main_while0b_v76, main_while0b_v77, main_while0b_cst_18, main_while0b_v78, main_while0b_v79, main_while0b_v80, main_while0b_v81, main_while0b_v82]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
abbrev while0Ops0_2_W : List (Ref sig .tc) := [main_while0b_call1_v0, main_while0b_call1_c, main_while0b_call1_c_0, main_while0b_v83]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_3_fresh : (while0Ops0_3 : List (HloOp τ sig (Elt F))).Forall fun op => op.fresh = ∅ :=
  StableHlo.forall_fresh_of_map rfl
abbrev while0Ops0_3_W : List (Ref sig .tc) := [main_while0b_c_19, main_while0b_v84, main_v14_3, main_v14_4, main_v14_5]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while1Ops0_fresh : (while1Ops0 : List (HloOp τ sig (Elt F))).Forall fun op => op.fresh = ∅ :=
  StableHlo.forall_fresh_of_map rfl
abbrev while1Ops0_W : List (Ref sig .tc) := [main_while1b_call2_c, main_while1b_call2_c_0, main_while1b_call2_v0, main_while1b_v49]
theorem while1Ops0_writes : (while1Ops0 : List (HloOp τ sig (Elt F))).Forall fun op => op.writes ⊆ (while1Ops0_W.map (Proc.devRef (τ := τ) .tc)).toFinset :=
  StableHlo.forall_writes_sub_of_map rfl
theorem while1Ops0_1_fresh : (while1Ops0_1 : List (HloOp τ sig (Elt F))).Forall fun op => op.fresh = ∅ :=
  StableHlo.forall_fresh_of_map rfl
abbrev while1Ops0_1_W : List (Ref sig .tc) := [main_while1b_v50, main_while1b_v51, main_while1b_v52, main_while1b_v53, main_while1b_v54, main_while1b_v55, main_while1b_v56, main_while1b_v57, main_while1b_v58, main_while1b_v59, main_while1b_v60, main_while1b_v61, main_while1b_v62, main_while1b_v63, main_while1b_cst_14, main_while1b_v64, main_while1b_v65, main_while1b_cst_15, main_while1b_v66, main_while1b_v67, main_while1b_v68, main_while1b_v69, main_while1b_v70, main_while1b_cst_16, main_while1b_v71, main_while1b_v72, main_while1b_cst_17, main_while1b_v73, main_while1b_v74, main_while1b_v75, main_while1b_v76, main_while1b_v77, main_while1b_cst_18, main_while1b_v78, main_while1b_v79, main_while1b_v80, main_while1b_v81, main_while1b_v82]
theorem while1Ops0_1_writes : (while1Ops0_1 : List (HloOp τ sig (Elt F))).Forall fun op => op.writes ⊆ (while1Ops0_1_W.map (Proc.devRef (τ := τ) .tc)).toFinset :=
  StableHlo.forall_writes_sub_of_map rfl
theorem while1Ops0_2_fresh : (while1Ops0_2 : List (HloOp τ sig (Elt F))).Forall fun op => op.fresh = ∅ :=
  StableHlo.forall_fresh_of_map rfl
abbrev while1Ops0_2_W : List (Ref sig .tc) := [main_while1b_call3_v0, main_while1b_call3_c, main_while1b_call3_c_0, main_while1b_v83]
theorem while1Ops0_2_writes : (while1Ops0_2 : List (HloOp τ sig (Elt F))).Forall fun op => op.writes ⊆ (while1Ops0_2_W.map (Proc.devRef (τ := τ) .tc)).toFinset :=
  StableHlo.forall_writes_sub_of_map rfl
theorem while1Ops0_3_fresh : (while1Ops0_3 : List (HloOp τ sig (Elt F))).Forall fun op => op.fresh = ∅ :=
  StableHlo.forall_fresh_of_map rfl
abbrev while1Ops0_3_W : List (Ref sig .tc) := [main_while1b_c_19, main_while1b_v84, main_v40_3, main_v40_4, main_v40_5]
theorem while1Ops0_3_writes : (while1Ops0_3 : List (HloOp τ sig (Elt F))).Forall fun op => op.writes ⊆ (while1Ops0_3_W.map (Proc.devRef (τ := τ) .tc)).toFinset :=
  StableHlo.forall_writes_sub_of_map rfl

end Cert.Proof.RI

end
-- ==== Proof.RefRun.lean ====
/-
  The reference program's run: two counted loops with host operations round them. Every weakly fair execution ends with
  every buffer at a named fold of the operation lists, and every semaphore at zero.
-/
module

public import proofs.«01_k».proof.Proof.RefOps
public import Idealize.ShloMosaic.Lib.Pipeline.RegionsLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.Proof.RI

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

theorem pre_plain : Plain ([hostOps0] : List (List (HloOp τ sig (Elt F)))) :=
  .cons hostOps0_sub (hf := List.forall_iff_forall_mem.mp hostOps0_fresh) .nil
theorem mid_plain : Plain ([hostOps0_1] : List (List (HloOp τ sig (Elt F)))) :=
  .cons hostOps0_1_sub (hf := List.forall_iff_forall_mem.mp hostOps0_1_fresh) .nil
theorem post_plain : Plain ([hostOps0_2] : List (List (HloOp τ sig (Elt F)))) :=
  .cons hostOps0_2_sub (hf := List.forall_iff_forall_mem.mp hostOps0_2_fresh) .nil

local notation "𝕄" => MT nD τ sig Unit (Elt F) ℕ (Option PUnit) ℕ

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm :=
  fun j => j.elim0
abbrev L : GSem nD τ sig → Finset Unit := fun _ => ∅
abbrev lv : GSem nD τ sig → Unit → ℕ := fun _ _ => 0
theorem cellOf_inj : Function.Injective (Pipeline.cellOf (nD := nD) (τ := τ) (Pipeline.pin (pcfgs (F := F)) adm)) := fun k => k.1.elim0

/-- What rides beside the buffers. -/
abbrev R (c : Dev nD) : sProp 𝕄 := iprop(∃ W, owes (c : Thread nD τ) (0 : CellTallies nD τ sig Unit) W)

/-! ## Loop 0 -/

namespace L0

abbrev condOps : List (HloOp τ sig (Elt F)) :=
  [ StableHlo.nullary main_while0c_c_14 (constantI S_ 32 128#32),
    StableHlo.binary main_v14_3 main_while0c_c_14 main_while0c_v49 (cmpi .slt) ]
abbrev condOps_W : List (Ref sig .tc) := [main_while0c_c_14, main_while0c_v49]
theorem condOps_writes : (condOps : List (HloOp τ sig (Elt F))).Forall fun op => op.writes ⊆ (condOps_W.map (Proc.devRef (τ := τ) .tc)).toFinset :=
  StableHlo.forall_writes_sub_of_map rfl
abbrev bodyI : List (List (HloOp τ sig (Elt F))) := [while0Ops0, while0Ops0_1, while0Ops0_2, while0Ops0_3]
theorem body_plain : Plain (bodyI (F := F)) :=
  .cons while0Ops0_sub (hf := List.forall_iff_forall_mem.mp while0Ops0_fresh)
    (.cons while0Ops0_1_sub (hf := List.forall_iff_forall_mem.mp while0Ops0_1_fresh)
      (.cons while0Ops0_2_sub (hf := List.forall_iff_forall_mem.mp while0Ops0_2_fresh)
        (.cons while0Ops0_3_sub (hf := List.forall_iff_forall_mem.mp while0Ops0_3_fresh) .nil)))

variable (V : Dev nD → Valuation τ sig (Elt F))

/-- The buffers before the condition runs for the `k`-th time, from `V`. -/
abbrev atK (k : ℕ) (c : Dev nD) : Valuation τ sig (Elt F) := atTrip condOps bodyI V k c

/-- A buffer that neither the condition nor the body writes. -/
def Kept (r : Ref sig .tc) : Prop :=
  r ∉ condOps_W ∧ r ∉ while0Ops0_W ∧ r ∉ while0Ops0_1_W ∧ r ∉ while0Ops0_2_W ∧ r ∉ while0Ops0_3_W
instance (r : Ref sig .tc) : Decidable (Kept r) := by unfold Kept; infer_instance

theorem keep_cond {r : Ref sig .tc} (h : r ∉ condOps_W) (X : Valuation τ sig (Elt F)) : after condOps X (Proc.devRef .tc r) = X (Proc.devRef .tc r) :=
  after_of_writes_sub condOps X condOps_writes h
theorem keep_0 {r : Ref sig .tc} (h : r ∉ while0Ops0_W) (X : Valuation τ sig (Elt F)) : after while0Ops0 X (Proc.devRef .tc r) = X (Proc.devRef .tc r) :=
  after_of_writes_sub while0Ops0 X while0Ops0_writes h
theorem keep_1 {r : Ref sig .tc} (h : r ∉ while0Ops0_1_W) (X : Valuation τ sig (Elt F)) : after while0Ops0_1 X (Proc.devRef .tc r) = X (Proc.devRef .tc r) :=
  after_of_writes_sub while0Ops0_1 X while0Ops0_1_writes h
theorem keep_2 {r : Ref sig .tc} (h : r ∉ while0Ops0_2_W) (X : Valuation τ sig (Elt F)) : after while0Ops0_2 X (Proc.devRef .tc r) = X (Proc.devRef .tc r) :=
  after_of_writes_sub while0Ops0_2 X while0Ops0_2_writes h
theorem keep_3 {r : Ref sig .tc} (h : r ∉ while0Ops0_3_W) (X : Valuation τ sig (Elt F)) : after while0Ops0_3 X (Proc.devRef .tc r) = X (Proc.devRef .tc r) :=
  after_of_writes_sub while0Ops0_3 X while0Ops0_3_writes h

theorem kept {r : Ref sig .tc} (h : Kept r) (c : Dev nD) : ∀ k, atK V k c (Proc.devRef .tc r) = V c (Proc.devRef .tc r)
  | 0 => rfl
  | k + 1 => by
    rw [show atK V (k + 1) c = afterL bodyI (after condOps (atK V k c)) from rfl]
    simp only [afterL_cons, afterL_nil]
    rw [keep_3 h.2.2.2.2, keep_2 h.2.2.2.1, keep_1 h.2.2.1, keep_0 h.2.1, keep_cond h.1]
    exact kept h c k

theorem ctr_step (X : Valuation τ sig (Elt F)) :
    after while0Ops0_3 X (Proc.devRef .tc main_v14_3) = addi (X (Proc.devRef .tc main_v14_3)) (constantI S_ 32 1#32) := by
  after_results
  rfl

theorem atK_ctr (hV : ∀ c, V c (Proc.devRef .tc main_v14_3) = fun _ => (0#32 : BitVec 32)) (c : Dev nD) :
    ∀ k, atK V k c (Proc.devRef .tc main_v14_3) = fun _ => Scf.iv 0#32 1#32 k
  | 0 => by rw [show atK V 0 c = V c from rfl, hV, Scf.iv_zero]
  | k + 1 => by
    rw [show atK V (k + 1) c = afterL bodyI (after condOps (atK V k c)) from rfl]
    simp only [afterL_cons, afterL_nil]
    rw [ctr_step, keep_2 (by decide +kernel), keep_1 (by decide +kernel), keep_0 (by decide +kernel), keep_cond (by decide +kernel), atK_ctr hV c k, Scf.iv_succ]
    rfl

set_option backward.isDefEq.respectTransparency.types false in
/-- The condition says whether another trip is to come. -/
theorem cond_spec (hV : ∀ c, V c (Proc.devRef .tc main_v14_3) = fun _ => (0#32 : BitVec 32)) :
    LoopCond (pcfgs (F := F)) defs₀ Variants.none loops (R (F := F)) (main_while0_cond (F := F)) condOps bodyI V 128 := by
  intro k hk c bd
  have hctr := atK_ctr V hV c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK V k c) main_v14_3 HostLoop.idx0)
        (HloOp.result _ (atK V k c) main_while0c_c_14 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [after_cons, after_cons, after_nil]; iexact Hh
  iexact HR

/-- The loop as one segment. -/
abbrev seg (hV : ∀ c, V c (Proc.devRef .tc main_v14_3) = fun _ => (0#32 : BitVec 32)) :
    CSeg (pcfgs (F := F)) adm defs₀ Variants.none L lv loops tk :=
  loopSeg _ _ _ _ _ _ _ _ 0 (main_while0_cond (F := F)) (main_while0_body (F := F)) rfl condOps bodyI body_plain
    (by rw [while0_body_chain]; rfl) 128 V (R (F := F)) (cond_spec V hV)

end L0

/-! ## Loop 1 -/

namespace L1

abbrev condOps : List (HloOp τ sig (Elt F)) :=
  [ StableHlo.nullary main_while1c_c_14 (constantI S_ 32 127#32),
    StableHlo.binary main_v40_3 main_while1c_c_14 main_while1c_v49 (cmpi .slt) ]
abbrev condOps_W : List (Ref sig .tc) := [main_while1c_c_14, main_while1c_v49]
theorem condOps_writes : (condOps : List (HloOp τ sig (Elt F))).Forall fun op => op.writes ⊆ (condOps_W.map (Proc.devRef (τ := τ) .tc)).toFinset :=
  StableHlo.forall_writes_sub_of_map rfl
abbrev bodyI : List (List (HloOp τ sig (Elt F))) := [while1Ops0, while1Ops0_1, while1Ops0_2, while1Ops0_3]
theorem body_plain : Plain (bodyI (F := F)) :=
  .cons while1Ops0_sub (hf := List.forall_iff_forall_mem.mp while1Ops0_fresh)
    (.cons while1Ops0_1_sub (hf := List.forall_iff_forall_mem.mp while1Ops0_1_fresh)
      (.cons while1Ops0_2_sub (hf := List.forall_iff_forall_mem.mp while1Ops0_2_fresh)
        (.cons while1Ops0_3_sub (hf := List.forall_iff_forall_mem.mp while1Ops0_3_fresh) .nil)))

variable (V : Dev nD → Valuation τ sig (Elt F))

/-- The buffers before the condition runs for the `k`-th time, from `V`. -/
abbrev atK (k : ℕ) (c : Dev nD) : Valuation τ sig (Elt F) := atTrip condOps bodyI V k c

/-- A buffer that neither the condition nor the body writes. -/
def Kept (r : Ref sig .tc) : Prop :=
  r ∉ condOps_W ∧ r ∉ while1Ops0_W ∧ r ∉ while1Ops0_1_W ∧ r ∉ while1Ops0_2_W ∧ r ∉ while1Ops0_3_W
instance (r : Ref sig .tc) : Decidable (Kept r) := by unfold Kept; infer_instance

theorem keep_cond {r : Ref sig .tc} (h : r ∉ condOps_W) (X : Valuation τ sig (Elt F)) : after condOps X (Proc.devRef .tc r) = X (Proc.devRef .tc r) :=
  after_of_writes_sub condOps X condOps_writes h
theorem keep_0 {r : Ref sig .tc} (h : r ∉ while1Ops0_W) (X : Valuation τ sig (Elt F)) : after while1Ops0 X (Proc.devRef .tc r) = X (Proc.devRef .tc r) :=
  after_of_writes_sub while1Ops0 X while1Ops0_writes h
theorem keep_1 {r : Ref sig .tc} (h : r ∉ while1Ops0_1_W) (X : Valuation τ sig (Elt F)) : after while1Ops0_1 X (Proc.devRef .tc r) = X (Proc.devRef .tc r) :=
  after_of_writes_sub while1Ops0_1 X while1Ops0_1_writes h
theorem keep_2 {r : Ref sig .tc} (h : r ∉ while1Ops0_2_W) (X : Valuation τ sig (Elt F)) : after while1Ops0_2 X (Proc.devRef .tc r) = X (Proc.devRef .tc r) :=
  after_of_writes_sub while1Ops0_2 X while1Ops0_2_writes h
theorem keep_3 {r : Ref sig .tc} (h : r ∉ while1Ops0_3_W) (X : Valuation τ sig (Elt F)) : after while1Ops0_3 X (Proc.devRef .tc r) = X (Proc.devRef .tc r) :=
  after_of_writes_sub while1Ops0_3 X while1Ops0_3_writes h

theorem kept {r : Ref sig .tc} (h : Kept r) (c : Dev nD) : ∀ k, atK V k c (Proc.devRef .tc r) = V c (Proc.devRef .tc r)
  | 0 => rfl
  | k + 1 => by
    rw [show atK V (k + 1) c = afterL bodyI (after condOps (atK V k c)) from rfl]
    simp only [afterL_cons, afterL_nil]
    rw [keep_3 h.2.2.2.2, keep_2 h.2.2.2.1, keep_1 h.2.2.1, keep_0 h.2.1, keep_cond h.1]
    exact kept h c k

theorem ctr_step (X : Valuation τ sig (Elt F)) :
    after while1Ops0_3 X (Proc.devRef .tc main_v40_3) = addi (X (Proc.devRef .tc main_v40_3)) (constantI S_ 32 1#32) := by
  after_results
  rfl

theorem atK_ctr (hV : ∀ c, V c (Proc.devRef .tc main_v40_3) = fun _ => (0#32 : BitVec 32)) (c : Dev nD) :
    ∀ k, atK V k c (Proc.devRef .tc main_v40_3) = fun _ => Scf.iv 0#32 1#32 k
  | 0 => by rw [show atK V 0 c = V c from rfl, hV, Scf.iv_zero]
  | k + 1 => by
    rw [show atK V (k + 1) c = afterL bodyI (after condOps (atK V k c)) from rfl]
    simp only [afterL_cons, afterL_nil]
    rw [ctr_step, keep_2 (by decide +kernel), keep_1 (by decide +kernel), keep_0 (by decide +kernel), keep_cond (by decide +kernel), atK_ctr hV c k, Scf.iv_succ]
    rfl

set_option backward.isDefEq.respectTransparency.types false in
/-- The condition says whether another trip is to come. -/
theorem cond_spec (hV : ∀ c, V c (Proc.devRef .tc main_v40_3) = fun _ => (0#32 : BitVec 32)) :
    LoopCond (pcfgs (F := F)) defs₀ Variants.none loops (R (F := F)) (main_while1_cond (F := F)) condOps bodyI V 127 := by
  intro k hk c bd
  have hctr := atK_ctr V hV c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK V k c) main_v40_3 HostLoop.idx0)
        (HloOp.result _ (atK V k c) main_while1c_c_14 HostLoop.idx0) = 1#1) (k < 127)
    rw [nullary_result_ne _ _ _ _ (by decide), nullary_result, hctr]
    exact Scf.cmpi_slt_iv_ub_iff (lb := 0#32) (ub := 127#32) (st := 1#32) (by decide) (show k ≤ Scf.trips 0#32 127#32 1#32 from hk)
  isplitl [Hb]; · iexact Hb
  isplitl [Hh]; · rw [after_cons, after_cons, after_nil]; iexact Hh
  iexact HR

/-- The loop as one segment. -/
abbrev seg (hV : ∀ c, V c (Proc.devRef .tc main_v40_3) = fun _ => (0#32 : BitVec 32)) :
    CSeg (pcfgs (F := F)) adm defs₀ Variants.none L lv loops tk :=
  loopSeg _ _ _ _ _ _ _ _ 1 (main_while1_cond (F := F)) (main_while1_body (F := F)) rfl condOps bodyI body_plain
    (by rw [while1_body_chain]; rfl) 127 V (R (F := F)) (cond_spec V hV)

end L1

/-! ## The run -/

section Run

variable (m : (ℓ : Loc nD τ sig) → Buf (Elt F) ℓ) (ρ : Dev nD → PrngReg)

/-- The buffers at launch, at the first loop, after it, at the second loop, after it, at the end. -/
abbrev U0 (c : Dev nD) : Valuation τ sig (Elt F) := launchContents m c
abbrev U1 (c : Dev nD) : Valuation τ sig (Elt F) := after hostOps0 (U0 m c)
abbrev U2 (c : Dev nD) : Valuation τ sig (Elt F) := after L0.condOps (L0.atK (U1 m) 128 c)
abbrev U3 (c : Dev nD) : Valuation τ sig (Elt F) := after hostOps0_1 (U2 m c)
abbrev U4 (c : Dev nD) : Valuation τ sig (Elt F) := after L1.condOps (L1.atK (U3 m) 127 c)
abbrev U5 (c : Dev nD) : Valuation τ sig (Elt F) := after hostOps0_2 (U4 m c)

theorem ctr0 (c : Dev nD) : U1 m c (Proc.devRef .tc main_v14_3) = fun _ => (0#32 : BitVec 32) := by
  unfold U1
  after_reads_simp
  rfl
theorem ctr1 (c : Dev nD) : U3 m c (Proc.devRef .tc main_v40_3) = fun _ => (0#32 : BitVec 32) := by
  unfold U3
  after_reads_simp
  rfl

/-- The program's five segments. -/
abbrev segs : List (CSeg (pcfgs (F := F)) adm defs₀ Variants.none L lv loops tk) :=
  segsOf _ _ _ _ _ _ _ _ (R (F := F)) [hostOps0] pre_plain (U0 m)
    ++ (L0.seg (U1 m) (ctr0 m) :: (segsOf _ _ _ _ _ _ _ _ (R (F := F)) [hostOps0_1] mid_plain (U2 m)
      ++ (L1.seg (U3 m) (ctr1 m) :: segsOf _ _ _ _ _ _ _ _ (R (F := F)) [hostOps0_2] post_plain (U4 m))))

theorem segs_chains : CSeg.Chains (fun c => iprop(held (c : Thread nD τ) (ucRefs τ sig) (U0 m c) ∗ R c)) (segs m)
    (fun c => iprop(held (c : Thread nD τ) (ucRefs τ sig) (U5 m c) ∗ R c)) :=
  CSeg.Chains.append (segsOf_chains _ _ _ _ _ _ _ _ R [hostOps0] pre_plain _)
    ⟨fun _ => .rfl, CSeg.Chains.append (segsOf_chains _ _ _ _ _ _ _ _ R [hostOps0_1] mid_plain _)
      ⟨fun _ => .rfl, segsOf_chains _ _ _ _ _ _ _ _ R [hostOps0_2] post_plain _⟩⟩

theorem segs_prog : (segs (F := F) m).map CSeg.prog
    = [StableHlo.seq hostOps0, HostLoop.enter 0, StableHlo.seq hostOps0_1, HostLoop.enter 1, StableHlo.seq hostOps0_2] := by
  simp only [segs, List.map_append, List.map_cons, segsOf_prog, List.map_nil]
  rfl

theorem segs_T : ∀ s ∈ segs (F := F) m, s.T = ∅ := fun s _ => Finset.eq_empty_of_isEmpty s.T

theorem no_unscoped : ∀ sm : SemLoc sig, sm.isScoped .tc = true := by decide

/-- Every weakly fair execution ends with every unscoped buffer at the last contents and every semaphore at zero. -/
theorem run : θ_run (defs (F := F)) (onTc (τ := τ) (main (F := F))) ⟨m, fun _ => 0, ρ⟩ (fun r =>
      (∀ c : Dev nD, ∀ b ∈ ucRefs τ sig, r.2.mem ((c : Dev nD), b) = U5 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_inj defs₀ Variants.none L lv loops tk m ρ main (segs m)
    (fun c Q => by
      rw [main_chain c]
      show wp _ _ _ (Pipeline.chain ((segs m).map CSeg.prog)) Q ⊢ _
      rw [segs_prog])
    (Pipeline.CSeg.pairwise_disjoint_of_T_empty _ (segs_T m))
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (U0 m c) ∗ R c))
    (Tₙ := fun c => iprop(held (c : Thread nD τ) (ucRefs τ sig) (U5 m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = U5 m c b)
    (hfin := fun c s' => by
      unfold held
      iintro ⟨Hh, HSI⟩
      imodintro
      iapply (pointsTo_read_all (ucRefs τ sig) (fun b => ((c : Dev nD), b)) (fun b => U5 m c b) s')
      isplitl [Hh] <;> iassumption)
    (hQ := fun s h hz => ⟨h, funext fun g => hz g (.inr (no_unscoped g.2))⟩)

/-- The program's arguments. -/
abbrev argRefs : List (Ref sig .tc) :=
  [main_arg0, main_arg1, main_arg2, main_arg3, main_arg4, main_arg5, main_arg6, main_arg7, main_arg8, main_arg9, main_arg10, main_arg11, main_arg12,
    main_arg13, main_arg14, main_arg15, main_arg16]

theorem mem_uc (b : Ref sig .tc) (h : (Proc.devRef .tc b : DevRef τ sig).isScoped = false) : (Proc.devRef .tc b : DevRef τ sig) ∈ ucRefs τ sig :=
  devRef_mem_ucRefs b h

/-- A buffer that no list writes. -/
def Still (r : Ref sig .tc) : Prop := r ∉ hostOps0_W ∧ L0.Kept r ∧ r ∉ hostOps0_1_W ∧ L1.Kept r ∧ r ∉ hostOps0_2_W
instance (r : Ref sig .tc) : Decidable (Still r) := by unfold Still; infer_instance

theorem U1_keep {r : Ref sig .tc} (h : r ∉ hostOps0_W) (c : Dev nD) : U1 m c (Proc.devRef .tc r) = m ((c : Thread nD τ).loc r) :=
  after_of_writes_sub hostOps0 _ hostOps0_writes h
theorem U2_keep {r : Ref sig .tc} (h : L0.Kept r) (c : Dev nD) : U2 m c (Proc.devRef .tc r) = U1 m c (Proc.devRef .tc r) :=
  (L0.keep_cond h.1 _).trans (L0.kept _ h c 128)
theorem U3_keep {r : Ref sig .tc} (h : r ∉ hostOps0_1_W) (c : Dev nD) : U3 m c (Proc.devRef .tc r) = U2 m c (Proc.devRef .tc r) :=
  after_of_writes_sub hostOps0_1 _ hostOps0_1_writes h
theorem U4_keep {r : Ref sig .tc} (h : L1.Kept r) (c : Dev nD) : U4 m c (Proc.devRef .tc r) = U3 m c (Proc.devRef .tc r) :=
  (L1.keep_cond h.1 _).trans (L1.kept _ h c 127)
theorem U5_keep {r : Ref sig .tc} (h : r ∉ hostOps0_2_W) (c : Dev nD) : U5 m c (Proc.devRef .tc r) = U4 m c (Proc.devRef .tc r) :=
  after_of_writes_sub hostOps0_2 _ hostOps0_2_writes h
theorem U5_still {r : Ref sig .tc} (h : Still r) (c : Dev nD) : U5 m c (Proc.devRef .tc r) = m ((c : Thread nD τ).loc r) := by
  rw [U5_keep m h.2.2.2.2, U4_keep m h.2.2.2.1, U3_keep m h.2.2.1, U2_keep m h.2.1, U1_keep m h.1]

theorem args_still : ∀ a ∈ argRefs, Still a ∧ (Proc.devRef .tc a : DevRef τ sig).isScoped = false := by decide +kernel

/-- The frame, and the two results at the last contents. -/
theorem run_read : θ_run (defs (F := F)) (onTc (τ := τ) (main (F := F))) ⟨m, fun _ => 0, ρ⟩ (fun r =>
      ((∀ c : Dev nD, r.2.mem ((c : Thread nD τ).loc main_v48) = U5 m c (Proc.devRef .tc main_v48)
          ∧ r.2.mem ((c : Thread nD τ).loc main_v19) = U5 m c (Proc.devRef .tc main_v19))
        ∧ ∀ c : Dev nD, ∀ a ∈ argRefs, r.2.mem ((c : Thread nD τ).loc a) = m ((c : Thread nD τ).loc a)) ∧ r.2.sem = fun _ => 0) :=
  (θ_run _ _ _).mono (fun r h => ⟨⟨fun c => ⟨h.1 c _ (mem_uc _ (by decide)), h.1 c _ (mem_uc _ (by decide))⟩,
    fun c a ha => (h.1 c _ (mem_uc a (args_still a ha).2)).trans (U5_still m (args_still a ha).1 c)⟩, h.2⟩) (run m ρ)

end Run

end Cert.Proof.RI

end
-- ==== Proof.Frames.lean ====
/-
  The frames of the kernel, of the idealized kernel and of the reference, from their runs.
-/
module

public import proofs.«01_k».proof.Proof.Tokens
public import proofs.«01_k».proof.Proof.Values
public import proofs.«01_k».proof.Proof.ValuesIdeal
public import proofs.«01_k».proof.Proof.RefRun

@[expose] public section

noncomputable section

namespace Cert.Proof

open Idealize.ShloMosaic Idealize.ShloMosaic.TcCoe Idealize.SL.Sem

theorem frame_kernel : Cert.quiescent_Kernel := fun m g hp =>
  (θ_run _ _ _).mono (fun _ h => ⟨fun c => by refine ⟨?_, ?_, ?_, ?_, ?_, ?_, ?_, ?_, ?_, ?_, ?_, ?_, ?_, ?_, ?_, ?_, ?_⟩ <;> exact h.1.2 c _ (by simp [K.argRefs]), h.2⟩)
    (K.results (F := Bits) m g fun c i => tokens_lt (F := Bits) _ _ _ _ _ _ _ _ _ _ _ _ _ _ _ _ _ (hp c) i)

theorem frame_ideal : Cert.quiescent_KernelIdeal := fun m g hp =>
  (θ_run _ _ _).mono (fun _ h => ⟨fun c => by refine ⟨?_, ?_, ?_, ?_, ?_, ?_, ?_, ?_, ?_, ?_, ?_, ?_, ?_, ?_, ?_, ?_, ?_⟩ <;> exact h.1.2 c _ (by simp [KI.argRefs]), h.2⟩)
    (KI.results (F := Ideal) m g fun c i => tokens_lt (F := Ideal) _ _ _ _ _ _ _ _ _ _ _ _ _ _ _ _ _ (hp c) i)

theorem frame_reference : Cert.quiescent_ReferenceIdeal := fun m g _ =>
  (θ_run _ _ _).mono (fun _ h => ⟨fun c => by refine ⟨?_, ?_, ?_, ?_, ?_, ?_, ?_, ?_, ?_, ?_, ?_, ?_, ?_, ?_, ?_, ?_, ?_⟩ <;> exact h.1.2 c _ (by simp [RI.argRefs]), h.2⟩)
    (RI.run_read (F := Ideal) m g)

end Cert.Proof

end
-- ==== Proof.RefLoops.lean ====
/-
  What the reference program's loops compute: the gates of a step, the cell, the states one after another, and the array
  of states.
-/
module

public import proofs.«01_k».proof.Proof.RefRun
public import Idealize.ShloMosaic.Lib.DynamicIndex
public import Idealize.ShloMosaic.Lib.Pipeline.ValueKit

@[expose] public section

set_option maxRecDepth 16384

noncomputable section

namespace Cert.Proof.RI

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- The hidden state's product and bias. -/
def pre (h : FVec F S16x512 .f32) (W : FVec F S1536x512 .f32) (b : FVec F S1536 .f32) : FVec F S16x1536 .f32 :=
  addf (Host.dotGeneral dot_S16x512_S512x1536_S16x1536_1_0_0_1_n_n none h (transpose S512x1536 [1, 0] W transposes_S1536x512_S512x1536_1_0))
    (broadcastInDim S16x1536 ![0, 1] bcast_S1x1536_S16x1536_0_1 (broadcastInDim S1x1536 ![1] bcast_S1536_S1x1536_1 b))

/-- The logistic function as the program spells it. -/
def sgm (x : FVec F S16x512 .f32) : FVec F S16x512 .f32 :=
  Host.divf (broadcastInDim S16x512 ![] bcast_S_S16x512 (constant S_ .f32 0x3F800000#32))
    (addf (broadcastInDim S16x512 ![] bcast_S_S16x512 (constant S_ .f32 0x3F800000#32)) (Host.exp (Host.negf x)))

/-- One step from the step's gates and the pre-gates of the state. -/
def step (g p : FVec F S16x1536 .f32) (h : FVec F S16x512 .f32) : FVec F S16x512 .f32 :=
  addf
    (mulf (subf (broadcastInDim S16x512 ![] bcast_S_S16x512 (constant S_ .f32 0x3F800000#32))
        (sgm (addf (extractStridedSlice S16x512 ![0, 512] g slices_S16x1536_S16x512_0_512) (extractStridedSlice S16x512 ![0, 512] p slices_S16x1536_S16x512_0_512))))
      (Host.tanh (addf (extractStridedSlice S16x512 ![0, 1024] g slices_S16x1536_S16x512_0_1024)
        (mulf (sgm (addf (extractStridedSlice S16x512 ![0, 0] g slices_S16x1536_S16x512_0_0) (extractStridedSlice S16x512 ![0, 0] p slices_S16x1536_S16x512_0_0)))
          (extractStridedSlice S16x512 ![0, 1024] p slices_S16x1536_S16x512_0_1024)))))
    (mulf (sgm (addf (extractStridedSlice S16x512 ![0, 512] g slices_S16x1536_S16x512_0_512) (extractStridedSlice S16x512 ![0, 512] p slices_S16x1536_S16x512_0_512))) h)

/-- The cell. -/
def cell (g : FVec F S16x1536 .f32) (h : FVec F S16x512 .f32) (W : FVec F S1536x512 .f32) (b : FVec F S1536 .f32) : FVec F S16x512 .f32 :=
  step g (pre h W b) h

theorem iv_eq : ∀ k : ℕ, Scf.iv (0#32 : BitVec 32) 1#32 k = BitVec.ofNat 32 k
  | 0 => Scf.iv_zero _ _
  | k + 1 => by rw [Scf.iv_succ, iv_eq k, ← BitVec.ofNat_add]
theorem iv_toInt {k : ℕ} (hk : k < 2 ^ 31) : (Scf.iv (0#32 : BitVec 32) 1#32 k).toInt = k := by
  rw [show Scf.iv (0#32 : BitVec 32) 1#32 k = BitVec.ofNat 32 k from iv_eq k]
  exact toInt_ofNat_of_lt hk

/-! ## Loop 0 -/

namespace L0

/-- The gates of step `n`. -/
def gateRow (g : FVec F S128x16x1536 .f32) (n : ℕ) : FVec F S16x1536 .f32 :=
  fun y => g (ix3 ⟨n % 128, Nat.mod_lt _ (by decide)⟩ ⟨(y 0).val, (y 0).isLt⟩ ⟨(y 1).val, (y 1).isLt⟩)

/-- The state after `n` steps. -/
def states (g : FVec F S128x16x1536 .f32) (W : FVec F S1536x512 .f32) (b : FVec F S1536 .f32) (h0 : FVec F S16x512 .f32) : ℕ → FVec F S16x512 .f32
  | 0 => h0
  | n + 1 => cell (gateRow g n) (states g W b h0 n) W b

theorem row_of (g : FVec F S128x16x1536 .f32) (i : IVec S_ 32) (k : ℕ) (hk : k < 128) (hi : i = fun _ => Scf.iv 0#32 1#32 k) :
    shapeCast S16x1536 (Host.dynamicSlice S1x16x1536 g
      (fun a => ((![i, constantI S_ 32 0#32, constantI S_ 32 0#32] : Fin 3 → IVec S_ 32) a (Shape.Idx.first h_S_)).toInt) sliceFits_S128x16x1536_S1x16x1536)
        shapeCasts_S1x16x1536_S16x1536 = gateRow g k := by
  have h' : S128x16x1536.Slices ![k, 0, 0] S1x16x1536 := ⟨rfl, by
    intro a; fin_cases a
    · show k + 1 ≤ 128; omega
    · show 0 + 16 ≤ 16; omega
    · show 0 + 1536 ≤ 1536; omega⟩
  rw [Host.dynamicSlice_eq_extractStridedSlice S1x16x1536 g _ ![k, 0, 0] _ h' (by
    subst hi
    intro a; fin_cases a
    · exact iv_toInt (by omega)
    · rfl
    · rfl)]
  funext y
  unfold gateRow
  pointwise
  blk_ext

theorem row_term (X : Valuation τ sig (Elt F)) :
    after while0Ops0 X (Proc.devRef .tc main_while0b_v49) = shapeCast S16x1536 (Host.dynamicSlice S1x16x1536 (X (Proc.devRef .tc main_v14_0) : FVec F S128x16x1536 .f32)
      (fun a => ((![X (Proc.devRef .tc main_v14_3), constantI S_ 32 0#32, constantI S_ 32 0#32] : Fin 3 → (⟨S_, .i32⟩ : BufTy).Contents (Elt F)) a (Shape.Idx.first h_S_)).toInt)
        sliceFits_S128x16x1536_S1x16x1536) shapeCasts_S1x16x1536_S16x1536 := by
  simp only [while0Ops0]
  after_results_entrywise [cast_eq]

theorem row (X : Valuation τ sig (Elt F)) (k : ℕ) (hk : k < 128) (hctr : X (Proc.devRef .tc main_v14_3) = fun _ => Scf.iv 0#32 1#32 k) :
    after while0Ops0 X (Proc.devRef .tc main_while0b_v49) = gateRow (X (Proc.devRef .tc main_v14_0)) k :=
  (row_term X).trans (row_of _ _ k hk hctr)

theorem cell_val (X : Valuation τ sig (Elt F)) :
    after while0Ops0_1 X (Proc.devRef .tc main_while0b_v82)
      = cell (X (Proc.devRef .tc main_while0b_v49)) (X (Proc.devRef .tc main_v14_4)) (X (Proc.devRef .tc main_v14_1)) (X (Proc.devRef .tc main_v14_2)) := by
  after_reads_simp
  rfl

theorem upd_of (g : FVec F S128x16x512 .f32) (u : FVec F S16x512 .f32) (i : IVec S_ 32) (k : ℕ) (hk : k < 128) (hi : i = fun _ => Scf.iv 0#32 1#32 k) (y : S128x16x512.Idx) :
    Host.dynamicUpdateSlice g (broadcastInDim S1x16x512 ![1, 2] bcast_S16x512_S1x16x512_1_2 u)
      (fun a => ((![i, constantI S_ 32 0#32, constantI S_ 32 0#32] : Fin 3 → IVec S_ 32) a (Shape.Idx.first h_S_)).toInt) updateFits_S128x16x512_S1x16x512 y
      = if (y 0).val = k then u (ix2 ⟨(y 1).val, (y 1).isLt⟩ ⟨(y 2).val, (y 2).isLt⟩) else g y := by
  have h' : S128x16x512.Slices ![k, 0, 0] S1x16x512 := ⟨rfl, by
    intro a; fin_cases a
    · show k + 1 ≤ 128; omega
    · show 0 + 16 ≤ 16; omega
    · show 0 + 512 ≤ 512; omega⟩
  rw [Host.dynamicUpdateSlice_eq_updateSlice g _ _ _ ![k, 0, 0] (by
    subst hi
    intro a; fin_cases a
    · show (min (max (Scf.iv (0#32 : BitVec 32) 1#32 k).toInt 0) ((128 - 1 : ℕ) : ℤ)).toNat = k
      rw [iv_toInt (by omega)]; omega
    · rfl
    · rfl) h']
  have h1 : (y 1).val < 16 := (y 1).isLt
  have h2 : (y 2).val < 512 := (y 2).isLt
  unfold updateSlice
  by_cases h : (y 0).val = k
  · rw [if_pos h, dif_pos (by
      intro a; fin_cases a
      · show k ≤ (y 0).val ∧ (y 0).val < k + 1; omega
      · show 0 ≤ (y 1).val ∧ (y 1).val < 0 + 16; omega
      · show 0 ≤ (y 2).val ∧ (y 2).val < 0 + 512; omega)]
    pointwise
    blk_ext
  · rw [if_neg h, dif_neg (by
      intro hh
      have := hh 0
      have : k ≤ (y 0).val ∧ (y 0).val < k + 1 := this
      omega)]

theorem upd_term (X : Valuation τ sig (Elt F)) :
    after while0Ops0_2 X (Proc.devRef .tc main_while0b_v83)
      = Host.dynamicUpdateSlice (X (Proc.devRef .tc main_v14_5) : FVec F S128x16x512 .f32)
        (broadcastInDim S1x16x512 ![1, 2] bcast_S16x512_S1x16x512_1_2 (X (Proc.devRef .tc main_while0b_v82) : FVec F S16x512 .f32))
        (fun a => ((![X (Proc.devRef .tc main_v14_3), constantI S_ 32 0#32, constantI S_ 32 0#32] : Fin 3 → (⟨S_, .i32⟩ : BufTy).Contents (Elt F)) a (Shape.Idx.first h_S_)).toInt)
          updateFits_S128x16x512_S1x16x512 := by
  simp only [while0Ops0_2]
  after_results_entrywise [cast_eq]

theorem upd (X : Valuation τ sig (Elt F)) (k : ℕ) (hk : k < 128) (hctr : X (Proc.devRef .tc main_v14_3) = fun _ => Scf.iv 0#32 1#32 k) (y : S128x16x512.Idx) :
    (after while0Ops0_2 X (Proc.devRef .tc main_while0b_v83) : FVec F S128x16x512 .f32) y
      = if (y 0).val = k then (X (Proc.devRef .tc main_while0b_v82) : FVec F S16x512 .f32) (ix2 ⟨(y 1).val, (y 1).isLt⟩ ⟨(y 2).val, (y 2).isLt⟩)
        else (X (Proc.devRef .tc main_v14_5) : FVec F S128x16x512 .f32) y :=
  (congrFun (upd_term X) y).trans (upd_of _ _ _ k hk hctr y)

theorem carry_h (X : Valuation τ sig (Elt F)) : after while0Ops0_3 X (Proc.devRef .tc main_v14_4) = X (Proc.devRef .tc main_while0b_v82) := by
  after_reads_simp
  try rfl
theorem carry_hs (X : Valuation τ sig (Elt F)) : after while0Ops0_3 X (Proc.devRef .tc main_v14_5) = X (Proc.devRef .tc main_while0b_v83) := by
  after_reads_simp
  try rfl

variable (V : Dev nD → Valuation τ sig (Elt F)) (hV : ∀ c, V c (Proc.devRef .tc main_v14_3) = fun _ => (0#32 : BitVec 32))

/-- The states of this loop from its first contents. -/
abbrev st (c : Dev nD) (n : ℕ) : FVec F S16x512 .f32 :=
  states (V c (Proc.devRef .tc main_v14_0)) (V c (Proc.devRef .tc main_v14_1)) (V c (Proc.devRef .tc main_v14_2)) (V c (Proc.devRef .tc main_v14_4)) n

include hV in
theorem inv (c : Dev nD) : ∀ k, k ≤ 128 →
    atK V k c (Proc.devRef .tc main_v14_4) = st V c k
      ∧ ∀ y : S128x16x512.Idx, (y 0).val < k → (atK V k c (Proc.devRef .tc main_v14_5) : FVec F S128x16x512 .f32) y
          = st V c ((y 0).val + 1) (ix2 ⟨(y 1).val, (y 1).isLt⟩ ⟨(y 2).val, (y 2).isLt⟩)
  | 0, _ => ⟨rfl, fun y hy => absurd hy (Nat.not_lt_zero _)⟩
  | k + 1, hk => by
    obtain ⟨ih1, ih2⟩ := inv c k (by omega)
    have hc0 := atK_ctr V hV c k
    have e0 : after condOps (atK V k c) (Proc.devRef .tc main_v14_0) = V c (Proc.devRef .tc main_v14_0) := (keep_cond (by decide +kernel) _).trans (kept V (by decide +kernel) c k)
    have e1 : after condOps (atK V k c) (Proc.devRef .tc main_v14_1) = V c (Proc.devRef .tc main_v14_1) := (keep_cond (by decide +kernel) _).trans (kept V (by decide +kernel) c k)
    have e2 : after condOps (atK V k c) (Proc.devRef .tc main_v14_2) = V c (Proc.devRef .tc main_v14_2) := (keep_cond (by decide +kernel) _).trans (kept V (by decide +kernel) c k)
    have e3 : after condOps (atK V k c) (Proc.devRef .tc main_v14_3) = fun _ => Scf.iv 0#32 1#32 k := (keep_cond (by decide +kernel) _).trans hc0
    have e4 : after condOps (atK V k c) (Proc.devRef .tc main_v14_4) = st V c k := (keep_cond (by decide +kernel) _).trans ih1
    have e5 : after condOps (atK V k c) (Proc.devRef .tc main_v14_5) = atK V k c (Proc.devRef .tc main_v14_5) := keep_cond (by decide +kernel) _
    generalize hX : after condOps (atK V k c) = X at e0 e1 e2 e3 e4 e5
    have hst : after while0Ops0_1 (after while0Ops0 X) (Proc.devRef .tc main_while0b_v82) = st V c (k + 1) := by
      rw [cell_val, row X k (by omega) e3, keep_0 (r := main_v14_4) (by decide +kernel), keep_0 (r := main_v14_1) (by decide +kernel), keep_0 (r := main_v14_2) (by decide +kernel), e0, e1, e2, e4]
      rfl
    rw [show atK V (k + 1) c = afterL bodyI (after condOps (atK V k c)) from rfl, hX]
    simp only [afterL_cons, afterL_nil]
    refine ⟨?_, fun y hy => ?_⟩
    · rw [carry_h, keep_2 (by decide +kernel), hst]
    · rw [carry_hs]
      refine (upd _ k (by omega) (by rw [keep_1 (by decide +kernel), keep_0 (by decide +kernel), e3]) y).trans ?_
      by_cases h : (y 0).val = k
      · rw [if_pos h, hst, h]
      · rw [if_neg h, keep_1 (by decide +kernel), keep_0 (by decide +kernel), e5]
        exact ih2 y (by omega)

end L0

/-! ## Loop 1 -/

namespace L1

/-- The gates of step `n`. -/
def gateRow (g : FVec F S127x16x1536 .f32) (n : ℕ) : FVec F S16x1536 .f32 :=
  fun y => g (ix3 ⟨n % 127, Nat.mod_lt _ (by decide)⟩ ⟨(y 0).val, (y 0).isLt⟩ ⟨(y 1).val, (y 1).isLt⟩)

/-- The state after `n` steps. -/
def states (g : FVec F S127x16x1536 .f32) (W : FVec F S1536x512 .f32) (b : FVec F S1536 .f32) (h0 : FVec F S16x512 .f32) : ℕ → FVec F S16x512 .f32
  | 0 => h0
  | n + 1 => cell (gateRow g n) (states g W b h0 n) W b

theorem row_of (g : FVec F S127x16x1536 .f32) (i : IVec S_ 32) (k : ℕ) (hk : k < 127) (hi : i = fun _ => Scf.iv 0#32 1#32 k) :
    shapeCast S16x1536 (Host.dynamicSlice S1x16x1536 g
      (fun a => ((![i, constantI S_ 32 0#32, constantI S_ 32 0#32] : Fin 3 → IVec S_ 32) a (Shape.Idx.first h_S_)).toInt) sliceFits_S127x16x1536_S1x16x1536)
        shapeCasts_S1x16x1536_S16x1536 = gateRow g k := by
  have h' : S127x16x1536.Slices ![k, 0, 0] S1x16x1536 := ⟨rfl, by
    intro a; fin_cases a
    · show k + 1 ≤ 127; omega
    · show 0 + 16 ≤ 16; omega
    · show 0 + 1536 ≤ 1536; omega⟩
  rw [Host.dynamicSlice_eq_extractStridedSlice S1x16x1536 g _ ![k, 0, 0] _ h' (by
    subst hi
    intro a; fin_cases a
    · exact iv_toInt (by omega)
    · rfl
    · rfl)]
  funext y
  unfold gateRow
  pointwise
  blk_ext

theorem row_term (X : Valuation τ sig (Elt F)) :
    after while1Ops0 X (Proc.devRef .tc main_while1b_v49) = shapeCast S16x1536 (Host.dynamicSlice S1x16x1536 (X (Proc.devRef .tc main_v40_0) : FVec F S127x16x1536 .f32)
      (fun a => ((![X (Proc.devRef .tc main_v40_3), constantI S_ 32 0#32, constantI S_ 32 0#32] : Fin 3 → (⟨S_, .i32⟩ : BufTy).Contents (Elt F)) a (Shape.Idx.first h_S_)).toInt)
        sliceFits_S127x16x1536_S1x16x1536) shapeCasts_S1x16x1536_S16x1536 := by
  simp only [while1Ops0]
  after_results_entrywise [cast_eq]

theorem row (X : Valuation τ sig (Elt F)) (k : ℕ) (hk : k < 127) (hctr : X (Proc.devRef .tc main_v40_3) = fun _ => Scf.iv 0#32 1#32 k) :
    after while1Ops0 X (Proc.devRef .tc main_while1b_v49) = gateRow (X (Proc.devRef .tc main_v40_0)) k :=
  (row_term X).trans (row_of _ _ k hk hctr)

theorem cell_val (X : Valuation τ sig (Elt F)) :
    after while1Ops0_1 X (Proc.devRef .tc main_while1b_v82)
      = cell (X (Proc.devRef .tc main_while1b_v49)) (X (Proc.devRef .tc main_v40_4)) (X (Proc.devRef .tc main_v40_1)) (X (Proc.devRef .tc main_v40_2)) := by
  after_reads_simp
  rfl

theorem upd_of (g : FVec F S127x16x512 .f32) (u : FVec F S16x512 .f32) (i : IVec S_ 32) (k : ℕ) (hk : k < 127) (hi : i = fun _ => Scf.iv 0#32 1#32 k) (y : S127x16x512.Idx) :
    Host.dynamicUpdateSlice g (broadcastInDim S1x16x512 ![1, 2] bcast_S16x512_S1x16x512_1_2 u)
      (fun a => ((![i, constantI S_ 32 0#32, constantI S_ 32 0#32] : Fin 3 → IVec S_ 32) a (Shape.Idx.first h_S_)).toInt) updateFits_S127x16x512_S1x16x512 y
      = if (y 0).val = k then u (ix2 ⟨(y 1).val, (y 1).isLt⟩ ⟨(y 2).val, (y 2).isLt⟩) else g y := by
  have h' : S127x16x512.Slices ![k, 0, 0] S1x16x512 := ⟨rfl, by
    intro a; fin_cases a
    · show k + 1 ≤ 127; omega
    · show 0 + 16 ≤ 16; omega
    · show 0 + 512 ≤ 512; omega⟩
  rw [Host.dynamicUpdateSlice_eq_updateSlice g _ _ _ ![k, 0, 0] (by
    subst hi
    intro a; fin_cases a
    · show (min (max (Scf.iv (0#32 : BitVec 32) 1#32 k).toInt 0) ((127 - 1 : ℕ) : ℤ)).toNat = k
      rw [iv_toInt (by omega)]; omega
    · rfl
    · rfl) h']
  have h1 : (y 1).val < 16 := (y 1).isLt
  have h2 : (y 2).val < 512 := (y 2).isLt
  unfold updateSlice
  by_cases h : (y 0).val = k
  · rw [if_pos h, dif_pos (by
      intro a; fin_cases a
      · show k ≤ (y 0).val ∧ (y 0).val < k + 1; omega
      · show 0 ≤ (y 1).val ∧ (y 1).val < 0 + 16; omega
      · show 0 ≤ (y 2).val ∧ (y 2).val < 0 + 512; omega)]
    pointwise
    blk_ext
  · rw [if_neg h, dif_neg (by
      intro hh
      have := hh 0
      have : k ≤ (y 0).val ∧ (y 0).val < k + 1 := this
      omega)]

theorem upd_term (X : Valuation τ sig (Elt F)) :
    after while1Ops0_2 X (Proc.devRef .tc main_while1b_v83)
      = Host.dynamicUpdateSlice (X (Proc.devRef .tc main_v40_5) : FVec F S127x16x512 .f32)
        (broadcastInDim S1x16x512 ![1, 2] bcast_S16x512_S1x16x512_1_2 (X (Proc.devRef .tc main_while1b_v82) : FVec F S16x512 .f32))
        (fun a => ((![X (Proc.devRef .tc main_v40_3), constantI S_ 32 0#32, constantI S_ 32 0#32] : Fin 3 → (⟨S_, .i32⟩ : BufTy).Contents (Elt F)) a (Shape.Idx.first h_S_)).toInt)
          updateFits_S127x16x512_S1x16x512 := by
  simp only [while1Ops0_2]
  after_results_entrywise [cast_eq]

theorem upd (X : Valuation τ sig (Elt F)) (k : ℕ) (hk : k < 127) (hctr : X (Proc.devRef .tc main_v40_3) = fun _ => Scf.iv 0#32 1#32 k) (y : S127x16x512.Idx) :
    (after while1Ops0_2 X (Proc.devRef .tc main_while1b_v83) : FVec F S127x16x512 .f32) y
      = if (y 0).val = k then (X (Proc.devRef .tc main_while1b_v82) : FVec F S16x512 .f32) (ix2 ⟨(y 1).val, (y 1).isLt⟩ ⟨(y 2).val, (y 2).isLt⟩)
        else (X (Proc.devRef .tc main_v40_5) : FVec F S127x16x512 .f32) y :=
  (congrFun (upd_term X) y).trans (upd_of _ _ _ k hk hctr y)

theorem carry_h (X : Valuation τ sig (Elt F)) : after while1Ops0_3 X (Proc.devRef .tc main_v40_4) = X (Proc.devRef .tc main_while1b_v82) := by
  after_reads_simp
  try rfl
theorem carry_hs (X : Valuation τ sig (Elt F)) : after while1Ops0_3 X (Proc.devRef .tc main_v40_5) = X (Proc.devRef .tc main_while1b_v83) := by
  after_reads_simp
  try rfl

variable (V : Dev nD → Valuation τ sig (Elt F)) (hV : ∀ c, V c (Proc.devRef .tc main_v40_3) = fun _ => (0#32 : BitVec 32))

/-- The states of this loop from its first contents. -/
abbrev st (c : Dev nD) (n : ℕ) : FVec F S16x512 .f32 :=
  states (V c (Proc.devRef .tc main_v40_0)) (V c (Proc.devRef .tc main_v40_1)) (V c (Proc.devRef .tc main_v40_2)) (V c (Proc.devRef .tc main_v40_4)) n

include hV in
theorem inv (c : Dev nD) : ∀ k, k ≤ 127 →
    atK V k c (Proc.devRef .tc main_v40_4) = st V c k
      ∧ ∀ y : S127x16x512.Idx, (y 0).val < k → (atK V k c (Proc.devRef .tc main_v40_5) : FVec F S127x16x512 .f32) y
          = st V c ((y 0).val + 1) (ix2 ⟨(y 1).val, (y 1).isLt⟩ ⟨(y 2).val, (y 2).isLt⟩)
  | 0, _ => ⟨rfl, fun y hy => absurd hy (Nat.not_lt_zero _)⟩
  | k + 1, hk => by
    obtain ⟨ih1, ih2⟩ := inv c k (by omega)
    have hc0 := atK_ctr V hV c k
    have e0 : after condOps (atK V k c) (Proc.devRef .tc main_v40_0) = V c (Proc.devRef .tc main_v40_0) := (keep_cond (by decide +kernel) _).trans (kept V (by decide +kernel) c k)
    have e1 : after condOps (atK V k c) (Proc.devRef .tc main_v40_1) = V c (Proc.devRef .tc main_v40_1) := (keep_cond (by decide +kernel) _).trans (kept V (by decide +kernel) c k)
    have e2 : after condOps (atK V k c) (Proc.devRef .tc main_v40_2) = V c (Proc.devRef .tc main_v40_2) := (keep_cond (by decide +kernel) _).trans (kept V (by decide +kernel) c k)
    have e3 : after condOps (atK V k c) (Proc.devRef .tc main_v40_3) = fun _ => Scf.iv 0#32 1#32 k := (keep_cond (by decide +kernel) _).trans hc0
    have e4 : after condOps (atK V k c) (Proc.devRef .tc main_v40_4) = st V c k := (keep_cond (by decide +kernel) _).trans ih1
    have e5 : after condOps (atK V k c) (Proc.devRef .tc main_v40_5) = atK V k c (Proc.devRef .tc main_v40_5) := keep_cond (by decide +kernel) _
    generalize hX : after condOps (atK V k c) = X at e0 e1 e2 e3 e4 e5
    have hst : after while1Ops0_1 (after while1Ops0 X) (Proc.devRef .tc main_while1b_v82) = st V c (k + 1) := by
      rw [cell_val, row X k (by omega) e3, keep_0 (r := main_v40_4) (by decide +kernel), keep_0 (r := main_v40_1) (by decide +kernel), keep_0 (r := main_v40_2) (by decide +kernel), e0, e1, e2, e4]
      rfl
    rw [show atK V (k + 1) c = afterL bodyI (after condOps (atK V k c)) from rfl, hX]
    simp only [afterL_cons, afterL_nil]
    refine ⟨?_, fun y hy => ?_⟩
    · rw [carry_h, keep_2 (by decide +kernel), hst]
    · rw [carry_hs]
      refine (upd _ k (by omega) (by rw [keep_1 (by decide +kernel), keep_0 (by decide +kernel), e3]) y).trans ?_
      by_cases h : (y 0).val = k
      · rw [if_pos h, hst, h]
      · rw [if_neg h, keep_1 (by decide +kernel), keep_0 (by decide +kernel), e5]
        exact ih2 y (by omega)

end L1

end Cert.Proof.RI

end
-- ==== Proof.RefValues.lean ====
/-
  The reference program's two results as terms over its arguments: the latent code, and the outputs position by position.
-/
module

public import proofs.«01_k».proof.Proof.RefLoops

@[expose] public section

set_option maxRecDepth 16384

noncomputable section

namespace Cert.Proof.RI

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- The tokens the encoder looks up, a negative one counted from the end. -/
def idxE (x : IVec S16x128 32) : IVec S16x128x1 32 :=
  broadcastInDim S16x128x1 ![0, 1] bcast_S16x128_S16x128x1_0_1
    (select (cmpi .slt x (broadcastInDim S16x128 ![] bcast_S_S16x128 (constantI S_ 32 0#32)))
      (addi x (broadcastInDim S16x128 ![] bcast_S_S16x128 (constantI S_ 32 32000#32))) x)

/-- The gates of every step of the encoder. -/
def gatesE (x : IVec S16x128 32) (emb : FVec F S32000x256 .f32) (W : FVec F S1536x256 .f32) (b : FVec F S1536 .f32) : FVec F S128x16x1536 .f32 :=
  addf (Host.dotGeneral dot_S128x16x256_S1536x256_S128x16x1536_2_1_01_0_n_n none
      (transpose S128x16x256 [1, 0, 2] (Host.gather gather_S32000x256_S16x128x1_S16x128x256_2_0_n_n_0_2_1256 emb (idxE x)) transposes_S16x128x256_S128x16x256_1_0_2) W)
    (broadcastInDim S128x16x1536 ![0, 1, 2] bcast_S1x1x1536_S128x16x1536_0_1_2 (broadcastInDim S1x1x1536 ![2] bcast_S1536_S1x1x1536_2 b))

/-- The tokens the decoder looks up, a negative one counted from the end. -/
def idxD (x : IVec S16x127 32) : IVec S16x127x1 32 :=
  broadcastInDim S16x127x1 ![0, 1] bcast_S16x127_S16x127x1_0_1
    (select (cmpi .slt x (broadcastInDim S16x127 ![] bcast_S_S16x127 (constantI S_ 32 0#32)))
      (addi x (broadcastInDim S16x127 ![] bcast_S_S16x127 (constantI S_ 32 32000#32))) x)

/-- The gates of every step of the decoder. -/
def gatesD (x : IVec S16x127 32) (emb : FVec F S32000x256 .f32) (W : FVec F S1536x256 .f32) (b : FVec F S1536 .f32) : FVec F S127x16x1536 .f32 :=
  addf (Host.dotGeneral dot_S127x16x256_S1536x256_S127x16x1536_2_1_01_0_n_n none
      (transpose S127x16x256 [1, 0, 2] (Host.gather gather_S32000x256_S16x127x1_S16x127x256_2_0_n_n_0_2_1256 emb (idxD x)) transposes_S16x127x256_S127x16x256_1_0_2) W)
    (broadcastInDim S127x16x1536 ![0, 1, 2] bcast_S1x1x1536_S127x16x1536_0_1_2 (broadcastInDim S1x1x1536 ![2] bcast_S1536_S1x1x1536_2 b))

/-- The state the encoder starts from. -/
def h0 : FVec F S16x512 .f32 := broadcastInDim S16x512 ![] bcast_S_S16x512 (constant S_ .f32 0x00000000#32)

/-- The latent code of a state. -/
def code (h : FVec F S16x512 .f32) (W : FVec F S128x512 .f32) (b : FVec F S128 .f32) : FVec F S16x128 .f32 :=
  addf (Host.dotGeneral dot_S16x512_S512x128_S16x128_1_0_0_1_n_n none h (transpose S512x128 [1, 0] W transposes_S128x512_S512x128_1_0))
    (broadcastInDim S16x128 ![0, 1] bcast_S1x128_S16x128_0_1 (broadcastInDim S1x128 ![1] bcast_S128_S1x128_1 b))

/-- The state the decoder starts from. -/
def init (z : FVec F S16x128 .f32) (W : FVec F S512x128 .f32) (b : FVec F S512 .f32) : FVec F S16x512 .f32 :=
  Host.tanh (addf (Host.dotGeneral dot_S16x128_S128x512_S16x512_1_0_0_1_n_n none z (transpose S128x512 [1, 0] W transposes_S512x128_S128x512_1_0))
    (broadcastInDim S16x512 ![0, 1] bcast_S1x512_S16x512_0_1 (broadcastInDim S1x512 ![1] bcast_S512_S1x512_1 b)))

/-- The logits of every decoder state. -/
def outRows (hs : FVec F S127x16x512 .f32) (W : FVec F S32000x512 .f32) (b : FVec F S32000 .f32) : FVec F S16x127x32000 .f32 :=
  addf (transpose S16x127x32000 [2, 1, 0] (Host.dotGeneral dot_S32000x512_S127x16x512_S32000x127x16_1_2_0_01_n_n none W hs) transposes_S32000x127x16_S16x127x32000_2_1_0)
    (broadcastInDim S16x127x32000 ![0, 1, 2] bcast_S1x1x32000_S16x127x32000_0_1_2 (broadcastInDim S1x1x32000 ![2] bcast_S32000_S1x1x32000_2 b))

/-- The outputs: zeros at the first position, the logits from the second on. -/
def outs (hs : FVec F S127x16x512 .f32) (W : FVec F S32000x512 .f32) (b : FVec F S32000 .f32) : FVec F S16x128x32000 .f32 :=
  Host.scatter scatter_S16x128x32000_S1_S16x127x32000_012_n_1_0 (fun _ b => b)
    (broadcastInDim S16x128x32000 ![] bcast_S_S16x128x32000 (constant S_ .f32 0x00000000#32))
    (broadcastInDim S1 ![] bcast_S_S1 (constantI S_ 32 1#32)) (outRows hs W b)

/-! ## Reading the host operations -/

theorem pre_0 (X : Valuation τ sig (Elt F)) : after hostOps0 X (Proc.devRef .tc main_v14_0)
    = gatesE (X (Proc.devRef .tc main_arg0)) (X (Proc.devRef .tc main_arg1)) (X (Proc.devRef .tc main_arg2)) (X (Proc.devRef .tc main_arg3)) := by
  after_reads_simp
  rfl
theorem pre_1 (X : Valuation τ sig (Elt F)) : after hostOps0 X (Proc.devRef .tc main_v14_1) = X (Proc.devRef .tc main_arg4) := by
  after_reads_simp
  try rfl
theorem pre_2 (X : Valuation τ sig (Elt F)) : after hostOps0 X (Proc.devRef .tc main_v14_2) = X (Proc.devRef .tc main_arg5) := by
  after_reads_simp
  try rfl
theorem pre_4 (X : Valuation τ sig (Elt F)) : after hostOps0 X (Proc.devRef .tc main_v14_4) = (h0 : FVec F S16x512 .f32) := by
  after_reads_simp
  rfl

theorem mid_z (X : Valuation τ sig (Elt F)) : after hostOps0_1 X (Proc.devRef .tc main_v19)
    = code (X (Proc.devRef .tc main_v14_4)) (X (Proc.devRef .tc main_arg6)) (X (Proc.devRef .tc main_arg7)) := by
  after_reads_simp
  rfl
theorem mid_0 (X : Valuation τ sig (Elt F)) : after hostOps0_1 X (Proc.devRef .tc main_v40_0)
    = gatesD (extractStridedSlice S16x127 ![0, 0] (X (Proc.devRef .tc main_arg0) : IVec S16x128 32) slices_S16x128_S16x127_0_0) (X (Proc.devRef .tc main_arg10)) (X (Proc.devRef .tc main_arg11)) (X (Proc.devRef .tc main_arg12)) := by
  after_reads_simp
  rfl
theorem mid_1 (X : Valuation τ sig (Elt F)) : after hostOps0_1 X (Proc.devRef .tc main_v40_1) = X (Proc.devRef .tc main_arg13) := by
  after_reads_simp
  try rfl
theorem mid_2 (X : Valuation τ sig (Elt F)) : after hostOps0_1 X (Proc.devRef .tc main_v40_2) = X (Proc.devRef .tc main_arg14) := by
  after_reads_simp
  try rfl
theorem mid_4 (X : Valuation τ sig (Elt F)) : after hostOps0_1 X (Proc.devRef .tc main_v40_4)
    = init (code (X (Proc.devRef .tc main_v14_4)) (X (Proc.devRef .tc main_arg6)) (X (Proc.devRef .tc main_arg7))) (X (Proc.devRef .tc main_arg8)) (X (Proc.devRef .tc main_arg9)) := by
  after_reads_simp
  rfl
theorem post_out (X : Valuation τ sig (Elt F)) : after hostOps0_2 X (Proc.devRef .tc main_v48)
    = outs (X (Proc.devRef .tc main_v40_5)) (X (Proc.devRef .tc main_arg15)) (X (Proc.devRef .tc main_arg16)) := by
  after_reads_simp
  rfl

/-! ## The results -/

variable (m : (ℓ : Loc nD τ sig) → Buf (Elt F) ℓ)

/-- An argument of the program on a device. -/
abbrev arg (c : Dev nD) (r : Ref sig .tc) := m ((c : Thread nD τ).loc r)

/-- The encoder's state after `n` steps. -/
abbrev encState (c : Dev nD) (n : ℕ) : FVec F S16x512 .f32 :=
  L0.states (gatesE (arg m c main_arg0) (arg m c main_arg1) (arg m c main_arg2) (arg m c main_arg3)) (arg m c main_arg4) (arg m c main_arg5) h0 n

/-- The latent code. -/
abbrev zOf (c : Dev nD) : FVec F S16x128 .f32 := code (encState m c 128) (arg m c main_arg6) (arg m c main_arg7)

/-- The decoder's state after `n` steps. -/
abbrev decState (c : Dev nD) (n : ℕ) : FVec F S16x512 .f32 :=
  L1.states (gatesD (extractStridedSlice S16x127 ![0, 0] (arg m c main_arg0 : IVec S16x128 32) slices_S16x128_S16x127_0_0) (arg m c main_arg10) (arg m c main_arg11) (arg m c main_arg12))
    (arg m c main_arg13) (arg m c main_arg14) (init (zOf m c) (arg m c main_arg8) (arg m c main_arg9)) n

/-- The decoder's states, step by step. -/
abbrev decStates (c : Dev nD) : FVec F S127x16x512 .f32 :=
  fun y => decState m c ((y 0).val + 1) (ix2 ⟨(y 1).val, (y 1).isLt⟩ ⟨(y 2).val, (y 2).isLt⟩)

theorem U2_arg {r : Ref sig .tc} (h : L0.Kept r ∧ r ∉ hostOps0_W) (c : Dev nD) : U2 m c (Proc.devRef .tc r) = arg m c r :=
  (U2_keep m h.1 c).trans (U1_keep m h.2 c)
theorem U4_arg {r : Ref sig .tc} (h : L1.Kept r ∧ r ∉ hostOps0_1_W ∧ L0.Kept r ∧ r ∉ hostOps0_W) (c : Dev nD) : U4 m c (Proc.devRef .tc r) = arg m c r :=
  (U4_keep m h.1 c).trans ((U3_keep m h.2.1 c).trans (U2_arg m h.2.2 c))

theorem U2_state (c : Dev nD) : U2 m c (Proc.devRef .tc main_v14_4) = encState m c 128 := by
  refine (L0.keep_cond (by decide +kernel) _).trans (((L0.inv (U1 m) (ctr0 m) c 128 le_rfl).1).trans ?_)
  show L0.states _ _ _ _ 128 = _
  rw [show U1 m c = after hostOps0 (U0 m c) from rfl, pre_0, pre_1, pre_2, pre_4]
  try rfl

theorem U3_code (c : Dev nD) : U3 m c (Proc.devRef .tc main_v19) = zOf m c := by
  refine (mid_z _).trans ?_
  rw [U2_state, U2_arg m (r := main_arg6) (by decide +kernel), U2_arg m (r := main_arg7) (by decide +kernel)]

theorem U5_code (c : Dev nD) : U5 m c (Proc.devRef .tc main_v19) = zOf m c :=
  (U5_keep m (by decide +kernel) c).trans ((U4_keep m (by decide +kernel) c).trans (U3_code m c))

theorem st_dec (c : Dev nD) (n : ℕ) : L1.st (U3 m) c n = decState m c n := by
  show L1.states _ _ _ _ n = _
  rw [show U3 m c = after hostOps0_1 (U2 m c) from rfl, mid_0, mid_1, mid_2, mid_4, U2_state,
    U2_arg m (r := main_arg0) (by decide +kernel), U2_arg m (r := main_arg6) (by decide +kernel), U2_arg m (r := main_arg7) (by decide +kernel), U2_arg m (r := main_arg8) (by decide +kernel),
    U2_arg m (r := main_arg9) (by decide +kernel), U2_arg m (r := main_arg10) (by decide +kernel), U2_arg m (r := main_arg11) (by decide +kernel), U2_arg m (r := main_arg12) (by decide +kernel),
    U2_arg m (r := main_arg13) (by decide +kernel), U2_arg m (r := main_arg14) (by decide +kernel)]

theorem U4_states (c : Dev nD) : U4 m c (Proc.devRef .tc main_v40_5) = decStates m c := by
  refine (L1.keep_cond (by decide +kernel) _).trans ?_
  funext y
  refine ((L1.inv (U3 m) (ctr1 m) c 127 le_rfl).2 y (y 0).isLt).trans ?_
  rw [st_dec]

theorem U5_outs (c : Dev nD) : U5 m c (Proc.devRef .tc main_v48) = outs (decStates m c) (arg m c main_arg15) (arg m c main_arg16) := by
  refine (post_out _).trans ?_
  rw [U4_states, U4_arg m (r := main_arg15) (by decide +kernel), U4_arg m (r := main_arg16) (by decide +kernel)]

end Cert.Proof.RI
-- ==== Proof.RefReads.lean ====
/-
  The reference's lookups and its update read at an index: a gathered row, the gates of a token, the outputs of a position.
-/
module

public import proofs.«01_k».proof.Proof.RefValues
public import Idealize.ShloMosaic.Lib.Routing.OpsSet

@[expose] public section

set_option maxRecDepth 16384

noncomputable section

namespace Cert.Proof.RI

open Cert.ReferenceIdeal Cert.ReferenceIdeal.Gen
open Idealize.ShloMosaic Idealize.ShloMosaic.TcCoe Idealize.ShloMosaic.Tactic
open Idealize.ShloMosaic.Routing (scatter_set_hit scatter_set_miss)

variable {F : FTy → Type} [FloatOps F]

theorem gatherE_at (emb : FVec F S32000x256 .f32) (i : IVec S16x128x1 32) (y : S16x128x256.Idx) :
    Host.gather gather_S32000x256_S16x128x1_S16x128x256_2_0_n_n_0_2_1256 emb i y
      = emb (ix2 ⟨min (i (ix3 ⟨(y 0).val, (y 0).isLt⟩ ⟨(y 1).val, (y 1).isLt⟩ (0 : Fin 1))).toInt.toNat 31999, by omega⟩ ⟨(y 2).val, (y 2).isLt⟩) := by
  unfold Host.gather
  congr 1
  funext a
  refine Fin.ext ?_
  show gather_S32000x256_S16x128x1_S16x128x256_2_0_n_n_0_2_1256.start y i a + gather_S32000x256_S16x128x1_S16x128x256_2_0_n_n_0_2_1256.batchCoord y a
      + gather_S32000x256_S16x128x1_S16x128x256_2_0_n_n_0_2_1256.offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32000x256_S16x128x1_S16x128x256_2_0_n_n_0_2_1256.startIndexMap from List.mem_singleton.mpr rfl)]
    have hsi : gather_S32000x256_S16x128x1_S16x128x256_2_0_n_n_0_2_1256.siIdx y ⟨List.idxOf (0 : Fin 2) gather_S32000x256_S16x128x1_S16x128x256_2_0_n_n_0_2_1256.startIndexMap,
        List.idxOf_lt_length_iff.2 (List.mem_singleton.mpr rfl)⟩ = ix3 ⟨(y 0).val, (y 0).isLt⟩ ⟨(y 1).val, (y 1).isLt⟩ (0 : Fin 1) := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ gather_S32000x256_S16x128x1_S16x128x256_2_0_n_n_0_2_1256.startIndexMap by decide)]
    unfold GatherDims.offCoord
    rw [dif_pos (show (1 : Fin 2) ∈ gather_S32000x256_S16x128x1_S16x128x256_2_0_n_n_0_2_1256.sKept by decide)]
    simp only [Nat.zero_add]
    rfl

theorem idxE_at (x : IVec S16x128 32) (y : S16x128x1.Idx) (h : (x (ix2 ⟨(y 0).val, (y 0).isLt⟩ ⟨(y 1).val, (y 1).isLt⟩)).toNat < 32000) :
    idxE x y = x (ix2 ⟨(y 0).val, (y 0).isLt⟩ ⟨(y 1).val, (y 1).isLt⟩) := by
  unfold idxE
  refine Eq.trans ?_ (select_slt_zero_of_nonneg x (addi x (broadcastInDim S16x128 ![] bcast_S_S16x128 (constantI S_ 32 32000#32))) x (ix2 ⟨(y 0).val, (y 0).isLt⟩ ⟨(y 1).val, (y 1).isLt⟩) (by
    generalize x (ix2 ⟨(y 0).val, (y 0).isLt⟩ ⟨(y 1).val, (y 1).isLt⟩) = w at h
    rw [BitVec.toInt_eq_toNat_cond]
    split <;> omega))
  pointwise
  blk_ext

theorem gatherD_at (emb : FVec F S32000x256 .f32) (i : IVec S16x127x1 32) (y : S16x127x256.Idx) :
    Host.gather gather_S32000x256_S16x127x1_S16x127x256_2_0_n_n_0_2_1256 emb i y
      = emb (ix2 ⟨min (i (ix3 ⟨(y 0).val, (y 0).isLt⟩ ⟨(y 1).val, (y 1).isLt⟩ (0 : Fin 1))).toInt.toNat 31999, by omega⟩ ⟨(y 2).val, (y 2).isLt⟩) := by
  unfold Host.gather
  congr 1
  funext a
  refine Fin.ext ?_
  show gather_S32000x256_S16x127x1_S16x127x256_2_0_n_n_0_2_1256.start y i a + gather_S32000x256_S16x127x1_S16x127x256_2_0_n_n_0_2_1256.batchCoord y a
      + gather_S32000x256_S16x127x1_S16x127x256_2_0_n_n_0_2_1256.offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32000x256_S16x127x1_S16x127x256_2_0_n_n_0_2_1256.startIndexMap from List.mem_singleton.mpr rfl)]
    have hsi : gather_S32000x256_S16x127x1_S16x127x256_2_0_n_n_0_2_1256.siIdx y ⟨List.idxOf (0 : Fin 2) gather_S32000x256_S16x127x1_S16x127x256_2_0_n_n_0_2_1256.startIndexMap,
        List.idxOf_lt_length_iff.2 (List.mem_singleton.mpr rfl)⟩ = ix3 ⟨(y 0).val, (y 0).isLt⟩ ⟨(y 1).val, (y 1).isLt⟩ (0 : Fin 1) := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ gather_S32000x256_S16x127x1_S16x127x256_2_0_n_n_0_2_1256.startIndexMap by decide)]
    unfold GatherDims.offCoord
    rw [dif_pos (show (1 : Fin 2) ∈ gather_S32000x256_S16x127x1_S16x127x256_2_0_n_n_0_2_1256.sKept by decide)]
    simp only [Nat.zero_add]
    rfl

theorem idxD_at (x : IVec S16x127 32) (y : S16x127x1.Idx) (h : (x (ix2 ⟨(y 0).val, (y 0).isLt⟩ ⟨(y 1).val, (y 1).isLt⟩)).toNat < 32000) :
    idxD x y = x (ix2 ⟨(y 0).val, (y 0).isLt⟩ ⟨(y 1).val, (y 1).isLt⟩) := by
  unfold idxD
  refine Eq.trans ?_ (select_slt_zero_of_nonneg x (addi x (broadcastInDim S16x127 ![] bcast_S_S16x127 (constantI S_ 32 32000#32))) x (ix2 ⟨(y 0).val, (y 0).isLt⟩ ⟨(y 1).val, (y 1).isLt⟩) (by
    generalize x (ix2 ⟨(y 0).val, (y 0).isLt⟩ ⟨(y 1).val, (y 1).isLt⟩) = w at h
    rw [BitVec.toInt_eq_toNat_cond]
    split <;> omega))
  pointwise
  blk_ext

/-! ## The update -/

theorem lands (i : IVec S1 32) (hi : ∀ z, (i z).toInt = 1) (k : S16x127x32000.Idx) :
    scatter_S16x128x32000_S1_S16x127x32000_012_n_1_0.resultIdx? k i = some (ix3 ⟨(k 0).val, (k 0).isLt⟩ ⟨1 + (k 1).val, by have : (k 1).val < 127 := (k 1).isLt; omega⟩ ⟨(k 2).val, (k 2).isLt⟩) := by
  have e0 : scatter_S16x128x32000_S1_S16x127x32000_012_n_1_0.start k i 0 = 0 := by unfold ScatterDims.start; rw [dif_neg (by decide)]
  have e1 : scatter_S16x128x32000_S1_S16x127x32000_012_n_1_0.start k i 1 = 1 := by unfold ScatterDims.start; rw [dif_pos (by decide)]; exact hi _
  have e2 : scatter_S16x128x32000_S1_S16x127x32000_012_n_1_0.start k i 2 = 0 := by unfold ScatterDims.start; rw [dif_neg (by decide)]
  have w0 : scatter_S16x128x32000_S1_S16x127x32000_012_n_1_0.window k 0 = (k 0).val := by unfold ScatterDims.window; rw [dif_pos (by decide)]; rfl
  have w1 : scatter_S16x128x32000_S1_S16x127x32000_012_n_1_0.window k 1 = (k 1).val := by unfold ScatterDims.window; rw [dif_pos (by decide)]; rfl
  have w2 : scatter_S16x128x32000_S1_S16x127x32000_012_n_1_0.window k 2 = (k 2).val := by unfold ScatterDims.window; rw [dif_pos (by decide)]; rfl
  have k0 : (k 0).val < 16 := (k 0).isLt
  have k1 : (k 1).val < 127 := (k 1).isLt
  have k2 : (k 2).val < 32000 := (k 2).isLt
  unfold ScatterDims.resultIdx?
  rw [dif_pos (by
    intro a
    fin_cases a
    · show 0 ≤ scatter_S16x128x32000_S1_S16x127x32000_012_n_1_0.start k i 0 + scatter_S16x128x32000_S1_S16x127x32000_012_n_1_0.window k 0 ∧ scatter_S16x128x32000_S1_S16x127x32000_012_n_1_0.start k i 0 + scatter_S16x128x32000_S1_S16x127x32000_012_n_1_0.window k 0 < ((16 : ℕ) : ℤ)
      rw [e0, w0]; omega
    · show 0 ≤ scatter_S16x128x32000_S1_S16x127x32000_012_n_1_0.start k i 1 + scatter_S16x128x32000_S1_S16x127x32000_012_n_1_0.window k 1 ∧ scatter_S16x128x32000_S1_S16x127x32000_012_n_1_0.start k i 1 + scatter_S16x128x32000_S1_S16x127x32000_012_n_1_0.window k 1 < ((128 : ℕ) : ℤ)
      rw [e1, w1]; omega
    · show 0 ≤ scatter_S16x128x32000_S1_S16x127x32000_012_n_1_0.start k i 2 + scatter_S16x128x32000_S1_S16x127x32000_012_n_1_0.window k 2 ∧ scatter_S16x128x32000_S1_S16x127x32000_012_n_1_0.start k i 2 + scatter_S16x128x32000_S1_S16x127x32000_012_n_1_0.window k 2 < ((32000 : ℕ) : ℤ)
      rw [e2, w2]; omega)]
  refine congrArg some (funext fun a => Fin.ext ?_)
  fin_cases a
  · show (scatter_S16x128x32000_S1_S16x127x32000_012_n_1_0.start k i 0 + scatter_S16x128x32000_S1_S16x127x32000_012_n_1_0.window k 0).toNat = (k 0).val
    rw [e0, w0]; omega
  · show (scatter_S16x128x32000_S1_S16x127x32000_012_n_1_0.start k i 1 + scatter_S16x128x32000_S1_S16x127x32000_012_n_1_0.window k 1).toNat = 1 + (k 1).val
    rw [e1, w1]; omega
  · show (scatter_S16x128x32000_S1_S16x127x32000_012_n_1_0.start k i 2 + scatter_S16x128x32000_S1_S16x127x32000_012_n_1_0.window k 2).toNat = (k 2).val
    rw [e2, w2]; omega

theorem one_at (z : S1.Idx) : ((broadcastInDim S1 ![] bcast_S_S1 (constantI S_ 32 1#32) : IVec S1 32) z).toInt = 1 := rfl

/-- The first position's outputs are zero. -/
theorem outs_first (hs : FVec F S127x16x512 .f32) (W : FVec F S32000x512 .f32) (b : FVec F S32000 .f32) (y : S16x128x32000.Idx) (h : (y 1).val = 0) :
    outs hs W b y = FloatOps.ofBits .f32 0x00000000#32 := by
  unfold outs
  rw [scatter_set_miss]
  · rfl
  · intro k hk
    rw [lands _ one_at] at hk
    have e := congrArg Fin.val (congrFun (Option.some.inj hk) 1)
    have e' : 1 + (k 1).val = (y 1).val := e
    omega

/-- A later position's outputs are the logits of the step before. -/
theorem outs_later (hs : FVec F S127x16x512 .f32) (W : FVec F S32000x512 .f32) (b : FVec F S32000 .f32) (y : S16x128x32000.Idx) (h : (y 1).val ≠ 0) :
    outs hs W b y = outRows hs W b (ix3 ⟨(y 0).val, (y 0).isLt⟩ ⟨(y 1).val - 1, by have : (y 1).val < 128 := (y 1).isLt; omega⟩ ⟨(y 2).val, (y 2).isLt⟩) := by
  unfold outs
  refine scatter_set_hit _ _ _ _ _ _ (fun k hk => ?_) (ix3 ⟨(y 0).val, (y 0).isLt⟩ ⟨(y 1).val - 1, by have : (y 1).val < 128 := (y 1).isLt; omega⟩ ⟨(y 2).val, (y 2).isLt⟩) ?_
  · rw [lands _ one_at] at hk
    have e0 : (k 0).val = (y 0).val := congrArg Fin.val (congrFun (Option.some.inj hk) 0)
    have e1 : 1 + (k 1).val = (y 1).val := congrArg Fin.val (congrFun (Option.some.inj hk) 1)
    have e2 : (k 2).val = (y 2).val := congrArg Fin.val (congrFun (Option.some.inj hk) 2)
    refine congrArg _ (funext fun a => Fin.ext ?_)
    fin_cases a
    · exact e0
    · show (k 1).val = (y 1).val - 1; omega
    · exact e2
  · rw [lands _ one_at]
    refine congrArg some (funext fun a => Fin.ext ?_)
    fin_cases a
    · rfl
    · show 1 + ((y 1).val - 1) = (y 1).val; omega
    · rfl

end Cert.Proof.RI
-- ==== Proof.Equation.lean ====
/-
  The idealized kernel's values are the reference's: the cell, the gates, the latent code, the logits.
-/
module

public import proofs.«01_k».proof.Proof.RefReads
public import proofs.«01_k».proof.Proof.ValuesIdeal

@[expose] public section

set_option maxRecDepth 16384

noncomputable section

namespace Cert.Proof

open Cert.KernelIdeal Cert.KernelIdeal.Gen
open Idealize.ShloMosaic Idealize.ShloMosaic.TcCoe Idealize.ShloMosaic.Tactic

/-! ## The cell -/

/-- The recurrent weight as the kernel takes it. -/
abbrev wT (W : FVec Ideal S1536x512 .f32) : FVec Ideal S512x1536 .bf16 := KI.rnd (transpose S512x1536 [1, 0] W transposes_S1536x512_S512x1536_1_0)
/-- A gate bias as the kernel takes it. -/
abbrev bT (b : FVec Ideal S1536 .f32) : FVec Ideal S1x1536 .f32 := shapeCast S1x1536 b shapeCasts_S1536_S1x1536

/-- The kernel's product and bias. -/
def kpre (h : FVec Ideal S16x512 .f32) (w : FVec Ideal S512x1536 .bf16) (b : FVec Ideal S1x1536 .f32) : FVec Ideal S16x1536 .f32 :=
  addf (matmul dot_S16x512_S512x1536_S16x1536_1_0_0_1_n_n none (truncf .bf16 h bitsLt_bf16_f32) (shapeCast S512x1536 w shapeCasts_S512x1536_S512x1536) (constant S16x1536 .f32 0x00000000#32))
    (broadcastTo S16x1536 (shapeCast S1x1536 b shapeCasts_S1x1536_S1x1536) broadcasts_S1x1536_S16x1536)

set_option maxHeartbeats 1600000 in
theorem pre_at (h : FVec Ideal S16x512 .f32) (W : FVec Ideal S1536x512 .f32) (b : FVec Ideal S1536 .f32) : kpre h (wT W) (bT b) = RI.pre h W b := by
  funext y
  pointwise [kpre, RI.pre]
  blk_ext

/-- The kernel's step from the gates and the pre-gates. -/
def kstep (g p : FVec Ideal S16x1536 .f32) (h : FVec Ideal S16x512 .f32) : FVec Ideal S16x512 .f32 :=
  addf
    (mulf (subf (broadcast S16x512 (Scalar.ofBits .f32 0x3F800000#32))
        (logistic (addf (extractStridedSlice S16x512 ![0, 512] g slices_S16x1536_o0_512_S16x512) (extractStridedSlice S16x512 ![0, 512] p slices_S16x1536_o0_512_S16x512))))
      (tanh (addf (extractStridedSlice S16x512 ![0, 1024] g slices_S16x1536_o0_1024_S16x512)
        (mulf (logistic (addf (extractStridedSlice S16x512 ![0, 0] g slices_S16x1536_o0_0_S16x512) (extractStridedSlice S16x512 ![0, 0] p slices_S16x1536_o0_0_S16x512)))
          (extractStridedSlice S16x512 ![0, 1024] p slices_S16x1536_o0_1024_S16x512)))))
    (mulf (logistic (addf (extractStridedSlice S16x512 ![0, 512] g slices_S16x1536_o0_512_S16x512) (extractStridedSlice S16x512 ![0, 512] p slices_S16x1536_o0_512_S16x512))) h)

theorem sgm_eq (x : FVec Ideal S16x512 .f32) : logistic x = RI.sgm (F := Ideal) x := by
  funext y
  pointwise [RI.sgm]
  rfl

theorem step_eq (g p : FVec Ideal S16x1536 .f32) (h : FVec Ideal S16x512 .f32) : kstep g p h = RI.step g p h := by
  unfold kstep RI.step
  rw [sgm_eq, sgm_eq]
  rfl

theorem cell_eq (g : FVec Ideal S16x1536 .f32) (h : FVec Ideal S16x512 .f32) (W : FVec Ideal S1536x512 .f32) (b : FVec Ideal S1536 .f32) :
    k1_pay2 h g (wT W) (bT b) = RI.cell g h W b := by
  show kstep g (kpre h (wT W) (bT b)) h = _
  rw [step_eq, pre_at]
  rfl

/-! ## The gates -/

/-- The input weight as the kernel takes it. -/
abbrev uT (W : FVec Ideal S1536x256 .f32) : FVec Ideal S256x1536 .bf16 := KI.rnd (transpose S256x1536 [1, 0] W transposes_S1536x256_S256x1536_1_0)

set_option maxHeartbeats 1600000 in
theorem rows_at (G : FVec Ideal S2048x256 .f32) (W : FVec Ideal S1536x256 .f32) (b : FVec Ideal S1536 .f32) (n : ℕ) (hn : n < 128) (y : S16x1536.Idx) :
    KI.rowsOf (KI.proj (KI.rnd G) (uT W) (bT b)) n y = ((∑ k : Fin 256, G (ix2 ⟨16 * n + (y 0).val, by have : (y 0).val < 16 := (y 0).isLt; omega⟩ k) * W (ix2 ⟨(y 1).val, (y 1).isLt⟩ k)) + b (ix1 ⟨(y 1).val, (y 1).isLt⟩) : EReal) := by
  have hy : (y 0).val < 16 := (y 0).isLt
  pointwise [KI.rowsOf, KI.proj, KI.chunk, k1_pay6]
  refine congrArg (fun s : EReal => s + b (ix1 (y 1))) (Finset.sum_congr rfl fun k _ => congrArg (fun s : EReal => s * W (ix2 (y 1) k)) ?_)
  unfold VecWindow.window
  refine congrArg G (funext fun a => Fin.ext ?_)
  fin_cases a
  · show 128 * ((16 * n + (y 0).val) % 2048 / 128) + 1 * ((16 * n + (y 0).val) % 2048 % 128) = 16 * n + (y 0).val
    omega
  · show 0 + 1 * k.val = k.val
    omega

/-- Token `n` of sequence `b`, in the kernel's order. -/
theorem token_at (x : IVec S16x128 32) (n : ℕ) (hn : n < 128) (b : ℕ) (hb : b < 16) (h : 16 * n + b < 2048) :
    KI.ixOf (F := Ideal) (KI.tokens (F := Ideal) x) ⟨16 * n + b, h⟩ = (x (ix2 ⟨b, hb⟩ ⟨n, hn⟩)).toNat := by
  unfold KI.ixOf
  refine congrArg BitVec.toNat ?_
  pointwise [KI.tokens]
  blk_ext

theorem row_at (x : IVec S16x128 32) (hx : ∀ i, BitVec.toNat (w := 32) (x i) < 32000) (emb : FVec Ideal S32000x256 .f32) (n : ℕ) (hn : n < 128) (b : ℕ) (hb : b < 16) (h : 16 * n + b < 2048) (k : Fin 256) :
    KI.gatherRows (F := Ideal) emb (KI.tokens (F := Ideal) x) (ix2 ⟨16 * n + b, h⟩ k) = emb (ix2 ⟨(x (ix2 ⟨b, hb⟩ ⟨n, hn⟩)).toNat, hx _⟩ k) := by
  unfold KI.gatherRows
  refine congrArg emb (funext fun a => Fin.ext ?_)
  fin_cases a
  · show KI.ixOf (F := Ideal) (KI.tokens (F := Ideal) x) ⟨16 * n + b, h⟩ % 32000 = _
    rw [token_at x n hn b hb h]
    exact Nat.mod_eq_of_lt (hx _)
  · rfl

theorem clamp {w : BitVec 32} (h : w.toNat < 32000) : min w.toInt.toNat 31999 = w.toNat := by
  have : w.toInt = w.toNat := by
    rw [BitVec.toInt_eq_toNat_cond]
    split <;> omega
  rw [this]; omega

theorem refRowE (x : IVec S16x128 32) (hx : ∀ i, BitVec.toNat (w := 32) (x i) < 32000) (emb : FVec Ideal S32000x256 .f32) (y : ReferenceIdeal.S16x128x256.Idx) :
    Host.gather ReferenceIdeal.gather_S32000x256_S16x128x1_S16x128x256_2_0_n_n_0_2_1256 emb (RI.idxE x) y
      = emb (ix2 ⟨(x (ix2 ⟨(y 0).val, (y 0).isLt⟩ ⟨(y 1).val, (y 1).isLt⟩)).toNat, hx _⟩ ⟨(y 2).val, (y 2).isLt⟩) := by
  refine (RI.gatherE_at (F := Ideal) emb (RI.idxE x) y).trans (congrArg emb (funext fun a => Fin.ext ?_))
  fin_cases a
  · show min (RI.idxE x (ix3 ⟨(y 0).val, (y 0).isLt⟩ ⟨(y 1).val, (y 1).isLt⟩ (0 : Fin 1))).toInt.toNat 31999 = _
    rw [RI.idxE_at x _ (hx _)]
    exact clamp (hx _)
  · rfl

theorem refRowD (x : IVec ReferenceIdeal.S16x127 32) (hx : ∀ i, BitVec.toNat (w := 32) (x i) < 32000) (emb : FVec Ideal S32000x256 .f32) (y : ReferenceIdeal.S16x127x256.Idx) :
    Host.gather ReferenceIdeal.gather_S32000x256_S16x127x1_S16x127x256_2_0_n_n_0_2_1256 emb (RI.idxD x) y
      = emb (ix2 ⟨(x (ix2 ⟨(y 0).val, (y 0).isLt⟩ ⟨(y 1).val, (y 1).isLt⟩)).toNat, hx _⟩ ⟨(y 2).val, (y 2).isLt⟩) := by
  refine (RI.gatherD_at (F := Ideal) emb (RI.idxD x) y).trans (congrArg emb (funext fun a => Fin.ext ?_))
  fin_cases a
  · show min (RI.idxD x (ix3 ⟨(y 0).val, (y 0).isLt⟩ ⟨(y 1).val, (y 1).isLt⟩ (0 : Fin 1))).toInt.toNat 31999 = _
    rw [RI.idxD_at x _ (hx _)]
    exact clamp (hx _)
  · rfl

set_option maxHeartbeats 1600000 in
/-- The encoder's gates of a step. -/
theorem gatesE_eq (x : IVec S16x128 32) (hx : ∀ i, BitVec.toNat (w := 32) (x i) < 32000) (emb : FVec Ideal S32000x256 .f32) (W : FVec Ideal S1536x256 .f32) (b : FVec Ideal S1536 .f32) (n : ℕ) (hn : n < 128) :
    KI.rowsOf (F := Ideal) (KI.proj (F := Ideal) (KI.rnd (F := Ideal) (KI.gatherRows (F := Ideal) emb (KI.tokens (F := Ideal) x))) (uT W) (bT b)) n = RI.L0.gateRow (RI.gatesE x emb W b) n := by
  funext y
  refine (rows_at _ W b n hn y).trans ?_
  symm
  pointwise [RI.L0.gateRow, RI.gatesE]
  refine congrArg (fun s : EReal => s + b (ix1 (y 1))) (Finset.sum_congr rfl fun k _ => congrArg (fun s : EReal => s * W (ix2 (y 1) k)) ?_)
  refine (refRowE x hx emb _).trans ((row_at x hx emb n hn (y 0).val (y 0).isLt _ k).trans ?_).symm
  refine congrArg emb (funext fun a => Fin.ext ?_)
  fin_cases a
  · refine congrArg (fun j => (x j).toNat) ?_
    funext a
    fin_cases a
    · rfl
    · exact Fin.ext (Nat.mod_eq_of_lt hn).symm
  · rfl

set_option maxHeartbeats 1600000 in
/-- The decoder's gates of a step. -/
theorem gatesD_eq (x : IVec S16x128 32) (hx : ∀ i, BitVec.toNat (w := 32) (x i) < 32000) (emb : FVec Ideal S32000x256 .f32) (W : FVec Ideal S1536x256 .f32) (b : FVec Ideal S1536 .f32) (n : ℕ) (hn : n < 127) :
    KI.rowsOf (F := Ideal) (KI.proj (F := Ideal) (KI.rnd (F := Ideal) (KI.gatherRows (F := Ideal) emb (KI.tokens (F := Ideal) x))) (uT W) (bT b)) n
      = RI.L1.gateRow (RI.gatesD (extractStridedSlice ReferenceIdeal.S16x127 ![0, 0] x ReferenceIdeal.Gen.slices_S16x128_S16x127_0_0) emb W b) n := by
  funext y
  refine (rows_at _ W b n (by omega) y).trans ?_
  symm
  pointwise [RI.L1.gateRow, RI.gatesD]
  refine congrArg (fun s : EReal => s + b (ix1 (y 1))) (Finset.sum_congr rfl fun k _ => congrArg (fun s : EReal => s * W (ix2 (y 1) k)) ?_)
  refine (refRowD _ (fun i => by rw [extractStridedSlice]; exact hx _) emb _).trans ((row_at x hx emb n (by omega) (y 0).val (y 0).isLt _ k).trans ?_).symm
  refine congrArg emb (funext fun a => Fin.ext ?_)
  fin_cases a
  · refine congrArg (fun j : S16x128.Idx => (x j).toNat) (funext fun a => Fin.ext ?_)
    fin_cases a
    · show (y 0).val = 0 + (y 0).val
      omega
    · show n = 0 + n % 127
      omega
  · rfl

/-! ## The states -/

theorem states0 (P : Vec Ideal S2048x1536 .f32) (g : FVec Ideal ReferenceIdeal.S128x16x1536 .f32) (W : FVec Ideal S1536x512 .f32) (b : FVec Ideal S1536 .f32) (h : FVec Ideal S16x512 .f32)
    (hP : ∀ n, n < 128 → KI.rowsOf (F := Ideal) P n = RI.L0.gateRow (F := Ideal) g n) : ∀ n, n ≤ 128 → KI.hidden (F := Ideal) P (wT W) (bT b) h n = RI.L0.states (F := Ideal) g W b h n
  | 0, _ => rfl
  | n + 1, hn => by
    show k1_pay2 (KI.hidden (F := Ideal) P (wT W) (bT b) h n) (KI.rowsOf (F := Ideal) P n) (wT W) (bT b) = RI.cell (F := Ideal) (RI.L0.gateRow g n) (RI.L0.states g W b h n) W b
    rw [states0 P g W b h hP n (by omega), hP n (by omega)]
    exact cell_eq _ _ W b

theorem states1 (P : Vec Ideal S2048x1536 .f32) (g : FVec Ideal ReferenceIdeal.S127x16x1536 .f32) (W : FVec Ideal S1536x512 .f32) (b : FVec Ideal S1536 .f32) (h : FVec Ideal S16x512 .f32)
    (hP : ∀ n, n < 127 → KI.rowsOf (F := Ideal) P n = RI.L1.gateRow (F := Ideal) g n) : ∀ n, n ≤ 127 → KI.hidden (F := Ideal) P (wT W) (bT b) h n = RI.L1.states (F := Ideal) g W b h n
  | 0, _ => rfl
  | n + 1, hn => by
    show k1_pay2 (KI.hidden (F := Ideal) P (wT W) (bT b) h n) (KI.rowsOf (F := Ideal) P n) (wT W) (bT b) = RI.cell (F := Ideal) (RI.L1.gateRow g n) (RI.L1.states g W b h n) W b
    rw [states1 P g W b h hP n (by omega), hP n (by omega)]
    exact cell_eq _ _ W b

theorem start_eq : (k1_pay28 : FVec Ideal S16x512 .f32) = RI.h0 (F := Ideal) := by
  funext y
  pointwise [k1_pay28, RI.h0]
  try rfl

set_option maxHeartbeats 1600000 in
theorem code_eq (h : FVec Ideal S16x512 .f32) (W : FVec Ideal S128x512 .f32) (b : FVec Ideal S128 .f32) :
    k1_pay30 h (KI.rnd (F := Ideal) (transpose S512x128 [1, 0] W transposes_S128x512_S512x128_1_0)) (shapeCast S1x128 b shapeCasts_S128_S1x128) = RI.code (F := Ideal) h W b := by
  funext y
  pointwise [k1_pay30, RI.code]
  blk_ext

set_option maxHeartbeats 1600000 in
theorem init_eq (h : FVec Ideal S16x512 .f32) (W : FVec Ideal S128x512 .f32) (b : FVec Ideal S128 .f32) (W' : FVec Ideal S512x128 .f32) (b' : FVec Ideal S512 .f32) :
    k1_pay31 h (KI.rnd (F := Ideal) (transpose S512x128 [1, 0] W transposes_S128x512_S512x128_1_0)) (shapeCast S1x128 b shapeCasts_S128_S1x128)
      (KI.rnd (F := Ideal) (transpose S128x512 [1, 0] W' transposes_S512x128_S128x512_1_0)) (shapeCast S1x512 b' shapeCasts_S512_S1x512) = RI.init (F := Ideal) (RI.code h W b) W' b' := by
  unfold k1_pay31
  rw [code_eq]
  generalize RI.code (F := Ideal) h W b = z
  funext y
  pointwise [RI.init]
  blk_ext

/-! ## The logits -/

/-- The mask of a row, as the kernel's words compute it. -/
theorem mask_at : ∀ r : Fin 1024,
    IntOp.cmpi CmpIPredicate.eq
        (Scalar.select
          (IntOp.andi
            (IntOp.xori
              (IntOp.cmpi CmpIPredicate.slt
                (IntOp.remsi ArithUnit.vector (BitVec.ofNat 32 r.val)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 r.val)
                (Scalar.select (Scalar.cmpi CmpIPredicate.eq 128#32 0#32) 1#32 128#32))
              0#32))
          (IntOp.addi
            (IntOp.remsi ArithUnit.vector (BitVec.ofNat 32 r.val)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 r.val)
            (Scalar.select (Scalar.cmpi CmpIPredicate.eq 128#32 0#32) 1#32 128#32)))
        0#32 = if r.val % 128 = 0 then 1#1 else 0#1 := by
  decide +kernel

set_option maxHeartbeats 1600000 in
theorem pay_at (a : FVec Ideal S1024x512 .bf16) (w : FVec Ideal S3200x512 .f32) (b : FVec Ideal S1x3200 .f32) (y : S1024x3200.Idx) :
    KI.logitsBlock (F := Ideal) a w b y = (if (y 0).val % 128 = 0 then (0 : EReal)
      else (∑ k : Fin 512, a (ix2 ⟨(y 0).val, (y 0).isLt⟩ k) * w (ix2 ⟨(y 1).val, (y 1).isLt⟩ k)) + b (ix2 (0 : Fin 1) ⟨(y 1).val, (y 1).isLt⟩) : EReal) := by
  have e := mask_at ⟨(y 0).val, (y 0).isLt⟩
  pointwise [KI.logitsBlock, k2_pay1]
  refine (congrArg (fun c => Scalar.select c (0 : EReal) (∑ k : Fin 512, a (ix2 (y 0) k) * w (ix2 (y 1) k) + b (ix2 0 (y 1)))) e).trans ?_
  show Scalar.select (if (y 0).val % 128 = 0 then 1#1 else 0#1) _ _ = _
  by_cases h : (y 0).val % 128 = 0
  · rw [if_pos h, if_pos h]
    rfl
  · rw [if_neg h, if_neg h]
    rfl

/-- The kernel's logits at a position of a sequence. -/
theorem logits_at (hs : Vec Ideal S128x16x512 .bf16) (W : FVec Ideal S32000x512 .f32) (b : FVec Ideal S32000 .f32) (y : S16x128x32000.Idx) :
    (shapeCast S16x128x32000 (KI.logitsAll (F := Ideal) (KI.hsRows (F := Ideal) hs) W (shapeCast S1x32000 b shapeCasts_S32000_S1x32000)) shapeCasts_S2048x32000_S16x128x32000 : FVec Ideal S16x128x32000 .f32) y
      = (if (y 1).val = 0 then (0 : EReal)
      else (∑ k : Fin 512, hs (ix3 ⟨(y 1).val, (y 1).isLt⟩ ⟨(y 0).val, (y 0).isLt⟩ k) * W (ix2 ⟨(y 2).val, (y 2).isLt⟩ k)) + b (ix1 ⟨(y 2).val, (y 2).isLt⟩) : EReal) := by
  have h0 : (y 0).val < 16 := (y 0).isLt
  have h1 : (y 1).val < 128 := (y 1).isLt
  have h2 : (y 2).val < 32000 := (y 2).isLt
  pointwise [KI.logitsAll]
  refine (pay_at _ _ _ _).trans ?_
  show (if ((y 0).val * 128 + (y 1).val) % 1024 % 128 = 0 then (0 : EReal) else _) = _
  by_cases h : (y 1).val = 0
  · rw [if_pos h, if_pos (by omega)]
  · rw [if_neg h, if_neg (by omega)]
    refine congrArg₂ (fun s t : EReal => s + t) (Finset.sum_congr rfl fun k _ => congrArg₂ (fun s t : EReal => s * t) ?_ ?_) ?_
    · pointwise [KI.tileA, KI.hsRows]
      blk_ext
    · pointwise [KI.tileW]
      blk_ext
    · pointwise [KI.tileB]
      blk_ext

theorem outRows_at (hs : FVec Ideal ReferenceIdeal.S127x16x512 .f32) (W : FVec Ideal S32000x512 .f32) (b : FVec Ideal S32000 .f32) (y : ReferenceIdeal.S16x127x32000.Idx) :
    RI.outRows hs W b y = ((∑ k : Fin 512, W (ix2 ⟨(y 2).val, (y 2).isLt⟩ k) * hs (ix3 ⟨(y 1).val, (y 1).isLt⟩ ⟨(y 0).val, (y 0).isLt⟩ k)) + b (ix1 ⟨(y 2).val, (y 2).isLt⟩) : EReal) := by
  pointwise [RI.outRows]

end Cert.Proof
-- ==== Proof.Algebraic.lean ====
/-
  The idealized kernel and the reference leave the same two results.
-/
module

public import proofs.«01_k».proof.Proof.Equation
public import proofs.«01_k».proof.Proof.Tokens

@[expose] public section

set_option maxRecDepth 16384

noncomputable section

namespace Cert.Proof

open Cert.KernelIdeal Cert.KernelIdeal.Gen
open Idealize.ShloMosaic Idealize.ShloMosaic.TcCoe Idealize.ShloMosaic.Tactic Idealize.SL.Sem

section Pure

variable (a0 : IVec S16x128 32)
  (a1 : FVec Ideal S32000x256 .f32)
  (a2 : FVec Ideal S1536x256 .f32)
  (a3 : FVec Ideal S1536 .f32)
  (a4 : FVec Ideal S1536x512 .f32)
  (a5 : FVec Ideal S1536 .f32)
  (a6 : FVec Ideal S128x512 .f32)
  (a7 : FVec Ideal S128 .f32)
  (a8 : FVec Ideal S512x128 .f32)
  (a9 : FVec Ideal S512 .f32)
  (a10 : FVec Ideal S32000x256 .f32)
  (a11 : FVec Ideal S1536x256 .f32)
  (a12 : FVec Ideal S1536 .f32)
  (a13 : FVec Ideal S1536x512 .f32)
  (a14 : FVec Ideal S1536 .f32)
  (a15 : FVec Ideal S32000x512 .f32)
  (a16 : FVec Ideal S32000 .f32)

/-- The recurrent pass's operands from the arguments. -/
def operands : KI.Operands Ideal :=
  ⟨KI.rnd (F := Ideal) (KI.gatherRows (F := Ideal) a1 (KI.tokens (F := Ideal) a0)), KI.rnd (F := Ideal) (KI.gatherRows (F := Ideal) a10 (KI.tokens (F := Ideal) a0)),
   uT a2, bT a3, wT a4, bT a5,
   KI.rnd (F := Ideal) (transpose S512x128 [1, 0] a6 transposes_S128x512_S512x128_1_0), shapeCast S1x128 a7 shapeCasts_S128_S1x128,
   KI.rnd (F := Ideal) (transpose S128x512 [1, 0] a8 transposes_S512x128_S128x512_1_0), shapeCast S1x512 a9 shapeCasts_S512_S1x512,
   uT a11, bT a12, wT a13, bT a14⟩

/-- The reference's encoder. -/
def refEnc (n : ℕ) : FVec Ideal S16x512 .f32 := RI.L0.states (F := Ideal) (RI.gatesE a0 a1 a2 a3) a4 a5 RI.h0 n
/-- The reference's latent code. -/
def refZ : FVec Ideal S16x128 .f32 := RI.code (F := Ideal) (refEnc a0 a1 a2 a3 a4 a5 128) a6 a7
/-- The reference's decoder. -/
def refDec (n : ℕ) : FVec Ideal S16x512 .f32 :=
  RI.L1.states (F := Ideal) (RI.gatesD (extractStridedSlice ReferenceIdeal.S16x127 ![0, 0] a0 ReferenceIdeal.Gen.slices_S16x128_S16x127_0_0) a10 a11 a12) a13 a14
    (RI.init (F := Ideal) (refZ a0 a1 a2 a3 a4 a5 a6 a7) a8 a9) n
/-- The reference's outputs. -/
def refOut : FVec Ideal S16x128x32000 .f32 :=
  RI.outs (F := Ideal) (fun y => refDec a0 a1 a2 a3 a4 a5 a6 a7 a8 a9 a10 a11 a12 a13 a14 ((y 0).val + 1) (ix2 ⟨(y 1).val, (y 1).isLt⟩ ⟨(y 2).val, (y 2).isLt⟩)) a15 a16

variable (hx : ∀ i, BitVec.toNat (w := 32) (a0 i) < 32000)
include hx

theorem enc_eq : KI.encLast (operands a0 a1 a2 a3 a4 a5 a6 a7 a8 a9 a10 a11 a12 a13 a14) = refEnc a0 a1 a2 a3 a4 a5 128 := by
  show KI.hidden (F := Ideal) (KI.proj (F := Ideal) (KI.rnd (F := Ideal) (KI.gatherRows (F := Ideal) a1 (KI.tokens (F := Ideal) a0))) (uT a2) (bT a3)) (wT a4) (bT a5) k1_pay28 128 = _
  rw [start_eq]
  exact states0 _ (RI.gatesE a0 a1 a2 a3) a4 a5 _ (fun n hn => gatesE_eq a0 hx a1 a2 a3 n hn) 128 le_rfl

theorem latent_eq : KI.latent (operands a0 a1 a2 a3 a4 a5 a6 a7 a8 a9 a10 a11 a12 a13 a14) = refZ a0 a1 a2 a3 a4 a5 a6 a7 := by
  unfold KI.latent
  rw [enc_eq a0 a1 a2 a3 a4 a5 a6 a7 a8 a9 a10 a11 a12 a13 a14 hx]
  exact code_eq _ a6 a7

theorem decInit_eq : KI.decInit (operands a0 a1 a2 a3 a4 a5 a6 a7 a8 a9 a10 a11 a12 a13 a14) = RI.init (F := Ideal) (refZ a0 a1 a2 a3 a4 a5 a6 a7) a8 a9 := by
  unfold KI.decInit
  rw [enc_eq a0 a1 a2 a3 a4 a5 a6 a7 a8 a9 a10 a11 a12 a13 a14 hx]
  exact init_eq _ a6 a7 a8 a9

theorem dec_eq (n : ℕ) (hn : n ≤ 127) : KI.decHidden (operands a0 a1 a2 a3 a4 a5 a6 a7 a8 a9 a10 a11 a12 a13 a14) n = refDec a0 a1 a2 a3 a4 a5 a6 a7 a8 a9 a10 a11 a12 a13 a14 n := by
  unfold KI.decHidden
  rw [decInit_eq a0 a1 a2 a3 a4 a5 a6 a7 a8 a9 a10 a11 a12 a13 a14 hx]
  show KI.hidden (F := Ideal) (KI.proj (F := Ideal) (KI.rnd (F := Ideal) (KI.gatherRows (F := Ideal) a10 (KI.tokens (F := Ideal) a0))) (uT a11) (bT a12)) (wT a13) (bT a14) _ n = _
  have hD := fun (n : ℕ) (hn : n < 127) => gatesD_eq a0 hx a10 a11 a12 n hn
  unfold refDec
  generalize RI.init (F := Ideal) (refZ a0 a1 a2 a3 a4 a5 a6 a7) a8 a9 = h0
  generalize KI.proj (F := Ideal) (KI.rnd (F := Ideal) (KI.gatherRows (F := Ideal) a10 (KI.tokens (F := Ideal) a0))) (uT a11) (bT a12) = P at hD ⊢
  generalize RI.gatesD (F := Ideal) (extractStridedSlice ReferenceIdeal.S16x127 ![0, 0] a0 ReferenceIdeal.Gen.slices_S16x128_S16x127_0_0) a10 a11 a12 = G at hD ⊢
  exact states1 P G a13 a14 h0 hD n hn

theorem slab_at (n : ℕ) (h0 : n ≠ 0) (hn : n ≤ 127) (z : S1x16x512.Idx) :
    KI.slabAt (F := Ideal) (operands a0 a1 a2 a3 a4 a5 a6 a7 a8 a9 a10 a11 a12 a13 a14) n z = refDec a0 a1 a2 a3 a4 a5 a6 a7 a8 a9 a10 a11 a12 a13 a14 n (ix2 ⟨(z 1).val, (z 1).isLt⟩ ⟨(z 2).val, (z 2).isLt⟩) := by
  unfold KI.slabAt
  rw [if_neg h0, dec_eq a0 a1 a2 a3 a4 a5 a6 a7 a8 a9 a10 a11 a12 a13 a14 hx n hn]
  generalize refDec a0 a1 a2 a3 a4 a5 a6 a7 a8 a9 a10 a11 a12 a13 a14 n = h
  have hz : (z 0).val < 1 := (z 0).isLt
  pointwise [KI.slab]
  blk_ext

theorem outputs_eq : (shapeCast S16x128x32000 (KI.logitsAll (F := Ideal) (KI.hsRows (F := Ideal) (KI.slabs (operands a0 a1 a2 a3 a4 a5 a6 a7 a8 a9 a10 a11 a12 a13 a14))) a15 (shapeCast S1x32000 a16 shapeCasts_S32000_S1x32000)) shapeCasts_S2048x32000_S16x128x32000 : FVec Ideal S16x128x32000 .f32)
    = refOut a0 a1 a2 a3 a4 a5 a6 a7 a8 a9 a10 a11 a12 a13 a14 a15 a16 := by
  funext y
  refine (logits_at _ a15 a16 y).trans ?_
  have h1 : (y 1).val < 128 := (y 1).isLt
  by_cases h : (y 1).val = 0
  · rw [if_pos h]
    refine Eq.trans ?_ (RI.outs_first (F := Ideal) _ a15 a16 y h).symm
    exact (Ideal.ofBits_zero .f32).symm
  · rw [if_neg h]
    refine Eq.trans ?_ ((RI.outs_later (F := Ideal) _ a15 a16 y h).trans (outRows_at _ a15 a16 _)).symm
    refine congrArg (fun s : EReal => s + a16 (ix1 ⟨(y 2).val, (y 2).isLt⟩)) (Finset.sum_congr rfl fun k _ => ?_)
    refine (mul_comm (G := EReal) _ _).trans (congrArg (fun s : EReal => a15 (ix2 ⟨(y 2).val, (y 2).isLt⟩ k) * s) ?_)
    refine (slab_at a0 a1 a2 a3 a4 a5 a6 a7 a8 a9 a10 a11 a12 a13 a14 hx (y 1).val h (by omega) _).trans ?_
    show _ = refDec a0 a1 a2 a3 a4 a5 a6 a7 a8 a9 a10 a11 a12 a13 a14 ((y 1).val - 1 + 1) _
    rw [Nat.sub_add_cancel (by omega)]
    rfl

end Pure

theorem algebraic : Cert.algebraic_KernelIdeal_ReferenceIdeal := by
  intro m g m' g' hp hargs
  have hx : ∀ c : Dev nD, ∀ i, BitVec.toNat (w := 32) (m ((c : Thread nD τ).loc main_arg0) i) < 32000 := fun c i => tokens_lt (F := Ideal) _ _ _ _ _ _ _ _ _ _ _ _ _ _ _ _ _ (hp c) i
  refine ⟨fun c => refOut (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8)) (m ((c : Thread KernelIdeal.nD KernelIdeal.τ).loc KernelIdeal.main_arg9)) (m ((c : Thread KernelIdeal.nD KernelIdeal.τ).loc KernelIdeal.main_arg10)) (m ((c : Thread KernelIdeal.nD KernelIdeal.τ).loc KernelIdeal.main_arg11)) (m ((c : Thread KernelIdeal.nD KernelIdeal.τ).loc KernelIdeal.main_arg12)) (m ((c : Thread KernelIdeal.nD KernelIdeal.τ).loc KernelIdeal.main_arg13)) (m ((c : Thread KernelIdeal.nD KernelIdeal.τ).loc KernelIdeal.main_arg14)) (m ((c : Thread KernelIdeal.nD KernelIdeal.τ).loc KernelIdeal.main_arg15)) (m ((c : Thread KernelIdeal.nD KernelIdeal.τ).loc KernelIdeal.main_arg16)),
    fun c => refZ (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6)) (m ((c : Thread KernelIdeal.nD KernelIdeal.τ).loc KernelIdeal.main_arg7)), ?_, ?_⟩
  · refine (θ_run _ _ _).mono (fun _ h c => ?_) (KI.results (F := Ideal) m g hx)
    refine ⟨(h.1.1 c).1.trans ?_, (h.1.1 c).2.trans ?_, ?_, ?_, ?_, ?_, ?_, ?_, ?_, ?_, ?_, ?_, ?_, ?_, ?_, ?_, ?_, ?_, ?_⟩
    · exact outputs_eq (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8)) (m ((c : Thread KernelIdeal.nD KernelIdeal.τ).loc KernelIdeal.main_arg9)) (m ((c : Thread KernelIdeal.nD KernelIdeal.τ).loc KernelIdeal.main_arg10)) (m ((c : Thread KernelIdeal.nD KernelIdeal.τ).loc KernelIdeal.main_arg11)) (m ((c : Thread KernelIdeal.nD KernelIdeal.τ).loc KernelIdeal.main_arg12)) (m ((c : Thread KernelIdeal.nD KernelIdeal.τ).loc KernelIdeal.main_arg13)) (m ((c : Thread KernelIdeal.nD KernelIdeal.τ).loc KernelIdeal.main_arg14)) (m ((c : Thread KernelIdeal.nD KernelIdeal.τ).loc KernelIdeal.main_arg15)) (m ((c : Thread KernelIdeal.nD KernelIdeal.τ).loc KernelIdeal.main_arg16)) (hx c)
    · exact latent_eq (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8)) (m ((c : Thread KernelIdeal.nD KernelIdeal.τ).loc KernelIdeal.main_arg9)) (m ((c : Thread KernelIdeal.nD KernelIdeal.τ).loc KernelIdeal.main_arg10)) (m ((c : Thread KernelIdeal.nD KernelIdeal.τ).loc KernelIdeal.main_arg11)) (m ((c : Thread KernelIdeal.nD KernelIdeal.τ).loc KernelIdeal.main_arg12)) (m ((c : Thread KernelIdeal.nD KernelIdeal.τ).loc KernelIdeal.main_arg13)) (m ((c : Thread KernelIdeal.nD KernelIdeal.τ).loc KernelIdeal.main_arg14)) (hx c)
    all_goals exact h.1.2 c _ (by simp [KI.argRefs])
  · refine (θ_run _ _ _).mono (fun _ h c => ?_) (RI.run_read (F := Ideal) m' g')
    obtain ⟨e0, e1, e2, e3, e4, e5, e6, e7, e8, e9, e10, e11, e12, e13, e14, e15, e16⟩ := hargs c
    refine ⟨(h.1.1 c).1.trans ?_, (h.1.1 c).2.trans ?_, ?_, ?_, ?_, ?_, ?_, ?_, ?_, ?_, ?_, ?_, ?_, ?_, ?_, ?_, ?_, ?_, ?_⟩
    · refine (RI.U5_outs m' c).trans ?_
      show refOut (m' ((c : Thread ReferenceIdeal.nD ReferenceIdeal.τ).loc ReferenceIdeal.main_arg0)) (m' ((c : Thread ReferenceIdeal.nD ReferenceIdeal.τ).loc ReferenceIdeal.main_arg1)) (m' ((c : Thread ReferenceIdeal.nD ReferenceIdeal.τ).loc ReferenceIdeal.main_arg2)) (m' ((c : Thread ReferenceIdeal.nD ReferenceIdeal.τ).loc ReferenceIdeal.main_arg3)) (m' ((c : Thread ReferenceIdeal.nD ReferenceIdeal.τ).loc ReferenceIdeal.main_arg4)) (m' ((c : Thread ReferenceIdeal.nD ReferenceIdeal.τ).loc ReferenceIdeal.main_arg5)) (m' ((c : Thread ReferenceIdeal.nD ReferenceIdeal.τ).loc ReferenceIdeal.main_arg6)) (m' ((c : Thread ReferenceIdeal.nD ReferenceIdeal.τ).loc ReferenceIdeal.main_arg7)) (m' ((c : Thread ReferenceIdeal.nD ReferenceIdeal.τ).loc ReferenceIdeal.main_arg8)) (m' ((c : Thread ReferenceIdeal.nD ReferenceIdeal.τ).loc ReferenceIdeal.main_arg9)) (m' ((c : Thread ReferenceIdeal.nD ReferenceIdeal.τ).loc ReferenceIdeal.main_arg10)) (m' ((c : Thread ReferenceIdeal.nD ReferenceIdeal.τ).loc ReferenceIdeal.main_arg11)) (m' ((c : Thread ReferenceIdeal.nD ReferenceIdeal.τ).loc ReferenceIdeal.main_arg12)) (m' ((c : Thread ReferenceIdeal.nD ReferenceIdeal.τ).loc ReferenceIdeal.main_arg13)) (m' ((c : Thread ReferenceIdeal.nD ReferenceIdeal.τ).loc ReferenceIdeal.main_arg14)) (m' ((c : Thread ReferenceIdeal.nD ReferenceIdeal.τ).loc ReferenceIdeal.main_arg15)) (m' ((c : Thread ReferenceIdeal.nD ReferenceIdeal.τ).loc ReferenceIdeal.main_arg16)) = _
      rw [e0, e1, e2, e3, e4, e5, e6, e7, e8, e9, e10, e11, e12, e13, e14, e15, e16]
    · refine (RI.U5_code m' c).trans ?_
      show refZ (m' ((c : Thread ReferenceIdeal.nD ReferenceIdeal.τ).loc ReferenceIdeal.main_arg0)) (m' ((c : Thread ReferenceIdeal.nD ReferenceIdeal.τ).loc ReferenceIdeal.main_arg1)) (m' ((c : Thread ReferenceIdeal.nD ReferenceIdeal.τ).loc ReferenceIdeal.main_arg2)) (m' ((c : Thread ReferenceIdeal.nD ReferenceIdeal.τ).loc ReferenceIdeal.main_arg3)) (m' ((c : Thread ReferenceIdeal.nD ReferenceIdeal.τ).loc ReferenceIdeal.main_arg4)) (m' ((c : Thread ReferenceIdeal.nD ReferenceIdeal.τ).loc ReferenceIdeal.main_arg5)) (m' ((c : Thread ReferenceIdeal.nD ReferenceIdeal.τ).loc ReferenceIdeal.main_arg6)) (m' ((c : Thread ReferenceIdeal.nD ReferenceIdeal.τ).loc ReferenceIdeal.main_arg7)) = _
      rw [e0, e1, e2, e3, e4, e5, e6, e7]
    all_goals exact h.1.2 c _ (by simp [RI.argRefs])

end Cert.Proof
-- ==== Proof.lean ====
/-
  The proof of the claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tokens_in_range
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_tokens_in_range.Gen.facts,
    frame_kernel, frame_ideal, frame_reference, trivial, algebraic⟩

end Cert.Proof

end
